-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 768]⟩ ⟨3, ![8, 256, 768]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 768]⟩ ⟨2, ![1024, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨3, ![2, 256, 768]⟩ ⟨3, ![8, 256, 768]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x768 : Shape := ⟨3, ![2, 256, 768]⟩
abbrev S768x256 : Shape := ⟨2, ![768, 256]⟩
abbrev S256x768 : Shape := ⟨2, ![256, 768]⟩
abbrev S_ : Shape := ⟨0, ![]⟩

class Facts : Prop where
  bcast_S_S2x256x768 : S_.BroadcastsInDim S2x256x768 (![] : Fin 0 → Fin S2x256x768.rank)
  bcast_S_S768x256 : S_.BroadcastsInDim S768x256 (![] : Fin 0 → Fin S768x256.rank)

variable [Facts]

def fn {F : FTy → Type} [FloatOps F] (main_arg0 : FVec F S2x256x768 .f32) (main_arg1 : FVec F S768x256 .f32) (main_arg2 : FVec F S768x256 .f32) (main_arg3 : FVec F S768x256 .f32) (main_arg4 : FVec F S256x768 .f32) : IVec S2x256x768 1 × IVec S768x256 1 × IVec S768x256 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_v3 : FVec F S768x256 .f32 := Host.absf main_arg1
  let main_cst_0 : FVec F S_ .f32 := constant S_ .f32 0x7F800000#32
  let main_v4 : FVec F S768x256 .f32 := broadcastInDim S768x256 ![] bcast_S_S768x256 main_cst_0
  let main_v5 : IVec S768x256 1 := cmpf .olt main_v3 main_v4
  let main_v6 : FVec F S768x256 .f32 := Host.absf main_arg2
  let main_cst_1 : FVec F S_ .f32 := constant S_ .f32 0x7F800000#32
  let main_v7 : FVec F S768x256 .f32 := broadcastInDim S768x256 ![] bcast_S_S768x256 main_cst_1
  let main_v8 : IVec S768x256 1 := cmpf .olt main_v6 main_v7
  (main_v2, main_v5, main_v8)
-- ==== Pre_finite_ReferenceIdeal.lean ====
abbrev S8x256x768 : Shape := ⟨3, ![8, 256, 768]⟩
abbrev S768x1024 : Shape := ⟨2, ![768, 1024]⟩
abbrev S1024x768 : Shape := ⟨2, ![1024, 768]⟩
abbrev S_ : Shape := ⟨0, ![]⟩

class Facts : Prop where
  bcast_S_S8x256x768 : S_.BroadcastsInDim S8x256x768 (![] : Fin 0 → Fin S8x256x768.rank)
  bcast_S_S768x1024 : S_.BroadcastsInDim S768x1024 (![] : Fin 0 → Fin S768x1024.rank)

variable [Facts]

def fn {F : FTy → Type} [FloatOps F] (main_arg0 : FVec F S8x256x768 .f32) (main_arg1 : FVec F S768x1024 .f32) (main_arg2 : FVec F S768x1024 .f32) (main_arg3 : FVec F S768x1024 .f32) (main_arg4 : FVec F S1024x768 .f32) : IVec S8x256x768 1 × IVec S768x1024 1 × IVec S768x1024 1 :=
  let main_v0 : FVec F S8x256x768 .f32 := Host.absf main_arg0
  let main_cst : FVec F S_ .f32 := constant S_ .f32 0x7F800000#32
  let main_v1 : FVec F S8x256x768 .f32 := broadcastInDim S8x256x768 ![] bcast_S_S8x256x768 main_cst
  let main_v2 : IVec S8x256x768 1 := cmpf .olt main_v0 main_v1
  let main_v3 : FVec F S768x1024 .f32 := Host.absf main_arg1
  let main_cst_0 : FVec F S_ .f32 := constant S_ .f32 0x7F800000#32
  let main_v4 : FVec F S768x1024 .f32 := broadcastInDim S768x1024 ![] bcast_S_S768x1024 main_cst_0
  let main_v5 : IVec S768x1024 1 := cmpf .olt main_v3 main_v4
  let main_v6 : FVec F S768x1024 .f32 := Host.absf main_arg2
  let main_cst_1 : FVec F S_ .f32 := constant S_ .f32 0x7F800000#32
  let main_v7 : FVec F S768x1024 .f32 := broadcastInDim S768x1024 ![] bcast_S_S768x1024 main_cst_1
  let main_v8 : IVec S768x1024 1 := cmpf .olt main_v6 main_v7
  (main_v2, main_v5, main_v8)
-- ==== Kernel.lean ====
abbrev S2x256x768 : Shape := ⟨3, ![2, 256, 768]⟩
abbrev S768x256 : Shape := ⟨2, ![768, 256]⟩
abbrev S256x768 : Shape := ⟨2, ![256, 768]⟩
abbrev S256x64 : Shape := ⟨2, ![256, 64]⟩
abbrev S256x256 : Shape := ⟨2, ![256, 256]⟩
abbrev S3072x256 : Shape := ⟨2, ![3072, 256]⟩
abbrev S1x256x1x64 : Shape := ⟨4, ![1, 256, 1, 64]⟩
abbrev S1x256x4x64 : Shape := ⟨4, ![1, 256, 4, 64]⟩
abbrev S1x256x1x256 : Shape := ⟨4, ![1, 256, 1, 256]⟩
abbrev S2x256x1x256 : Shape := ⟨4, ![2, 256, 1, 256]⟩
abbrev S512x256 : Shape := ⟨2, ![512, 256]⟩
abbrev S3x3072x128 : Shape := ⟨3, ![3, 3072, 128]⟩
abbrev S3x2 : Shape := ⟨2, ![3, 2]⟩
abbrev S_ : Shape := ⟨0, ![]⟩
abbrev S1x1 : Shape := ⟨2, ![1, 1]⟩
abbrev S1x1536x128 : Shape := ⟨3, ![1, 1536, 128]⟩
abbrev S1536x128 : Shape := ⟨2, ![1536, 128]⟩
abbrev S512x768 : Shape := ⟨2, ![512, 768]⟩
abbrev S256 : Shape := ⟨1, ![256]⟩
abbrev S256x1 : Shape := ⟨2, ![256, 1]⟩
abbrev S1x3072x128 : Shape := ⟨3, ![1, 3072, 128]⟩
abbrev S3072x128 : Shape := ⟨2, ![3072, 128]⟩
abbrev S512x128 : Shape := ⟨2, ![512, 128]⟩
abbrev S128x128 : Shape := ⟨2, ![128, 128]⟩
abbrev S768x128 : Shape := ⟨2, ![768, 128]⟩

abbrev nBuf : Space → Nat
  | .hbm => 25
  | .vmem => 9
  | .smem => 0
  | _ => 0

abbrev bufTy : (tb : Table) → Fin (tcTables nBuf tb) → BufTy
  | .hbm, ⟨0, _⟩ => ⟨S2x256x768, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S256x64, .f32⟩
  | .hbm, ⟨6, _⟩ => ⟨S256x64, .f32⟩
  | .hbm, ⟨7, _⟩ => ⟨S256x256, .f32⟩
  | .hbm, ⟨8, _⟩ => ⟨S768x256, .f32⟩
  | .hbm, ⟨9, _⟩ => ⟨S3072x256, .f32⟩
  | .hbm, ⟨10, _⟩ => ⟨S3072x256, .bf16⟩
  | .hbm, ⟨11, _⟩ => ⟨S1x256x1x64, .f32⟩
  | .hbm, ⟨12, _⟩ => ⟨S1x256x4x64, .f32⟩
  | .hbm, ⟨13, _⟩ => ⟨S256x256, .f32⟩
  | .hbm, ⟨14, _⟩ => ⟨S1x256x1x256, .f32⟩
  | .hbm, ⟨15, _⟩ => ⟨S2x256x1x256, .f32⟩
  | .hbm, ⟨16, _⟩ => ⟨S512x256, .f32⟩
  | .hbm, ⟨17, _⟩ => ⟨S1x256x1x64, .f32⟩
  | .hbm, ⟨18, _⟩ => ⟨S1x256x4x64, .f32⟩
  | .hbm, ⟨19, _⟩ => ⟨S256x256, .f32⟩
  | .hbm, ⟨20, _⟩ => ⟨S1x256x1x256, .f32⟩
  | .hbm, ⟨21, _⟩ => ⟨S2x256x1x256, .f32⟩
  | .hbm, ⟨22, _⟩ => ⟨S512x256, .f32⟩
  | .hbm, ⟨23, _⟩ => ⟨S256x256, .bf16⟩
  | .hbm, ⟨24, _⟩ => ⟨S2x256x768, .f32⟩
  | .local _ .vmem, ⟨0, _⟩ => ⟨S2x256x768, .f32⟩
  | .local _ .vmem, ⟨1, _⟩ => ⟨S3072x256, .bf16⟩
  | .local _ .vmem, ⟨2, _⟩ => ⟨S512x256, .f32⟩
  | .local _ .vmem, ⟨3, _⟩ => ⟨S512x256, .f32⟩
  | .local _ .vmem, ⟨4, _⟩ => ⟨S256x256, .bf16⟩
  | .local _ .vmem, ⟨5, _⟩ => ⟨S2x256x768, .f32⟩
  | .local _ .vmem, ⟨6, _⟩ => ⟨S3x3072x128, .bf16⟩
  | .local _ .vmem, ⟨7, _⟩ => ⟨S3x3072x128, .bf16⟩
  | .local _ .vmem, ⟨8, _⟩ => ⟨S512x256, .bf16⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_15 : BitVec 32 := 1#32
  let v13 : BitVec 32 := Scalar.muli v7 c1_i32_15
  let v14 : BitVec 32 := Scalar.addi c0_i32_16 v13
  v14.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_26 : BitVec 32 := 1#32
  let v22 : BitVec 32 := Scalar.muli v5 c1_i32_26
  let v23 : BitVec 32 := Scalar.addi c0_i32_27 v22
  v23.toNat
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_36 : BitVec 32 := 1#32
  let v31 : BitVec 32 := Scalar.muli v7 c1_i32_36
  let v32 : BitVec 32 := Scalar.addi c0_i32_37 v31
  v32.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_46 : BitVec 32 := 1#32
  let v40 : BitVec 32 := Scalar.muli v5 c1_i32_46
  let v41 : BitVec 32 := Scalar.addi c0_i32_47 v40
  v41.toNat
def k0_dev7 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_130 : BitVec 32 := 1#32
  let v224 : BitVec 32 := Scalar.muli v7 c1_i32_130
  let v225 : BitVec 32 := Scalar.addi c0_i32_131 v224
  v225.toNat
def k0_dev8 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_153 : BitVec 32 := 1#32
  let v241 : BitVec 32 := Scalar.muli v5 c1_i32_153
  let v242 : BitVec 32 := Scalar.addi c0_i32_154 v241
  v242.toNat
def k0_dev9 (d0 : Dev nD) : Nat :=
  let c0_i32_177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_176 : BitVec 32 := 1#32
  let v258 : BitVec 32 := Scalar.muli v7 c1_i32_176
  let v259 : BitVec 32 := Scalar.addi c0_i32_177 v258
  v259.toNat
def k0_dev10 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_199 : BitVec 32 := 1#32
  let v275 : BitVec 32 := Scalar.muli v5 c1_i32_199
  let v276 : BitVec 32 := Scalar.addi c0_i32_200 v275
  v276.toNat
def k0_dev11 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_258 : BitVec 32 := 1#32
  let v389 : BitVec 32 := Scalar.muli v7 c1_i32_258
  let v390 : BitVec 32 := Scalar.addi c0_i32_259 v389
  v390.toNat
def k0_dev12 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_282 : BitVec 32 := 1#32
  let v407 : BitVec 32 := Scalar.muli v7 c1_i32_282
  let v408 : BitVec 32 := Scalar.addi c0_i32_283 v407
  v408.toNat
def k0_dev13 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_341 : BitVec 32 := 1#32
  let v521 : BitVec 32 := Scalar.muli v5 c1_i32_341
  let v522 : BitVec 32 := Scalar.addi c0_i32_342 v521
  v522.toNat
def k0_dev14 (d0 : Dev nD) : Nat :=
  let c0_i32_366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_365 : BitVec 32 := 1#32
  let v539 : BitVec 32 := Scalar.muli v5 c1_i32_365
  let v540 : BitVec 32 := Scalar.addi c0_i32_366 v539
  v540.toNat
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x256x768 : Shape := ⟨3, ![8, 256, 768]⟩
abbrev S768x1024 : Shape := ⟨2, ![768, 1024]⟩
abbrev S1024x768 : Shape := ⟨2, ![1024, 768]⟩
abbrev S256x64 : Shape := ⟨2, ![256, 64]⟩
abbrev S8x256x1024 : Shape := ⟨3, ![8, 256, 1024]⟩
abbrev S8x256x16x64 : Shape := ⟨4, ![8, 256, 16, 64]⟩
abbrev S8x256x16x32x2 : Shape := ⟨5, ![8, 256, 16, 32, 2]⟩
abbrev S8x256x16x32x1 : Shape := ⟨5, ![8, 256, 16, 32, 1]⟩
abbrev S8x256x16x32 : Shape := ⟨4, ![8, 256, 16, 32]⟩
abbrev S1x256x1x64 : Shape := ⟨4, ![1, 256, 1, 64]⟩
abbrev S8x16x256x256 : Shape := ⟨4, ![8, 16, 256, 256]⟩
abbrev S_ : Shape := ⟨0, ![]⟩
abbrev S8x16x256 : Shape := ⟨3, ![8, 16, 256]⟩
abbrev S8x16x256x1 : Shape := ⟨4, ![8, 16, 256, 1]⟩
abbrev S8x16x64x256 : Shape := ⟨4, ![8, 16, 64, 256]⟩

abbrev nBuf : Space → Nat
  | .hbm => 66
  | .vmem => 0
  | .smem => 0
  | _ => 0

abbrev bufTy : (tb : Table) → Fin (tcTables nBuf tb) → BufTy
  | .hbm, ⟨0, _⟩ => ⟨S8x256x768, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S1024x768, .f32⟩
  | .hbm, ⟨5, _⟩ => ⟨S256x64, .f32⟩
  | .hbm, ⟨6, _⟩ => ⟨S256x64, .f32⟩
  | .hbm, ⟨7, _⟩ => ⟨S8x256x1024, .f32⟩
  | .hbm, ⟨8, _⟩ => ⟨S8x256x16x64, .f32⟩
  | .hbm, ⟨9, _⟩ => ⟨S8x256x16x32x2, .f32⟩
  | .hbm, ⟨10, _⟩ => ⟨S8x256x16x32x1, .f32⟩
  | .hbm, ⟨11, _⟩ => ⟨S8x256x16x32, .f32⟩
  | .hbm, ⟨12, _⟩ => ⟨S8x256x16x32, .f32⟩
  | .hbm, ⟨13, _⟩ => ⟨S8x256x16x32x1, .f32⟩
  | .hbm, ⟨14, _⟩ => ⟨S8x256x16x32, .f32⟩
  | .hbm, ⟨15, _⟩ => ⟨S8x256x16x32x1, .f32⟩
  | .hbm, ⟨16, _⟩ => ⟨S8x256x16x32x1, .f32⟩
  | .hbm, ⟨17, _⟩ => ⟨S8x256x16x32x2, .f32⟩
  | .hbm, ⟨18, _⟩ => ⟨S8x256x16x64, .f32⟩
  | .hbm, ⟨19, _⟩ => ⟨S1x256x1x64, .f32⟩
  | .hbm, ⟨20, _⟩ => ⟨S8x256x16x64, .f32⟩
  | .hbm, ⟨21, _⟩ => ⟨S8x256x16x64, .f32⟩
  | .hbm, ⟨22, _⟩ => ⟨S1x256x1x64, .f32⟩
  | .hbm, ⟨23, _⟩ => ⟨S8x256x16x64, .f32⟩
  | .hbm, ⟨24, _⟩ => ⟨S8x256x16x64, .f32⟩
  | .hbm, ⟨25, _⟩ => ⟨S8x256x16x64, .f32⟩
  | .hbm, ⟨26, _⟩ => ⟨S8x256x1024, .f32⟩
  | .hbm, ⟨27, _⟩ => ⟨S8x256x16x64, .f32⟩
  | .hbm, ⟨28, _⟩ => ⟨S8x256x16x32x2, .f32⟩
  | .hbm, ⟨29, _⟩ => ⟨S8x256x16x32x1, .f32⟩
  | .hbm, ⟨30, _⟩ => ⟨S8x256x16x32, .f32⟩
  | .hbm, ⟨31, _⟩ => ⟨S8x256x16x32, .f32⟩
  | .hbm, ⟨32, _⟩ => ⟨S8x256x16x32x1, .f32⟩
  | .hbm, ⟨33, _⟩ => ⟨S8x256x16x32, .f32⟩
  | .hbm, ⟨34, _⟩ => ⟨S8x256x16x32x1, .f32⟩
  | .hbm, ⟨35, _⟩ => ⟨S8x256x16x32x1, .f32⟩
  | .hbm, ⟨36, _⟩ => ⟨S8x256x16x32x2, .f32⟩
  | .hbm, ⟨37, _⟩ => ⟨S8x256x16x64, .f32⟩
  | .hbm, ⟨38, _⟩ => ⟨S1x256x1x64, .f32⟩
  | .hbm, ⟨39, _⟩ => ⟨S8x256x16x64, .f32⟩
  | .hbm, ⟨40, _⟩ => ⟨S8x256x16x64, .f32⟩
  | .hbm, ⟨41, _⟩ => ⟨S1x256x1x64, .f32⟩
  | .hbm, ⟨42, _⟩ => ⟨S8x256x16x64, .f32⟩
  | .hbm, ⟨43, _⟩ => ⟨S8x256x16x64, .f32⟩
  | .hbm, ⟨44, _⟩ => ⟨S8x256x16x64, .f32⟩
  | .hbm, ⟨45, _⟩ => ⟨S8x256x1024, .f32⟩
  | .hbm, ⟨46, _⟩ => ⟨S8x256x16x64, .f32⟩
  | .hbm, ⟨47, _⟩ => ⟨S8x16x256x256, .f32⟩
  | .hbm, ⟨48, _⟩ => ⟨S_, .f32⟩
  | .hbm, ⟨49, _⟩ => ⟨S8x16x256x256, .f32⟩
  | .hbm, ⟨50, _⟩ => ⟨S8x16x256x256, .f32⟩
  | .hbm, ⟨51, _⟩ => ⟨S_, .f32⟩
  | .hbm, ⟨52, _⟩ => ⟨S8x16x256, .f32⟩
  | .hbm, ⟨53, _⟩ => ⟨S8x16x256x1, .f32⟩
  | .hbm, ⟨54, _⟩ => ⟨S8x16x256x256, .f32⟩
  | .hbm, ⟨55, _⟩ => ⟨S8x16x256x256, .f32⟩
  | .hbm, ⟨56, _⟩ => ⟨S8x16x256x256, .f32⟩
  | .hbm, ⟨57, _⟩ => ⟨S_, .f32⟩
  | .hbm, ⟨58, _⟩ => ⟨S8x16x256, .f32⟩
  | .hbm, ⟨59, _⟩ => ⟨S8x16x256x1, .f32⟩
  | .hbm, ⟨60, _⟩ => ⟨S8x16x256x256, .f32⟩
  | .hbm, ⟨61, _⟩ => ⟨S8x16x256x256, .f32⟩
  | .hbm, ⟨62, _⟩ => ⟨S8x16x64x256, .f32⟩
  | .hbm, ⟨63, _⟩ => ⟨S8x256x16x64, .f32⟩
  | .hbm, ⟨64, _⟩ => ⟨S8x256x1024, .f32⟩
  | .hbm, ⟨65, _⟩ => ⟨S8x256x768, .f32⟩
  | _, _ => ⟨S8x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_1 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== Proof.KernelIdeal.Common.lean ====
/-
# The two-way ring gather of the weights: places, contents, schedule

Four devices stand in a ring. Each holds its own 3072 × 256 block of the stacked projection weights. The left half of
the columns travels clockwise, the right half anticlockwise, in three hops of two row chunks each. This file fixes

* the ring and the two directions (`nb`),
* the places: the staged own block, the two receive buffers of three slots, a slot's two chunks (`chunkM`, `pieceM`),
* the contents: what a receive buffer holds once everything has landed (`WF`),
* the schedule of the semaphores: who pays what to whom (`rd`),
* what each device owes at launch and the order of the waits (`O₀`, `lv`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.KernelIdeal.Talk

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The next device clockwise. -/
def nxt (c : Dev nD) : Dev nD := ⟨(c.val + 1) % 4, Nat.mod_lt _ (by decide)⟩
/-- The previous device. -/
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
def ring : Dev nD ≃ Dev nD := ⟨nxt, prv, prv_nxt, nxt_prv⟩

/-- The device that direction `b` sends to: clockwise (`true`) the next one, anticlockwise (`false`) the previous one. -/
def nb (b : Bool) (c : Dev nD) : Dev nD := if b then nxt c else prv c
theorem nb_true (c : Dev nD) : nb true c = nxt c := rfl
theorem nb_false (c : Dev nD) : nb false c = prv c := rfl
theorem nb_nb (b : Bool) (c : Dev nD) : nb b (nb (!b) c) = c := by revert b c; decide
theorem nb_nb' (b : Bool) (c : Dev nD) : nb (!b) (nb b c) = c := by revert b c; decide
/-- The permutation "send in direction `b`". -/
def ringB (b : Bool) : Dev nD ≃ Dev nD := ⟨nb b, nb (!b), nb_nb' b, nb_nb b⟩

/-- The device whose block slot `u` of direction `b` of device `c` receives: `u + 1` steps against the direction. -/
def srcDev (b : Bool) : ℕ → Dev nD → Dev nD
  | 0, c => nb (!b) c
  | u + 1, c => nb (!b) (srcDev b u c)
theorem srcDev_zero (b : Bool) (c : Dev nD) : srcDev b 0 (nb b c) = c := nb_nb' b c
theorem srcDev_succ (b : Bool) (u : ℕ) (c : Dev nD) : srcDev b (u + 1) (nb b c) = srcDev b u c := by
  induction u with
  | zero => show nb (!b) (nb (!b) (nb b c)) = nb (!b) c; rw [nb_nb']
  | succ u ih => show nb (!b) (srcDev b (u + 1) (nb b c)) = nb (!b) (srcDev b u c); rw [ih]

/-! ## The places -/

/-- The receive buffer of a direction. -/
abbrev wRef : Bool → Ref sig .tc
  | true => cc0_scratch0
  | false => cc0_scratch1
abbrev wM : Bool → Memref sig .tc .vmem S3x3072x128 .bf16
  | true => Memref.whole cc0_scratch0
  | false => Memref.whole cc0_scratch1
/-- The staged own block. -/
abbrev catM : Memref sig .tc .vmem S3072x256 .bf16 := Memref.whole cc0_stg1_0

theorem inbC (u : Fin 3) (k : Fin 2) : ∀ a, (![u.val, 1536 * k.val, 0] : Fin 3 → ℕ) a + S1x1536x128.size a ≤ S3x3072x128.size a := by
  revert u k; decide
theorem inbS (u : Fin 3) : ∀ a, (![u.val, 0, 0] : Fin 3 → ℕ) a + S1x3072x128.size a ≤ S3x3072x128.size a := by
  revert u; decide
/-- The columns of direction `b` begin here. -/
def col (b : Bool) : ℕ := if b then 0 else 128
theorem inbP (b : Bool) (k : Fin 2) : ∀ a, (![1536 * k.val, col b] : Fin 2 → ℕ) a + S1536x128.size a ≤ S3072x256.size a := by
  revert b k; decide

/-- Chunk `k` of slot `u` of a receive buffer. -/
abbrev chunkM (M : Memref sig .tc .vmem S3x3072x128 .bf16) (u : Fin 3) (k : Fin 2) : Memref sig .tc .vmem S1536x128 .bf16 :=
  (M.slice (Rect.unit (s := S3x3072x128) ![u.val, 1536 * k.val, 0] S1x1536x128.size (inbC u k)) (fun _ => rfl)).squeeze S1536x128
    squeezes_S1x1536x128_S1536x128
/-- Row chunk `k` of the half of the own block that travels in direction `b`. -/
abbrev pieceM (b : Bool) (k : Fin 2) : Memref sig .tc .vmem S1536x128 .bf16 :=
  catM.slice (Rect.unit (s := S3072x256) ![1536 * k.val, col b] S1536x128.size (inbP b k)) (fun _ => rfl)

/-- The semaphore a transfer's sender waits on. -/
def sSem (b : Bool) (u : Fin 3) (k : Fin 2) : DmaSem sig :=
  ⟨(if b then 6 else 18) + (2 * u.val + k.val), by revert b u k; decide⟩
/-- The semaphore a transfer's receiver waits on. -/
def rSem (b : Bool) (u : Fin 3) (k : Fin 2) : DmaSem sig :=
  ⟨(if b then 12 else 24) + (2 * u.val + k.val), by revert b u k; decide⟩
abbrev barS : Sem sig := sig.barrier 0 rfl

abbrev barCell (c : Dev nD) : GSem nD τ sig := ((c : Thread nD τ), .reg barS)
abbrev sCell (b : Bool) (u : Fin 3) (k : Fin 2) (c : Dev nD) : GSem nD τ sig := ((c : Thread nD τ), .dma (sSem b u k))
abbrev rCell (b : Bool) (u : Fin 3) (k : Fin 2) (c : Dev nD) : GSem nD τ sig := ((c : Thread nD τ), .dma (rSem b u k))

/-- What one transfer credits. -/
abbrev N : ℕ := (chunkM (wM true) 0 0).view.dmaCredit
theorem N_pos : 0 < N := View.dmaCredit_pos _ (by decide)

/-! ## The contents -/

variable (wc : Dev nD → Vec F S3072x256 .bf16)

/-- The element of the own blocks that lands at `(u, r, l)` of direction `b` of device `c`. -/
def landAt (b : Bool) (c : Dev nD) (u : ℕ) (r : Fin 3072) (l : Fin 128) : Elt F .bf16 :=
  wc (srcDev b u c) (ix2 r (⟨col b + l.val, by have := l.isLt; unfold col; split <;> omega⟩ : Fin 256))

/-- The receive buffer of direction `b` of device `c` once everything has landed. -/
def WA (b : Bool) (c : Dev nD) : Vec F S3x3072x128 .bf16 := fun i => landAt wc b c (i 0).val (i 1) (i 2)
def WF : (b : Bool) → (c : Dev nD) → Buf (Elt F) ((wM b).view.loc (c : Thread nD τ))
  | true, c => WA wc true c
  | false, c => WA wc false c
/-- The own block, as the contents of its staging buffer. -/
abbrev catF (c : Dev nD) : Buf (Elt F) (catM.view.loc (c : Thread nD τ)) := wc c
/-- Slot `u` of direction `b` of device `c`, as a vector of the shape a load of a slot gives. -/
def slotV (b : Bool) (u : Fin 3) (c : Dev nD) : Vec F S1x3072x128 .bf16 := fun i => landAt wc b c u.val (i 1) (i 2)

abbrev cPts (b : Bool) (u : Fin 3) (k : Fin 2) (c : Dev nD) (q : PosShare TreeShare) (f : Buf (Elt F) ((wM b).view.loc (c : Thread nD τ))) : sProp 𝕄 :=
  (chunkM (wM b) u k).view.loc (c : Thread nD τ) ↦[(chunkM (wM b) u k).view.set]{q} f
abbrev pPts (b : Bool) (k : Fin 2) (c : Dev nD) (q : PosShare TreeShare) (f : Buf (Elt F) (catM.view.loc (c : Thread nD τ))) : sProp 𝕄 :=
  (pieceM b k).view.loc (c : Thread nD τ) ↦[(pieceM b k).view.set]{q} f

theorem chunk_emb (M : Memref sig .tc .vmem S3x3072x128 .bf16) (u : Fin 3) (k : Fin 2) (x : Fin 1536) (y : Fin 128) :
    (chunkM M u k).view.emb (ix2 x y) = M.view.emb (ix3 u (⟨1536 * k.val + x.val, by have := k.isLt; have := x.isLt; omega⟩ : Fin 3072) y) := by
  show M.view.emb ((Rect.unit (s := S3x3072x128) ![u.val, 1536 * k.val, 0] S1x1536x128.size (inbC u k)).emb
    (Shape.reshapeEquiv (squeezes_S1x1536x128_S1536x128).numel_eq (ix2 x y))) = _
  congr 1
  have e := reshapeEquiv_ix2_1ab (squeezes_S1x1536x128_S1536x128).numel_eq x y
  refine (congrArg _ e).trans ?_
  funext a
  refine Fin.ext ?_
  match a with
  | ⟨0, _⟩ => show u.val + 1 * 0 = u.val; omega
  | ⟨1, _⟩ => show 1536 * k.val + 1 * x.val = 1536 * k.val + x.val; omega
  | ⟨2, _⟩ => show 0 + 1 * y.val = y.val; omega

theorem piece_emb (b : Bool) (k : Fin 2) (x : Fin 1536) (y : Fin 128) :
    (pieceM b k).view.emb (ix2 x y) = (ix2 (⟨1536 * k.val + x.val, by have := k.isLt; have := x.isLt; omega⟩ : Fin 3072)
      (⟨col b + y.val, by have := y.isLt; unfold col; split <;> omega⟩ : Fin 256) : S3072x256.Idx) := by
  funext a
  refine Fin.ext ?_
  match a with
  | ⟨0, _⟩ => show 1536 * k.val + 1 * x.val = 1536 * k.val + x.val; omega
  | ⟨1, _⟩ => show col b + 1 * y.val = col b + y.val; omega

/-- A transfer of the first hop leaves the neighbour's chunk at what `WF` says. -/
theorem land0 (b : Bool) (k : Fin 2) (c : Dev nD) (fd : Buf (Elt F) ((wM b).view.loc (nb b c : Thread nD τ))) :
    ∀ i ∈ (chunkM (wM b) 0 k).view.set, (chunkM (wM b) 0 k).view.write (Elt F) fd ((pieceM b k).view.read (Elt F) (catF wc c)) Finset.univ i
      = WF wc b (nb b c) i := by
  match b with
  | true =>
    intro i hi
    obtain ⟨x, -, rfl⟩ := Finset.mem_map.mp hi
    obtain ⟨p, q, rfl⟩ : ∃ p q, x = ix2 p q := ⟨x 0, x 1, eq_ix2 x⟩
    rw [View.write_emb_of_mem _ _ (Finset.mem_univ _)]
    refine (congrArg (wc c) (piece_emb true k p q)).trans (Eq.trans ?_ (congrArg (WF wc true (nb true c)) (chunk_emb (wM true) 0 k p q)).symm)
    show _ = wc (srcDev true 0 (nb true c)) _
    rw [srcDev_zero]; rfl
  | false =>
    intro i hi
    obtain ⟨x, -, rfl⟩ := Finset.mem_map.mp hi
    obtain ⟨p, q, rfl⟩ : ∃ p q, x = ix2 p q := ⟨x 0, x 1, eq_ix2 x⟩
    rw [View.write_emb_of_mem _ _ (Finset.mem_univ _)]
    refine (congrArg (wc c) (piece_emb false k p q)).trans (Eq.trans ?_ (congrArg (WF wc false (nb false c)) (chunk_emb (wM false) 0 k p q)).symm)
    show _ = wc (srcDev false 0 (nb false c)) _
    rw [srcDev_zero]; rfl

/-- A forwarding transfer leaves the neighbour's chunk at what `WF` says. -/
theorem landS (b : Bool) (u u' : Fin 3) (hu : u'.val = u.val + 1) (k : Fin 2) (c : Dev nD) (fd : Buf (Elt F) ((wM b).view.loc (nb b c : Thread nD τ))) :
    ∀ i ∈ (chunkM (wM b) u' k).view.set,
      (chunkM (wM b) u' k).view.write (Elt F) fd ((chunkM (wM b) u k).view.read (Elt F) (WF wc b c)) Finset.univ i = WF wc b (nb b c) i := by
  match b with
  | true =>
    intro i hi
    obtain ⟨x, -, rfl⟩ := Finset.mem_map.mp hi
    obtain ⟨p, q, rfl⟩ : ∃ p q, x = ix2 p q := ⟨x 0, x 1, eq_ix2 x⟩
    rw [View.write_emb_of_mem _ _ (Finset.mem_univ _)]
    refine (congrArg (WF wc true c) (chunk_emb (wM true) u k p q)).trans (Eq.trans ?_ (congrArg (WF wc true (nb true c)) (chunk_emb (wM true) u' k p q)).symm)
    show wc (srcDev true u.val c) _ = wc (srcDev true u'.val (nb true c)) _
    rw [hu, srcDev_succ]; rfl
  | false =>
    intro i hi
    obtain ⟨x, -, rfl⟩ := Finset.mem_map.mp hi
    obtain ⟨p, q, rfl⟩ : ∃ p q, x = ix2 p q := ⟨x 0, x 1, eq_ix2 x⟩
    rw [View.write_emb_of_mem _ _ (Finset.mem_univ _)]
    refine (congrArg (WF wc false c) (chunk_emb (wM false) u k p q)).trans (Eq.trans ?_ (congrArg (WF wc false (nb false c)) (chunk_emb (wM false) u' k p q)).symm)
    show wc (srcDev false u.val c) _ = wc (srcDev false u'.val (nb false c)) _
    rw [hu, srcDev_succ]; rfl

/-! ## The schedule -/

/-- Which transfer a DMA semaphore belongs to, and on which side: `(receiver?, direction, hop, chunk)`. -/
def dec (n : ℕ) : Option (Bool × Bool × Fin 3 × Fin 2) :=
  if n < 6 then none else
    some (decide (6 ≤ (n - 6) % 12), decide (n < 18), ⟨(n - 6) % 6 / 2, by omega⟩, ⟨(n - 6) % 2, by omega⟩)
theorem dec_s (b : Bool) (u : Fin 3) (k : Fin 2) : dec (sSem b u k).val = some (false, b, u, k) := by revert b u k; decide
theorem dec_r (b : Bool) (u : Fin 3) (k : Fin 2) : dec (rSem b u k).val = some (true, b, u, k) := by revert b u k; decide

/-- The six (hop, chunk) pairs of a direction. -/
abbrev UK : Type := Fin 3 × Fin 2

/-- Paid to the barrier cell of `c` under the name `b` by the device `b`-transfers of `c` go to: that device's receive
    buffer, and that its six receive cells of the direction are open. -/
def barPay (b : Bool) (c : Dev nD) : sProp 𝕄 :=
  iprop((∃ f : Buf (Elt F) ((wM b).view.loc (nb b c : Thread nD τ)), (wM b).view.loc (nb b c : Thread nD τ) ↦{fullShare} f)
    ∗ bigSep Finset.univ fun x : UK => reached ER (rCell b x.1 x.2 (nb b c)) 0)
/-- Paid to a receive cell by the landing: the chunk, at its final contents. -/
def recvPay (b : Bool) (u : Fin 3) (k : Fin 2) (c : Dev nD) : sProp 𝕄 := cPts b u k c fullShare (WF wc b c)
/-- Paid to a send cell by the own transfer: the lent half share of the source back. -/
def sendPay (b : Bool) (u : Fin 3) (k : Fin 2) (c : Dev nD) : sProp 𝕄 :=
  if u.val = 0 then pPts b k c fullShare.right (catF wc c)
  else cPts b ⟨u.val - 1, by omega⟩ k c fullShare.right (WF wc b c)

def dmaPay (c : Dev nD) : Option (Bool × Bool × Fin 3 × Fin 2) → sProp 𝕄
  | some (true, b, u, k) => recvPay wc b u k c
  | some (false, b, u, k) => sendPay wc b u k c
  | none => iprop(emp)

/-- One round on every cell: the barrier cell's two duties, one duty on every send and receive cell. -/
def rd : Rounds.Schedule (GSem nD τ sig) Bool 𝕄 where
  duties g r := if r = 0 ∧ g.1.2 = .tc then (match g.2 with
    | .reg s => if s = barS then {true, false} else ∅
    | .dma s => if s.val < 6 then ∅ else {false}) else ∅
  unitless _ := False
  amount g _ _ := match g.2 with | .reg _ => 1 | .dma _ => N
  payload g _ d := match g.2 with
    | .reg _ => barPay d g.1.1
    | .dma s => dmaPay wc g.1.1 (dec s.val)
  amount_pos g _ _ _ := by
    rcases g with ⟨t, s | s⟩
    · exact Nat.one_pos
    · exact N_pos

instance barPay_storable (b : Bool) (c : Dev nD) : BI.Storable (upEmb : UEmb _ 𝕄) (barPay (F := F) b c) := by
  unfold barPay; infer_instance
instance recvPay_storable (b : Bool) (u : Fin 3) (k : Fin 2) (c : Dev nD) : BI.Storable (upEmb : UEmb _ 𝕄) (recvPay wc b u k c) := by
  unfold recvPay; infer_instance
instance sendPay_storable (b : Bool) (u : Fin 3) (k : Fin 2) (c : Dev nD) : BI.Storable (upEmb : UEmb _ 𝕄) (sendPay wc b u k c) := by
  unfold sendPay; split <;> infer_instance
instance dmaPay_storable (c : Dev nD) (o : Option (Bool × Bool × Fin 3 × Fin 2)) : BI.Storable (upEmb : UEmb _ 𝕄) (dmaPay wc c o) := by
  rcases o with _ | ⟨_ | _, b, u, k⟩ <;> (dsimp only [dmaPay]; infer_instance)
instance rd_payload_storable (g : GSem nD τ sig) (r : ℕ) (d : Bool) : BI.Storable (upEmb : UEmb _ 𝕄) ((rd wc).payload g r d) := by
  rcases g with ⟨t, s | s⟩
  · show BI.Storable upEmb (barPay d t.1); infer_instance
  · show BI.Storable upEmb (dmaPay wc t.1 (dec s.val)); infer_instance

section Sched

variable (b : Bool) (u : Fin 3) (k : Fin 2) (c : Dev nD)

theorem duties_bar : (rd wc).duties (barCell c) 0 = {true, false} := by
  dsimp only [rd]; rw [if_pos ⟨rfl, rfl⟩]; exact if_pos rfl
theorem not_lt_s : ¬ (sSem b u k).val < 6 := by revert b u k; decide
theorem not_lt_r : ¬ (rSem b u k).val < 6 := by revert b u k; decide
theorem duties_s : (rd wc).duties (sCell b u k c) 0 = {false} := by
  dsimp only [rd]; rw [if_pos ⟨rfl, rfl⟩]; exact if_neg (not_lt_s b u k)
theorem duties_r : (rd wc).duties (rCell b u k c) 0 = {false} := by
  dsimp only [rd]; rw [if_pos ⟨rfl, rfl⟩]; exact if_neg (not_lt_r b u k)
theorem duties_later (g : GSem nD τ sig) : ∀ r, 1 ≤ r → (rd wc).duties g r = ∅ := fun r hr => by
  dsimp only [rd]; exact if_neg fun h => by omega

theorem amount_bar (d : Bool) : (rd wc).amount (barCell c) 0 d = 1 := rfl
theorem amount_s (d : Bool) : (rd wc).amount (sCell b u k c) 0 d = N := rfl
theorem amount_r (d : Bool) : (rd wc).amount (rCell b u k c) 0 d = N := rfl
theorem expect_bar : (rd wc).expect (barCell c) 0 = 2 := by
  unfold Schedule.expect Schedule.amountOf; rw [duties_bar]
  rw [Finset.sum_pair (by decide)]; rfl
theorem expect_s : (rd wc).expect (sCell b u k c) 0 = N := by
  unfold Schedule.expect Schedule.amountOf; rw [duties_s, Finset.sum_singleton, amount_s]
theorem expect_r : (rd wc).expect (rCell b u k c) 0 = N := by
  unfold Schedule.expect Schedule.amountOf; rw [duties_r, Finset.sum_singleton, amount_r]

theorem payload_bar (d : Bool) : (rd wc).payload (barCell c) 0 d = barPay d c := rfl
theorem payload_s (d : Bool) : (rd wc).payload (sCell b u k c) 0 d = sendPay wc b u k c := by
  show dmaPay wc c (dec (sSem b u k).val) = _; rw [dec_s]; rfl
theorem payload_r (d : Bool) : (rd wc).payload (rCell b u k c) 0 d = recvPay wc b u k c := by
  show dmaPay wc c (dec (rSem b u k).val) = _; rw [dec_r]; rfl

theorem rest_bar : bigSep ((rd wc).duties (barCell c) 0 \ ∅) (fun d => (rd wc).payload (barCell c) 0 d) = iprop(barPay true c ∗ barPay false c) := by
  rw [Finset.sdiff_empty, duties_bar, bigSep_insert (by decide), bigSep_singleton, payload_bar, payload_bar]; rfl
theorem rest_s : bigSep ((rd wc).duties (sCell b u k c) 0 \ ∅) (fun d => (rd wc).payload (sCell b u k c) 0 d) = sendPay wc b u k c := by
  rw [Finset.sdiff_empty, duties_s, bigSep_singleton, payload_s]
theorem rest_r : bigSep ((rd wc).duties (rCell b u k c) 0 \ ∅) (fun d => (rd wc).payload (rCell b u k c) 0 d) = recvPay wc b u k c := by
  rw [Finset.sdiff_empty, duties_r, bigSep_singleton, payload_r]

end Sched

/-! ## What is owed, and the levels of the waits -/

/-- A transfer: its direction, hop and chunk. -/
abbrev Tr : Type := Bool × Fin 3 × Fin 2

/-- What device `c` owes while the transfers `l` are still to be started: the receive credit of each. -/
def owedL (c : Dev nD) : List Tr → CellTallies nD τ sig Unit
  | [] => 0
  | x :: l => owedL c l + tallyAt (rCell x.1 x.2.1 x.2.2 (nb x.1 c)) () N

/-- All twelve transfers, in the order they are started. -/
abbrev allTr : List Tr :=
  [(true, 0, 0), (false, 0, 0), (true, 0, 1), (false, 0, 1), (true, 1, 0), (false, 1, 0), (true, 1, 1), (false, 1, 1),
    (true, 2, 0), (true, 2, 1), (false, 2, 0), (false, 2, 1)]

/-- At launch: every transfer, and one barrier unit to either neighbour. -/
def O₀ (c : Dev nD) : CellTallies nD τ sig Unit :=
  owedL c allTr + tallyAt (barCell (nxt c)) () 1 + tallyAt (barCell (prv c)) () 1

def L (g : GSem nD τ sig) : Finset Unit := if g.1.2 = .tc then {()} else ∅
/-- Barrier cells at 1, a receive cell of hop `u` at `2 + u`, the rest at 0. -/
def lv (g : GSem nD τ sig) (_ : Unit) : ℕ := match g.2 with
  | .reg _ => 1
  | .dma s => match dec s.val with
    | some (true, _, u, _) => 2 + u.val
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (i : Unit) : lv (barCell c) i = 1 := rfl
theorem lv_r (b : Bool) (u : Fin 3) (k : Fin 2) (c : Dev nD) (i : Unit) : lv (rCell b u k c) i = 2 + u.val := by
  show (match dec (rSem b u k).val with | some (true, _, u, _) => 2 + u.val | _ => 0) = _
  rw [dec_r]
theorem lv_s (b : Bool) (u : Fin 3) (k : Fin 2) (c : Dev nD) (i : Unit) : lv (sCell b u k c) i = 0 := by
  show (match dec (sSem b u k).val with | some (true, _, u, _) => 2 + u.val | _ => 0) = _
  rw [dec_s]

/-- A cell owed to is the receive cell of one of the transfers still to be started. -/
theorem owedL_pos (c : Dev nD) : ∀ (l : List Tr) {g : GSem nD τ sig} {i : Unit}, 0 < owedL c l g i →
    ∃ x ∈ l, g = rCell x.1 x.2.1 x.2.2 (nb x.1 c)
  | [], g, i, h => absurd h (Nat.lt_irrefl 0)
  | x :: l, g, i, h => by
    unfold owedL at h
    rw [Pi.add_apply, Finsupp.add_apply] at h
    rcases Nat.add_pos_iff_pos_or_pos.mp h with h | h
    · obtain ⟨y, hy, e⟩ := owedL_pos c l h
      exact ⟨y, List.mem_cons_of_mem _ hy, e⟩
    · rw [tallyAt_apply] at h
      split at h
      · next hg => exact ⟨x, List.mem_cons_self, hg.1⟩
      · exact absurd h (Nat.lt_irrefl 0)

/-- A wait below every transfer still to be started is allowed. -/
theorem mayWait_of (c : Dev nD) (sm : SemLoc sig) (n : ℕ) (l : List Tr) (hn : lv ((c : Thread nD τ), sm) () ≤ n) (hl : ∀ x ∈ l, n < 2 + x.2.1.val) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g i hg => by
      obtain ⟨x, -, rfl⟩ := owedL_pos c l hg
      rw [L_tc]; exact Finset.mem_singleton_self _)
    (fun p hp => by rw [Finset.mem_singleton.mp hp]; exact hn)
    (fun g i hg => by
      obtain ⟨x, hx, rfl⟩ := owedL_pos c l hg
      rw [lv_r]; exact hl x hx)

/-! ## The device numbers the body computes -/

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nb true c := Fin.ext (k0_dev3_eq c)
theorem dev4_eq (c : Dev nD) : (⟨k0_dev4 c, k0_dev4_lt c⟩ : Dev nD) = nb false c := Fin.ext (k0_dev4_eq c)
theorem dev5_eq (c : Dev nD) : (⟨k0_dev5 c, k0_dev5_lt c⟩ : Dev nD) = nb true c := Fin.ext (k0_dev5_eq c)
theorem dev6_eq (c : Dev nD) : (⟨k0_dev6 c, k0_dev6_lt c⟩ : Dev nD) = nb false c := Fin.ext (k0_dev6_eq c)
theorem dev7_eq (c : Dev nD) : (⟨k0_dev7 c, k0_dev7_lt c⟩ : Dev nD) = nb true c := Fin.ext (k0_dev7_eq c)
theorem dev8_eq (c : Dev nD) : (⟨k0_dev8 c, k0_dev8_lt c⟩ : Dev nD) = nb false c := Fin.ext (k0_dev8_eq c)
theorem dev9_eq (c : Dev nD) : (⟨k0_dev9 c, k0_dev9_lt c⟩ : Dev nD) = nb true c := Fin.ext (k0_dev9_eq c)
theorem dev10_eq (c : Dev nD) : (⟨k0_dev10 c, k0_dev10_lt c⟩ : Dev nD) = nb false c := Fin.ext (k0_dev10_eq c)
theorem dev11_eq (c : Dev nD) : (⟨k0_dev11 c, k0_dev11_lt c⟩ : Dev nD) = nb true c := Fin.ext (k0_dev11_eq c)
theorem dev12_eq (c : Dev nD) : (⟨k0_dev12 c, k0_dev12_lt c⟩ : Dev nD) = nb true c := Fin.ext (k0_dev12_eq c)
theorem dev13_eq (c : Dev nD) : (⟨k0_dev13 c, k0_dev13_lt c⟩ : Dev nD) = nb false c := Fin.ext (k0_dev13_eq c)
theorem dev14_eq (c : Dev nD) : (⟨k0_dev14 c, k0_dev14_lt c⟩ : Dev nD) = nb false c := Fin.ext (k0_dev14_eq c)

end Cert.KernelIdeal.Talk

end
-- ==== Proof.KernelIdeal.Steps.lean ====
/-
# The steps of the gather, one lemma per kind of operation

What a device holds of each transfer before, during and after it (`S0`, `S1`, `S2` on the sending side, `R0`, `R1` on the
receiving side), the persistent facts every step reads (`env`, `env2`), and the rule of each operation of the body: the two
barrier signals and the barrier wait, a first-hop send, a forwarding send, a receive wait, a send wait, and the loads of a
landed slot.
-/
module

public import proofs.«01_k».proof.Proof.KernelIdeal.Common

@[expose] public section

noncomputable section

namespace Cert.KernelIdeal.Talk

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (wc : Dev nD → Vec F S3072x256 .bf16)

abbrev 𝒱₀ : Variants := Variants.none

/-! ## The persistent facts -/

/-- A talking cell: the barrier cell (`none`), a receive cell (`some (true, …)`) or a send cell (`some (false, …)`). -/
def cellAt : Dev nD × Option (Bool × Tr) → GSem nD τ sig
  | (c, none) => barCell c
  | (c, some (true, b, u, k)) => rCell b u k c
  | (c, some (false, b, u, k)) => sCell b u k c

def records (K : GSem nD τ sig → ℕ) : sProp 𝕄 :=
  bigSep (Finset.univ : Finset (Dev nD × Option (Bool × Tr))) fun p => cellInv ER (rd wc) (K (cellAt p)) (cellAt p)

/-- What every step of device `c` may read: all invariants, the levels, that round 0 is reached on the own transfer cells and
    on the barrier cells of both neighbours. -/
def env (K : GSem nD τ sig → ℕ) (c : Dev nD) : sProp 𝕄 :=
  iprop(records wc K ∗ levAts L lv
    ∗ (bigSep (Finset.univ : Finset (Bool × Tr)) fun x => reached ER (cellAt (c, some x)) 0)
    ∗ (bigSep (Finset.univ : Finset Bool) fun b => reached ER (barCell (nb b c)) 0))
/-- Learnt at the barrier: round 0 is reached on the neighbours' receive cells. -/
def env2 (c : Dev nD) : sProp 𝕄 :=
  bigSep (Finset.univ : Finset Tr) fun x => reached ER (rCell x.1 x.2.1 x.2.2 (nb x.1 c)) 0

instance records_persistent (K : GSem nD τ sig → ℕ) : BI.Persistent (records wc K) := by unfold records; infer_instance
instance env_persistent (K : GSem nD τ sig → ℕ) (c : Dev nD) : BI.Persistent (env wc K c) := by unfold env; infer_instance
instance env2_persistent (c : Dev nD) : BI.Persistent (env2 (F := F) c) := by unfold env2; infer_instance

section Env
variable (K : GSem nD τ sig → ℕ) (c : Dev nD)

theorem records_at (p : Dev nD × Option (Bool × Tr)) : records wc K ⊢ cellInv ER (rd wc) (K (cellAt p)) (cellAt p) := by
  unfold records; exact bigSep_elim (Finset.mem_univ p)
theorem env_inv (p : Dev nD × Option (Bool × Tr)) : env wc K c ⊢ cellInv ER (rd wc) (K (cellAt p)) (cellAt p) := by
  unfold env; iintro ⟨H, -⟩; iapply (records_at wc K p); iexact H
theorem env_lev : env wc K c ⊢ levAts L lv := by unfold env; iintro ⟨-, H, -⟩; iexact H
theorem env_reached (x : Bool × Tr) : env wc K c ⊢ reached ER (cellAt (c, some x)) 0 := by
  unfold env; iintro ⟨-, -, H, -⟩
  have h : (bigSep (Finset.univ : Finset (Bool × Tr)) fun x => reached ER (cellAt (c, some x)) 0 : sProp 𝕄) ⊢ reached ER (cellAt (c, some x)) 0 :=
    bigSep_elim (Finset.mem_univ x)
  iapply h; iexact H
theorem env_bar (b : Bool) : env wc K c ⊢ reached ER (barCell (nb b c)) 0 := by
  unfold env; iintro ⟨-, -, -, H⟩
  have h : (bigSep (Finset.univ : Finset Bool) fun b => reached ER (barCell (nb b c)) 0 : sProp 𝕄) ⊢ reached ER (barCell (nb b c)) 0 :=
    bigSep_elim (Finset.mem_univ b)
  iapply h; iexact H
theorem env2_at (x : Tr) : (env2 c : sProp 𝕄) ⊢ reached ER (rCell x.1 x.2.1 x.2.2 (nb x.1 c)) 0 := by
  unfold env2; exact bigSep_elim (Finset.mem_univ x)

theorem env2_of : iprop((bigSep (Finset.univ : Finset UK) fun x => reached ER (rCell true x.1 x.2 (nb true c)) 0)
    ∗ (bigSep (Finset.univ : Finset UK) fun x => reached ER (rCell false x.1 x.2 (nb false c)) 0)) ⊢ (env2 c : sProp 𝕄) := by
  unfold env2
  rw [bigSep_univ_prod (fun x : Tr => (reached ER (rCell x.1 x.2.1 x.2.2 (nb x.1 c)) 0 : sProp 𝕄)),
    show (Finset.univ : Finset Bool) = {true, false} from rfl, bigSep_insert (by decide), bigSep_singleton]
  exact BI.Entails.refl _

end Env

/-! ## The linear state of a transfer -/

/-- Device `c` still owes the transfers `l`. -/
def owesL (c : Dev nD) (l : List Tr) : sProp 𝕄 := iprop(∃ W, owes (c : Thread nD τ) (owedL c l) W)

/-- Ready to send: the two duty tokens it pays with, the position on the own send cell, and the destination chunk. -/
def S0 (b : Bool) (u : Fin 3) (k : Fin 2) (c : Dev nD) : sProp 𝕄 :=
  iprop(atPos ER (sCell b u k c) 0 ∅ 0 ∗ dutyTok ER (sCell b u k c) 0 false ∗ dutyTok ER (rCell b u k (nb b c)) 0 false
    ∗ ∃ f, cPts b u k (nb b c) fullShare f)
/-- In flight. -/
def S1 (b : Bool) (u : Fin 3) (k : Fin 2) (c : Dev nD) : sProp 𝕄 :=
  iprop(atPos ER (sCell b u k c) 0 ∅ 0 ∗ cred (tallyAt (sCell b u k c) () N))
/-- Sent and waited for. -/
def S2 (b : Bool) (u : Fin 3) (k : Fin 2) (c : Dev nD) : sProp 𝕄 := atPos ER (sCell b u k c) (0 + 1) ∅ 0
/-- Still to be received. -/
def R0 (b : Bool) (u : Fin 3) (k : Fin 2) (c : Dev nD) : sProp 𝕄 :=
  iprop(atPos ER (rCell b u k c) 0 ∅ 0 ∗ cred (tallyAt (rCell b u k c) () N))
/-- Received. -/
def R1 (b : Bool) (u : Fin 3) (k : Fin 2) (c : Dev nD) : sProp 𝕄 := atPos ER (rCell b u k c) (0 + 1) ∅ 0

variable (K : GSem nD τ sig → ℕ) (c : Dev nD)

theorem chunk_credit (b : Bool) (u : Fin 3) (k : Fin 2) : (chunkM (wM b) u k).view.dmaCredit = N := by cases b <;> rfl
theorem piece_credit (b : Bool) (k : Fin 2) : (pieceM b k).view.dmaCredit = N := rfl
/-- Every view of a chunk's shape credits the same. -/
theorem any_credit (dst : Memref sig .tc .vmem S1536x128 .bf16) : dst.view.dmaCredit = N := rfl

/-! ## Send -/

theorem send0 {α : Type} {Ψ : α → sProp 𝕄} (b : Bool) (k : Fin 2) (l : List Tr) {d : Dev nD} (hd : d = nb b c) {hsc}
    {h1 : (pieceM b k).view.WordExact} {h2 : (chunkM (wM b) 0 k).view.WordExact}
    {h3 : DmaTarget.Typed Space.vmem (.dma (rSem b 0 k)) (.remote (d : Thread nD τ) (chunkM (wM b) 0 k) (.dma (sSem b 0 k)) hsc)}
    {kk : PUnit → Prog (TpuEff nD τ sig (Elt F) Λ₀ .tc) α} :
    iprop(env wc K c ∗ env2 c ∗ S0 b 0 k c ∗ pPts b k c fullShare.right (catF wc c) ∗ owesL c ((b, 0, k) :: l))
      ⊢ iprop(((S1 b 0 k c ∗ owesL c l) -∗ wp frame (wpE (defs₀ (F := F)) 𝒱₀ c none) Set.univ (kk ⟨⟩) Ψ)
        -∗ wp frame (wpE (defs₀ (F := F)) 𝒱₀ c none) Set.univ
          (.op (.enqueueDma (pieceM b k) (.remote (d : Thread nD τ) (chunkM (wM b) 0 k) (.dma (sSem b 0 k)) hsc) (.dma (rSem b 0 k)) h1 h2 h3) kk) Ψ) := by
  subst hd
  unfold S0 owesL S1
  iintro ⟨#HE, #HE2, ⟨HatS, HtS, HtR, %fd, Hd⟩, Hp, %W, HO⟩ Hk
  iapply (Rounds.wp_send_pointsTo 𝒱₀ ER (rd wc) (c : Thread nD τ) none (c' := (nb b c : Thread nD τ)) (src := pieceM b k) (dst := chunkM (wM b) 0 k)
      (sS := .dma (sSem b 0 k)) (sem := .dma (rSem b 0 k)) (q := fullShare.right) (fs := catF wc c) (κ₁ := K (sCell b 0 k c)) (κ₂ := K (rCell b 0 k (nb b c)))
      (r₁ := 0) (r₂ := 0) (d₁ := false) (d₂ := false) (fd := fd)
      (by rw [duties_s]; exact Finset.mem_singleton_self _) (by rw [duties_r]; exact Finset.mem_singleton_self _)
      () () N (chunk_credit b 0 k) (amount_s wc b 0 k c false) (amount_r wc b 0 k (nb b c) false) (owedL c l) rfl (W := W)
      (by rw [payload_s]; exact BI.Entails.refl _)
      (by rw [payload_r]; unfold recvPay cPts; rw [pointsTo_congr (land0 wc b k c fd)])) $$ [Hp Hd HO HtS HtR]
  · isplitr; · iapply (env_inv wc K c (c, some (false, b, 0, k))); iexact HE
    isplitr; · iapply (env_inv wc K c (nb b c, some (true, b, 0, k))); iexact HE
    isplitl [Hp]; · iexact Hp
    isplitl [Hd]; · iexact Hd
    isplitl [HO]; · iexact HO
    isplitl [HtS]; · iexact HtS
    isplitr; · iapply (env_reached wc K c (false, b, 0, k)); iexact HE
    isplitl [HtR]; · iexact HtR
    iapply (env2_at c (b, 0, k)); iexact HE2
  iintro ⟨HcS, HO⟩
  iapply Hk
  isplitl [HatS HcS]
  · isplitl [HatS] <;> iassumption
  iexists W; iexact HO

theorem sendF {α : Type} {Ψ : α → sProp 𝕄} (b : Bool) (u u' : Fin 3) (hu : u'.val = u.val + 1) (k : Fin 2) (l : List Tr) {d : Dev nD} (hd : d = nb b c) {hsc}
    {h1 : (chunkM (wM b) u k).view.WordExact} {h2 : (chunkM (wM b) u' k).view.WordExact}
    {h3 : DmaTarget.Typed Space.vmem (.dma (rSem b u' k)) (.remote (d : Thread nD τ) (chunkM (wM b) u' k) (.dma (sSem b u' k)) hsc)}
    {kk : PUnit → Prog (TpuEff nD τ sig (Elt F) Λ₀ .tc) α} :
    iprop(env wc K c ∗ env2 c ∗ S0 b u' k c ∗ cPts b u k c fullShare.right (WF wc b c) ∗ owesL c ((b, u', k) :: l))
      ⊢ iprop(((S1 b u' k c ∗ owesL c l) -∗ wp frame (wpE (defs₀ (F := F)) 𝒱₀ c none) Set.univ (kk ⟨⟩) Ψ)
        -∗ wp frame (wpE (defs₀ (F := F)) 𝒱₀ c none) Set.univ
          (.op (.enqueueDma (chunkM (wM b) u k) (.remote (d : Thread nD τ) (chunkM (wM b) u' k) (.dma (sSem b u' k)) hsc) (.dma (rSem b u' k)) h1 h2 h3) kk) Ψ) := by
  subst hd
  unfold S0 owesL S1
  iintro ⟨#HE, #HE2, ⟨HatS, HtS, HtR, %fd, Hd⟩, Hp, %W, HO⟩ Hk
  have hpay : (cPts b u k c fullShare.right (WF wc b c) : sProp 𝕄) ⊢ sendPay wc b u' k c := by
    unfold sendPay
    rw [if_neg (by omega), show (⟨u'.val - 1, by omega⟩ : Fin 3) = u from Fin.ext (by show u'.val - 1 = u.val; omega)]
  iapply (Rounds.wp_send_pointsTo 𝒱₀ ER (rd wc) (c : Thread nD τ) none (c' := (nb b c : Thread nD τ)) (src := chunkM (wM b) u k) (dst := chunkM (wM b) u' k)
      (sS := .dma (sSem b u' k)) (sem := .dma (rSem b u' k)) (q := fullShare.right) (fs := WF wc b c) (κ₁ := K (sCell b u' k c)) (κ₂ := K (rCell b u' k (nb b c)))
      (r₁ := 0) (r₂ := 0) (d₁ := false) (d₂ := false) (fd := fd)
      (by rw [duties_s]; exact Finset.mem_singleton_self _) (by rw [duties_r]; exact Finset.mem_singleton_self _)
      () () N (chunk_credit b u' k) (amount_s wc b u' k c false) (amount_r wc b u' k (nb b c) false) (owedL c l) rfl (W := W)
      (by rw [payload_s]; exact hpay)
      (by rw [payload_r]; unfold recvPay cPts; rw [pointsTo_congr (landS wc b u u' hu k c fd)])) $$ [Hp Hd HO HtS HtR]
  · isplitr; · iapply (env_inv wc K c (c, some (false, b, u', k))); iexact HE
    isplitr; · iapply (env_inv wc K c (nb b c, some (true, b, u', k))); iexact HE
    isplitl [Hp]; · iexact Hp
    isplitl [Hd]; · iexact Hd
    isplitl [HO]; · iexact HO
    isplitl [HtS]; · iexact HtS
    isplitr; · iapply (env_reached wc K c (false, b, u', k)); iexact HE
    isplitl [HtR]; · iexact HtR
    iapply (env2_at c (b, u', k)); iexact HE2
  iintro ⟨HcS, HO⟩
  iapply Hk
  isplitl [HatS HcS]
  · isplitl [HatS] <;> iassumption
  iexists W; iexact HO

/-! ## Wait -/

/-- The wait for a landing: the chunk comes at its final contents. -/
theorem recv {α : Type} {Ψ : α → sProp 𝕄} (b : Bool) (u : Fin 3) (k : Fin 2) (l : List Tr) (hl : ∀ x ∈ l, u.val < x.2.1.val)
    {src dst : Memref sig .tc .vmem S1536x128 .bf16} {h1 : src.view.WordExact} {h2 : dst.view.WordExact}
    {kk : PUnit → Prog (TpuEff nD τ sig (Elt F) Λ₀ .tc) α} :
    iprop(env wc K c ∗ R0 b u k c ∗ owesL c l)
      ⊢ iprop(((R1 b u k c ∗ cPts b u k c fullShare.left (WF wc b c) ∗ cPts b u k c fullShare.right (WF wc b c) ∗ owesL c l)
          -∗ wp frame (wpE (defs₀ (F := F)) 𝒱₀ c none) Set.univ (kk ⟨⟩) Ψ)
        -∗ wp frame (wpE (defs₀ (F := F)) 𝒱₀ c none) Set.univ (.op (.waitDma2 (rSem b u k) src dst h1 h2) kk) Ψ) := by
  have hN := any_credit dst
  unfold R0 R1 owesL
  iintro ⟨#HE, ⟨Hat, Hc⟩, %W, HO⟩ Hk
  iapply (Rounds.wp_wait_rest_token 𝒱₀ ER (rd wc) (c : Thread nD τ) none (κ := K (rCell b u k c))
      (wpE_waitDma2_eq 𝒱₀ (c : Thread nD τ) none Set.univ) (Set.mem_univ _) () (O := owedL c l) (W := W) (R := 0) (m := 0) (T := ∅)
      ((Nat.zero_add _).trans (hN.trans (expect_r wc b u k c).symm))) $$ [Hc HO Hat]
  · isplitr; · iapply (env_inv wc K c (c, some (true, b, u, k))); iexact HE
    isplitl [Hc]; · rw [hN]; iexact Hc
    isplitl [HO]; · iexact HO
    isplitr
    · iapply (mayWait_of c (.dma (rSem b u k)) (2 + u.val) l (le_of_eq (lv_r b u k c ())) (fun x hx => Nat.add_lt_add_left (hl x hx) 2))
      iapply (env_lev wc K c); iexact HE
    iexact Hat
  iintro ⟨HO, Hat, -, Hpay⟩
  ihave Hp := (Entails.of_eq (rest_r wc b u k c)) $$ Hpay
  unfold recvPay cPts
  ihave Hp2 := ((pointsTo_share (PosShare.mem_left_op_right fullShare)).1) $$ Hp
  icases Hp2 with ⟨Hl, Hr⟩
  iapply Hk
  isplitl [Hat]; · iexact Hat
  isplitl [Hl]; · iexact Hl
  isplitl [Hr]; · iexact Hr
  iexists _; iexact HO

/-- The wait for an own transfer: what it read from comes back. -/
theorem waitSend {α : Type} {Ψ : α → sProp 𝕄} (b : Bool) (u : Fin 3) (k : Fin 2)
    {src dst : Memref sig .tc .vmem S1536x128 .bf16} {h1 : src.view.WordExact} {h2 : dst.view.WordExact}
    {kk : PUnit → Prog (TpuEff nD τ sig (Elt F) Λ₀ .tc) α} :
    iprop(env wc K c ∗ S1 b u k c ∗ owesL c [])
      ⊢ iprop(((S2 b u k c ∗ sendPay wc b u k c ∗ owesL c []) -∗ wp frame (wpE (defs₀ (F := F)) 𝒱₀ c none) Set.univ (kk ⟨⟩) Ψ)
        -∗ wp frame (wpE (defs₀ (F := F)) 𝒱₀ c none) Set.univ (.op (.waitDma2 (sSem b u k) src dst h1 h2) kk) Ψ) := by
  have hN := any_credit dst
  unfold S1 S2 owesL
  iintro ⟨#HE, ⟨Hat, Hc⟩, %W, HO⟩ Hk
  iapply (Rounds.wp_wait_rest_token 𝒱₀ ER (rd wc) (c : Thread nD τ) none (κ := K (sCell b u k c))
      (wpE_waitDma2_eq 𝒱₀ (c : Thread nD τ) none Set.univ) (Set.mem_univ _) () (O := owedL c []) (W := W) (R := 0) (m := 0) (T := ∅)
      ((Nat.zero_add _).trans (hN.trans (expect_s wc b u k c).symm))) $$ [Hc HO Hat]
  · isplitr; · iapply (env_inv wc K c (c, some (false, b, u, k))); iexact HE
    isplitl [Hc]; · rw [hN]; iexact Hc
    isplitl [HO]; · iexact HO
    isplitr
    · iapply (mayWait_of c (.dma (sSem b u k)) 0 [] (le_of_eq (lv_s b u k c ())) (fun x hx => absurd hx List.not_mem_nil))
      iapply (env_lev wc K c); iexact HE
    iexact Hat
  iintro ⟨HO, Hat, -, Hpay⟩
  ihave Hp := (Entails.of_eq (rest_s wc b u k c)) $$ Hpay
  iapply Hk
  isplitl [Hat]; · iexact Hat
  isplitl [Hp]; · iexact Hp
  iexists _; iexact HO

/-! ## The barrier -/

/-- The barrier unit to the device whose `b`-transfers come here: hands over the own receive buffer of direction `b`. -/
theorem signal {α : Type} {Ψ : α → sProp 𝕄} (b : Bool) (O' : CellTallies nD τ sig Unit) {d : Dev nD} (hd : d = nb (!b) c) {kk : PUnit → Prog (TpuEff nD τ sig (Elt F) Λ₀ .tc) α} :
    iprop(env wc K c ∗ dutyTok ER (barCell (nb (!b) c)) 0 b ∗ (∃ f : Buf (Elt F) ((wM b).view.loc (c : Thread nD τ)), (wM b).view.loc (c : Thread nD τ) ↦{fullShare} f)
        ∗ ∃ W, owes (c : Thread nD τ) (O' + tallyAt (barCell (nb (!b) c)) () 1) W)
      ⊢ iprop(((∃ W, owes (c : Thread nD τ) O' W) -∗ wp frame (wpE (defs₀ (F := F)) 𝒱₀ c none) Set.univ (kk ⟨⟩) Ψ)
        -∗ wp frame (wpE (defs₀ (F := F)) 𝒱₀ c none) Set.univ (.op (.semSignal (d : Thread nD τ) barS (1#32).toInt) kk) Ψ) := by
  subst hd
  iintro ⟨#HE, Ht, ⟨%f, Hw⟩, %W, HO⟩ Hk
  iapply (Rounds.wp_signal 𝒱₀ ER (rd wc) (c : Thread nD τ) none (dst := (nb (!b) c : Thread nD τ)) (sem := barS) (r := 0) (d := b) (κ := K (barCell (nb (!b) c)))
      (by rw [duties_bar]; cases b <;> decide) (amount_bar wc (nb (!b) c) b) () O' rfl) $$ [HO Ht Hw]
  · isplitr; · iapply (env_inv wc K c (nb (!b) c, none)); iexact HE
    isplitl [HO]; · iexact HO
    isplitl [Ht]; · iexact Ht
    isplitl [Hw]
    · rw [payload_bar]; unfold barPay
      have e := nb_nb b c
      rw [e]
      isplitl [Hw]; · iexists f; iexact Hw
      iapply (bigSep_intro_persistent (R := env wc K c) (S := (Finset.univ : Finset UK)) (Φ := fun x => reached ER (rCell b x.1 x.2 c) 0)
        (fun x _ => env_reached wc K c (true, b, x.1, x.2))); iexact HE
    · iapply (env_bar wc K c (!b)); iexact HE
  iintro HO; iapply Hk; iexists W; iexact HO

/-- The barrier wait: both neighbours' receive buffers come in, and that their receive cells are open. -/
theorem barrier {α : Type} {Ψ : α → sProp 𝕄} (l : List Tr) {kk : PUnit → Prog (TpuEff nD τ sig (Elt F) Λ₀ .tc) α} :
    iprop(env wc K c ∗ atPos ER (barCell c) 0 ∅ 0 ∗ cred (tallyAt (barCell c) () 2) ∗ owesL c l)
      ⊢ iprop(((atPos ER (barCell c) (0 + 1) ∅ 0 ∗ env2 c
            ∗ (∃ f : Buf (Elt F) ((wM true).view.loc (nb true c : Thread nD τ)), (wM true).view.loc (nb true c : Thread nD τ) ↦{fullShare} f)
            ∗ (∃ f : Buf (Elt F) ((wM false).view.loc (nb false c : Thread nD τ)), (wM false).view.loc (nb false c : Thread nD τ) ↦{fullShare} f)
            ∗ owesL c l) -∗ wp frame (wpE (defs₀ (F := F)) 𝒱₀ c none) Set.univ (kk ⟨⟩) Ψ)
        -∗ wp frame (wpE (defs₀ (F := F)) 𝒱₀ c none) Set.univ (.op (.semWait barS (2#32).toInt) kk) Ψ) := by
  unfold owesL
  iintro ⟨#HE, Hat, Hc, %W, HO⟩ Hk
  iapply (Rounds.wp_wait_rest_token 𝒱₀ ER (rd wc) (c : Thread nD τ) none (κ := K (barCell c)) (k' := 2)
      (wpE_semWait_eq 𝒱₀ (c : Thread nD τ) none Set.univ) (Set.mem_univ _) () (O := owedL c l) (W := W) (R := 0) (m := 0) (T := ∅)
      ((Nat.zero_add _).trans (expect_bar wc c).symm)) $$ [Hc HO Hat]
  · isplitr; · iapply (env_inv wc K c (c, none)); iexact HE
    isplitl [Hc]; · iexact Hc
    isplitl [HO]; · iexact HO
    isplitr
    · iapply (mayWait_of c (.reg barS) 1 l (le_of_eq (lv_bar c ())) (fun x _ => by omega))
      iapply (env_lev wc K c); iexact HE
    iexact Hat
  iintro ⟨HO, Hat, -, Hpay⟩
  ihave Hp := (Entails.of_eq (rest_bar wc c)) $$ Hpay
  unfold barPay
  icases Hp with ⟨⟨⟨%f, Hf⟩, #Hr⟩, ⟨%g, Hg⟩, #Hr'⟩
  iapply Hk
  isplitl [Hat]; · iexact Hat
  isplitr
  · iapply (env2_of c); isplitr; · iexact Hr
    iexact Hr'
  isplitl [Hf]; · iexists f; iexact Hf
  isplitl [Hg]; · iexists g; iexact Hg
  iexists _; iexact HO

end Cert.KernelIdeal.Talk

end
-- ==== Proof.KernelIdeal.Places.lean ====
/-
# The buffers in pieces; loads and stores

A receive buffer is its six chunks, the staged own block its four pieces. Loads of whole buffers, of a landed slot and of the
context buffer, and stores to it, each as one step of a run.
-/
module

public import proofs.«01_k».proof.Proof.KernelIdeal.Steps

@[expose] public section

noncomputable section

namespace Cert.KernelIdeal.Talk

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (wc : Dev nD → Vec F S3072x256 .bf16)

abbrev 𝕍 : Variants := Variants.none

/-! ## A receive buffer is its six chunks -/

theorem mem_chunk (M : Memref sig .tc .vmem S3x3072x128 .bf16) (u : Fin 3) (k : Fin 2) (j : S3x3072x128.Idx) :
    M.view.emb j ∈ (chunkM M u k).view.set ↔ (j 0).val = u.val ∧ (j 1).val / 1536 = k.val := by
  constructor
  · intro h
    obtain ⟨x, -, hx⟩ := Finset.mem_map.mp h
    obtain ⟨p, q, rfl⟩ : ∃ p q, x = ix2 p q := ⟨x 0, x 1, eq_ix2 x⟩
    have e := M.view.emb.injective ((chunk_emb M u k p q).symm.trans hx)
    subst e
    have hp := p.isLt
    exact ⟨rfl, by show (1536 * k.val + p.val) / 1536 = k.val; omega⟩
  · rintro ⟨h0, h1⟩
    have hj : j = ix3 u (⟨1536 * k.val + ((j 1).val - 1536 * k.val), by have := (j 1).isLt; have : (S3x3072x128.size 1) = 3072 := rfl; omega⟩ : Fin 3072) (j 2) := by
      funext a
      refine Fin.ext ?_
      match a with
      | ⟨0, _⟩ => exact h0
      | ⟨1, _⟩ => show (j 1).val = 1536 * k.val + ((j 1).val - 1536 * k.val); omega
      | ⟨2, _⟩ => rfl
    have hlt : (j 1).val - 1536 * k.val < 1536 := by omega
    have e := chunk_emb M u k ⟨(j 1).val - 1536 * k.val, hlt⟩ (j 2)
    have e2 : M.view.emb j = (chunkM M u k).view.emb (ix2 ⟨(j 1).val - 1536 * k.val, hlt⟩ (j 2)) := (congrArg M.view.emb hj).trans e.symm
    rw [e2]
    exact Finset.mem_map_of_mem _ (Finset.mem_univ _)

theorem chunk_disjoint (M : Memref sig .tc .vmem S3x3072x128 .bf16) {x y : UK} (h : x ≠ y) :
    Disjoint (chunkM M x.1 x.2).view.set (chunkM M y.1 y.2).view.set := by
  rw [Finset.disjoint_left]
  intro i hi hi'
  obtain ⟨z, -, hz⟩ := Finset.mem_map.mp hi
  obtain ⟨p, q, rfl⟩ : ∃ p q, z = ix2 p q := ⟨z 0, z 1, eq_ix2 z⟩
  have e : M.view.emb _ = i := (chunk_emb M x.1 x.2 p q).symm.trans hz
  rw [← e] at hi hi'
  obtain ⟨a1, a2⟩ := (mem_chunk M x.1 x.2 _).mp hi
  obtain ⟨b1, b2⟩ := (mem_chunk M y.1 y.2 _).mp hi'
  exact h (Prod.ext (Fin.ext (a1.symm.trans b1)) (Fin.ext (a2.symm.trans b2)))

abbrev chunkS (b : Bool) (c : Dev nD) (x : UK) : Finset (Idx ((wM b).view.loc (c : Thread nD τ))) := (chunkM (wM b) x.1 x.2).view.set
abbrev pieceS (c : Dev nD) (x : Bool × Fin 2) : Finset (Idx (catM.view.loc (c : Thread nD τ))) := (pieceM x.1 x.2).view.set

theorem chunk_cover (b : Bool) (c : Dev nD) :
    ((Finset.univ : Finset UK).biUnion (chunkS b c)) = Finset.univ := by
  have key : ∀ j : S3x3072x128.Idx, ∃ x : UK, (wM b).view.emb j ∈ (chunkM (wM b) x.1 x.2).view.set := fun j => by
    have h1 : (j 1).val < 3072 := (j 1).isLt
    exact ⟨(j 0, ⟨(j 1).val / 1536, by omega⟩), (mem_chunk _ _ _ j).mpr ⟨rfl, rfl⟩⟩
  refine Finset.eq_univ_of_forall fun i => ?_
  obtain ⟨j, hj⟩ : ∃ j, (wM b).view.emb j = i := by
    match b with
    | true => exact ⟨i, rfl⟩
    | false => exact ⟨i, rfl⟩
  obtain ⟨x, hx⟩ := key j
  exact Finset.mem_biUnion.mpr ⟨x, Finset.mem_univ _, hj ▸ hx⟩

theorem w_split (b : Bool) (c : Dev nD) (f : Buf (Elt F) ((wM b).view.loc (c : Thread nD τ))) (q : PosShare TreeShare) :
    ((wM b).view.loc (c : Thread nD τ) ↦{q} f : sProp 𝕄) = bigSep (Finset.univ : Finset UK) fun x => cPts b x.1 x.2 c q f := by
  show ((wM b).view.loc (c : Thread nD τ) ↦[Finset.univ]{q} f : sProp 𝕄) = _
  rw [← chunk_cover b c]
  exact pointsTo_biUnion _ _ fun x _ y _ h => chunk_disjoint (wM b) h

theorem w_split6 (b : Bool) (c : Dev nD) (f : Buf (Elt F) ((wM b).view.loc (c : Thread nD τ))) (q : PosShare TreeShare) :
    ((wM b).view.loc (c : Thread nD τ) ↦{q} f : sProp 𝕄) = iprop(cPts b 0 0 c q f ∗ cPts b 0 1 c q f ∗ cPts b 1 0 c q f ∗ cPts b 1 1 c q f
      ∗ cPts b 2 0 c q f ∗ cPts b 2 1 c q f) := by
  rw [w_split, bigSep_univ_eq_bigSepL [(0, 0), (0, 1), (1, 0), (1, 1), (2, 0), (2, 1)] (by decide) (by decide)]
  rfl

/-! ## The own block is its four pieces -/

theorem mem_piece (b : Bool) (k : Fin 2) (j : S3072x256.Idx) :
    j ∈ (pieceM b k).view.set ↔ (j 0).val / 1536 = k.val ∧ (j 1).val / 128 = (if b then 0 else 1) := by
  constructor
  · intro h
    obtain ⟨x, -, hx⟩ := Finset.mem_map.mp h
    obtain ⟨p, q, rfl⟩ : ∃ p q, x = ix2 p q := ⟨x 0, x 1, eq_ix2 x⟩
    have e := (piece_emb b k p q).symm.trans hx
    subst e
    have hp := p.isLt
    have hq := q.isLt
    refine ⟨by show (1536 * k.val + p.val) / 1536 = k.val; omega, ?_⟩
    show (col b + q.val) / 128 = _
    unfold col; split <;> omega
  · rintro ⟨h0, h1⟩
    have hj0 : (j 0).val < 3072 := (j 0).isLt
    have hj1 : (j 1).val < 256 := (j 1).isLt
    have hlt : (j 0).val - 1536 * k.val < 1536 := by omega
    have hlt' : (j 1).val - col b < 128 := by unfold col; split <;> simp_all <;> omega
    have e := piece_emb b k ⟨(j 0).val - 1536 * k.val, hlt⟩ ⟨(j 1).val - col b, hlt'⟩
    have e2 : j = (pieceM b k).view.emb (ix2 ⟨(j 0).val - 1536 * k.val, hlt⟩ ⟨(j 1).val - col b, hlt'⟩) := by
      refine Eq.trans ?_ e.symm
      funext a
      refine Fin.ext ?_
      match a with
      | ⟨0, _⟩ => show (j 0).val = 1536 * k.val + ((j 0).val - 1536 * k.val); omega
      | ⟨1, _⟩ => show (j 1).val = col b + ((j 1).val - col b); unfold col; split <;> simp_all <;> omega
    rw [e2]
    exact Finset.mem_map_of_mem _ (Finset.mem_univ _)

theorem piece_ex (i : S3072x256.Idx) : ∃ x : Bool × Fin 2, i ∈ (pieceM x.1 x.2).view.set := by
  have hj0 : (i 0).val < 3072 := (i 0).isLt
  have hj1 : (i 1).val < 256 := (i 1).isLt
  have hk : (i 0).val / 1536 < 2 := by omega
  by_cases h : (i 1).val < 128
  · exact ⟨(true, ⟨(i 0).val / 1536, hk⟩), (mem_piece _ _ i).mpr ⟨rfl, by show (i 1).val / 128 = 0; omega⟩⟩
  · exact ⟨(false, ⟨(i 0).val / 1536, hk⟩), (mem_piece _ _ i).mpr ⟨rfl, by show (i 1).val / 128 = 1; omega⟩⟩

theorem piece_disjoint {x y : Bool × Fin 2} (h : x ≠ y) : Disjoint (pieceM x.1 x.2).view.set (pieceM y.1 y.2).view.set := by
  refine Finset.disjoint_left.mpr fun (i : S3072x256.Idx) hi hi' => h ?_
  obtain ⟨a1, a2⟩ := (mem_piece x.1 x.2 i).mp hi
  obtain ⟨b1, b2⟩ := (mem_piece y.1 y.2 i).mp hi'
  refine Prod.ext ?_ (Fin.ext (a1.symm.trans b1))
  have e := a2.symm.trans b2
  generalize x.1 = p at e ⊢
  generalize y.1 = r at e ⊢
  revert e; cases p <;> cases r <;> decide

theorem cat_split (c : Dev nD) (f : Buf (Elt F) (catM.view.loc (c : Thread nD τ))) (q : PosShare TreeShare) :
    (catM.view.loc (c : Thread nD τ) ↦{q} f : sProp 𝕄) = iprop(pPts true 0 c q f ∗ pPts false 0 c q f ∗ pPts true 1 c q f ∗ pPts false 1 c q f) := by
  have hcov : ((Finset.univ : Finset (Bool × Fin 2)).biUnion (pieceS c)) = Finset.univ := by
    refine Finset.eq_univ_of_forall fun (i : S3072x256.Idx) => ?_
    obtain ⟨x, hx⟩ := piece_ex i
    exact Finset.mem_biUnion.mpr ⟨x, Finset.mem_univ _, hx⟩
  have h : (catM.view.loc (c : Thread nD τ) ↦{q} f : sProp 𝕄) = bigSep (Finset.univ : Finset (Bool × Fin 2)) fun x => pPts x.1 x.2 c q f := by
    show (catM.view.loc (c : Thread nD τ) ↦[Finset.univ]{q} f : sProp 𝕄) = _
    rw [← hcov]
    exact pointsTo_biUnion _ _ fun x _ y _ hxy => piece_disjoint hxy
  rw [h, bigSep_univ_eq_bigSepL [(true, 0), (false, 0), (true, 1), (false, 1)] (by decide) (by decide)]
  rfl

/-! ## Whole loads and stores, slot loads -/

theorem z2 : (![0, 0] : Fin 2 → ℕ) = fun _ => 0 := funext fun a => by fin_cases a <;> rfl
theorem z3 : (![0, 0, 0] : Fin 3 → ℕ) = fun _ => 0 := funext fun a => by fin_cases a <;> rfl

/-- A load of a whole buffer, at any share. -/
theorem loadW {α : Type} {Ψ : α → sProp 𝕄} (c : Dev nD) {i : Fin (sig.nNear .tc .vmem)} {hκ : sig.names .tc .vmem i = true} {off : Fin (⟨.vmem, i, hκ⟩ : Ref sig .tc).ty.shape.rank → ℕ} (hz : off = fun _ => 0)
    {inb : ∀ a, off a + (⟨.vmem, i, hκ⟩ : Ref sig .tc).ty.shape.size a ≤ (⟨.vmem, i, hκ⟩ : Ref sig .tc).ty.shape.size a} {q : PosShare TreeShare} {f : Buf (Elt F) ((Memref.whole (⟨.vmem, i, hκ⟩ : Ref sig .tc)).view.loc (c : Thread nD τ))}
    {hl} {kk : Vec F (⟨.vmem, i, hκ⟩ : Ref sig .tc).ty.shape (⟨.vmem, i, hκ⟩ : Ref sig .tc).ty.elt → Prog (TpuEff nD τ sig (Elt F) Λ₀ .tc) α} :
    ((Memref.whole (⟨.vmem, i, hκ⟩ : Ref sig .tc)).view.loc (c : Thread nD τ) ↦{q} f : sProp 𝕄)
      ⊢ iprop((((Memref.whole (⟨.vmem, i, hκ⟩ : Ref sig .tc)).view.loc (c : Thread nD τ) ↦{q} f) -∗ wp frame (wpE (defs₀ (F := F)) 𝕍 c none) Set.univ (kk f) Ψ)
        -∗ wp frame (wpE (defs₀ (F := F)) 𝕍 c none) Set.univ (.op (.load (Memref.whole (⟨.vmem, i, hκ⟩ : Ref sig .tc)) (Rect.unit off (⟨.vmem, i, hκ⟩ : Ref sig .tc).ty.shape.size inb).toLoadRect hl) kk) Ψ) := by
  have h := wp_load (defs := defs₀ (F := F)) 𝕍 (c : Thread nD τ) none Set.univ (Γ := .empty) (Q := Ψ) (m := Memref.whole (⟨.vmem, i, hκ⟩ : Ref sig .tc))
    (r := (Rect.unit off (⟨.vmem, i, hκ⟩ : Ref sig .tc).ty.shape.size inb).toLoadRect) (hl := hl) (k := kk) (q := q) (f := f) (S := Finset.univ) (Finset.subset_univ _)
  rwa [Memref.readAt_unit_zero (Elt F) (⟨.vmem, i, hκ⟩ : Ref sig .tc) hz inb f] at h

/-- A store to a whole buffer. -/
theorem storeW {α : Type} {Ψ : α → sProp 𝕄} (c : Dev nD) {i : Fin (sig.nNear .tc .vmem)} {hκ : sig.names .tc .vmem i = true} {off : Fin (⟨.vmem, i, hκ⟩ : Ref sig .tc).ty.shape.rank → ℕ} (hz : off = fun _ => 0)
    {inb : ∀ a, off a + (⟨.vmem, i, hκ⟩ : Ref sig .tc).ty.shape.size a ≤ (⟨.vmem, i, hκ⟩ : Ref sig .tc).ty.shape.size a} {f : Buf (Elt F) ((Memref.whole (⟨.vmem, i, hκ⟩ : Ref sig .tc)).view.loc (c : Thread nD τ))} {w : Vec F (⟨.vmem, i, hκ⟩ : Ref sig .tc).ty.shape (⟨.vmem, i, hκ⟩ : Ref sig .tc).ty.elt}
    {hx hm} {kk : PUnit → Prog (TpuEff nD τ sig (Elt F) Λ₀ .tc) α} :
    ((Memref.whole (⟨.vmem, i, hκ⟩ : Ref sig .tc)).view.loc (c : Thread nD τ) ↦{fullShare} f : sProp 𝕄)
      ⊢ iprop((((Memref.whole (⟨.vmem, i, hκ⟩ : Ref sig .tc)).view.loc (c : Thread nD τ) ↦{fullShare} (w : Buf (Elt F) ((Memref.whole (⟨.vmem, i, hκ⟩ : Ref sig .tc)).view.loc (c : Thread nD τ)))) -∗ wp frame (wpE (defs₀ (F := F)) 𝕍 c none) Set.univ (kk ⟨⟩) Ψ)
        -∗ wp frame (wpE (defs₀ (F := F)) 𝕍 c none) Set.univ (.op (.store (Memref.whole (⟨.vmem, i, hκ⟩ : Ref sig .tc)) (Rect.unit off (⟨.vmem, i, hκ⟩ : Ref sig .tc).ty.shape.size inb) w Finset.univ hx hm) kk) Ψ) := by
  have h := wp_store (defs := defs₀ (F := F)) 𝕍 (c : Thread nD τ) none Set.univ (Γ := .empty) (Q := Ψ) (m := Memref.whole (⟨.vmem, i, hκ⟩ : Ref sig .tc))
    (r := Rect.unit off (⟨.vmem, i, hκ⟩ : Ref sig .tc).ty.shape.size inb) (w := w) (Mk := Finset.univ) (hx := hx) (hm := hm) (k := kk) (f := f) (S := Finset.univ) (Finset.subset_univ _)
  rwa [Memref.write_access_unit_zero_univ (Elt F) (⟨.vmem, i, hκ⟩ : Ref sig .tc) hz inb f w] at h

theorem slot_sub (b : Bool) (u : Fin 3) :
    (wM b).view.setOn (Rect.unit (s := S3x3072x128) ![u.val, 0, 0] S1x3072x128.size (inbS u)).toLoadRect.set
      ⊆ (chunkM (wM b) u 0).view.set ∪ (chunkM (wM b) u 1).view.set := by
  intro i hi
  obtain ⟨j, hj, rfl⟩ := Finset.mem_map.mp hi
  have hj' := Rect.mem_set_unit.mp hj
  have h0 := hj' 0
  have h1 : (j 1).val < 3072 := (j 1).isLt
  have h00 : u.val ≤ (j 0).val ∧ (j 0).val < u.val + 1 := h0
  rw [Finset.mem_union, mem_chunk, mem_chunk]
  show ((j 0).val = u.val ∧ (j 1).val / 1536 = 0) ∨ ((j 0).val = u.val ∧ (j 1).val / 1536 = 1)
  omega

theorem slot_read (b : Bool) (u : Fin 3) (c : Dev nD) :
    (wM b).view.readAt (Elt F) (Rect.unit (s := S3x3072x128) ![u.val, 0, 0] S1x3072x128.size (inbS u)).toLoadRect (WF wc b c) = slotV wc b u c := by
  have e : ∀ i : S1x3072x128.Idx, WA wc b c ((Rect.unit (s := S3x3072x128) ![u.val, 0, 0] S1x3072x128.size (inbS u)).emb i) = slotV wc b u c i := fun i => by
    have hi : (i 0).val < 1 := (i 0).isLt
    have a0 : ((Rect.unit (s := S3x3072x128) ![u.val, 0, 0] S1x3072x128.size (inbS u)).emb i 0).val = u.val := by
      show u.val + 1 * (i 0).val = u.val; omega
    have a1 : ((Rect.unit (s := S3x3072x128) ![u.val, 0, 0] S1x3072x128.size (inbS u)).emb i 1) = i 1 := Fin.ext (by show 0 + 1 * (i 1).val = (i 1).val; omega)
    have a2 : ((Rect.unit (s := S3x3072x128) ![u.val, 0, 0] S1x3072x128.size (inbS u)).emb i 2) = i 2 := Fin.ext (by show 0 + 1 * (i 2).val = (i 2).val; omega)
    unfold WA slotV
    rw [a0, a1, a2]
  funext i
  match b with
  | true => exact e i
  | false => exact e i

/-- A load of a landed slot. -/
theorem loadSlot {α : Type} {Ψ : α → sProp 𝕄} (c : Dev nD) (b : Bool) (u : Fin 3) {q : PosShare TreeShare}
    {hl} {kk : Vec F S1x3072x128 .bf16 → Prog (TpuEff nD τ sig (Elt F) Λ₀ .tc) α} :
    (iprop(cPts b u 0 c q (WF wc b c) ∗ cPts b u 1 c q (WF wc b c)) : sProp 𝕄)
      ⊢ iprop(((cPts b u 0 c q (WF wc b c) ∗ cPts b u 1 c q (WF wc b c)) -∗ wp frame (wpE (defs₀ (F := F)) 𝕍 c none) Set.univ (kk (slotV wc b u c)) Ψ)
        -∗ wp frame (wpE (defs₀ (F := F)) 𝕍 c none) Set.univ
          (.op (.load (wM b) (Rect.unit (s := S3x3072x128) ![u.val, 0, 0] S1x3072x128.size (inbS u)).toLoadRect hl) kk) Ψ) := by
  have hd : Disjoint (chunkM (wM b) u 0).view.set (chunkM (wM b) u 1).view.set :=
    chunk_disjoint (wM b) (x := (u, 0)) (y := (u, 1)) (by simp)
  have h := wp_load (defs := defs₀ (F := F)) 𝕍 (c : Thread nD τ) none Set.univ (Γ := .empty) (Q := Ψ) (m := wM b)
    (r := (Rect.unit (s := S3x3072x128) ![u.val, 0, 0] S1x3072x128.size (inbS u)).toLoadRect) (hl := hl) (k := kk) (q := q) (f := WF wc b c) (slot_sub b u)
  rw [slot_read wc b u c] at h
  iintro H Hk
  ihave H' := ((pointsTo_union hd).2) $$ H
  iapply h $$ [H']
  · iexact H'
  iintro H
  iapply Hk
  iapply ((pointsTo_union hd).1); iexact H

/-! ## The context buffer -/

abbrev ctxM : Memref sig .tc .vmem S512x256 .bf16 := Memref.whole cc0_scratch2

theorem inbT (i : Fin 2) (j : Fin 4) : ∀ a, (![256 * i.val, 64 * j.val] : Fin 2 → ℕ) a + S256x64.size a ≤ S512x256.size a := by
  revert i j; decide
abbrev tileR (i : Fin 2) (j : Fin 4) : Rect S512x256 := Rect.unit (s := S512x256) ![256 * i.val, 64 * j.val] S256x64.size (inbT i j)

/-- The buffer with tile `(i, j)` overwritten. -/
def put (f : Vec F S512x256 .bf16) (i : Fin 2) (j : Fin 4) (w : Vec F S256x64 .bf16) : Vec F S512x256 .bf16 :=
  (ctxM.access (tileR i j)).write (Elt F) f w Finset.univ

/-- The context buffer of device `c` at contents `f`. -/
abbrev ctxP (c : Dev nD) (f : Vec F S512x256 .bf16) : sProp 𝕄 := ctxM.view.loc (c : Thread nD τ) ↦{fullShare} (f : Buf (Elt F) (ctxM.view.loc (c : Thread nD τ)))

theorem tile_emb (i : Fin 2) (j : Fin 4) (p : Fin 256) (q : Fin 64) :
    (ctxM.access (tileR i j)).emb (ix2 p q) = (ix2 (⟨256 * i.val + p.val, by have := i.isLt; have := p.isLt; omega⟩ : Fin 512)
      (⟨64 * j.val + q.val, by have := j.isLt; have := q.isLt; omega⟩ : Fin 256) : S512x256.Idx) := by
  funext a
  refine Fin.ext ?_
  match a with
  | ⟨0, _⟩ => show 256 * i.val + 1 * p.val = 256 * i.val + p.val; omega
  | ⟨1, _⟩ => show 64 * j.val + 1 * q.val = 64 * j.val + q.val; omega

/-- The place in its tile. -/
def inTile (t : S512x256.Idx) : S256x64.Idx :=
  ix2 (⟨(t 0).val % 256, Nat.mod_lt _ (by decide)⟩ : Fin 256) (⟨(t 1).val % 64, Nat.mod_lt _ (by decide)⟩ : Fin 64)

theorem put_apply (f : Vec F S512x256 .bf16) (i : Fin 2) (j : Fin 4) (w : Vec F S256x64 .bf16) (t : S512x256.Idx) :
    put f i j w t = if (t 0).val / 256 = i.val ∧ (t 1).val / 64 = j.val then w (inTile t) else f t := by
  unfold put
  split
  next h =>
    have e := tile_emb i j ⟨(t 0).val % 256, Nat.mod_lt _ (by decide)⟩ ⟨(t 1).val % 64, Nat.mod_lt _ (by decide)⟩
    have e2 : (ctxM.access (tileR i j)).emb (inTile t) = t := by
      refine Eq.trans e ?_
      funext a
      refine Fin.ext ?_
      match a with
      | ⟨0, _⟩ => show 256 * i.val + (t 0).val % 256 = (t 0).val; omega
      | ⟨1, _⟩ => show 64 * j.val + (t 1).val % 64 = (t 1).val; omega
    exact (congrArg _ e2.symm).trans (View.write_emb_of_mem _ _ (Finset.mem_univ _))
  next h =>
    refine View.write_of_not_mem _ _ _ fun hm => h ?_
    obtain ⟨x, -, hx⟩ := Finset.mem_map.mp hm
    obtain ⟨p, q, rfl⟩ : ∃ p q, x = ix2 p q := ⟨x 0, x 1, eq_ix2 x⟩
    have e := (tile_emb i j p q).symm.trans hx
    subst e
    have hp := p.isLt
    have hq := q.isLt
    exact ⟨by show (256 * i.val + p.val) / 256 = i.val; omega, by show (64 * j.val + q.val) / 64 = j.val; omega⟩

/-- A load of one tile: what it reads is not used. -/
theorem loadT {α : Type} {Ψ : α → sProp 𝕄} (c : Dev nD) (i : Fin 2) (j : Fin 4) {f : Vec F S512x256 .bf16}
    {hl} {kk : Vec F S256x64 .bf16 → Prog (TpuEff nD τ sig (Elt F) Λ₀ .tc) α} :
    (ctxP c f : sProp 𝕄)
      ⊢ iprop((∀ v, ctxP c f -∗ wp frame (wpE (defs₀ (F := F)) 𝕍 c none) Set.univ (kk v) Ψ)
        -∗ wp frame (wpE (defs₀ (F := F)) 𝕍 c none) Set.univ (.op (.load ctxM (tileR i j).toLoadRect hl) kk) Ψ) := by
  have h := wp_load (defs := defs₀ (F := F)) 𝕍 (c : Thread nD τ) none Set.univ (Γ := .empty) (Q := Ψ) (m := ctxM)
    (r := (tileR i j).toLoadRect) (hl := hl) (k := kk) (q := fullShare) (f := f) (S := Finset.univ) (Finset.subset_univ _)
  iintro H Hk
  iapply h $$ [H]
  · iexact H
  iapply Hk

/-- A store to one tile. -/
theorem storeT {α : Type} {Ψ : α → sProp 𝕄} (c : Dev nD) (i : Fin 2) (j : Fin 4) {f : Vec F S512x256 .bf16} {w : Vec F S256x64 .bf16}
    {hx hm} {kk : PUnit → Prog (TpuEff nD τ sig (Elt F) Λ₀ .tc) α} :
    (ctxP c f : sProp 𝕄)
      ⊢ iprop((ctxP c (put f i j w) -∗ wp frame (wpE (defs₀ (F := F)) 𝕍 c none) Set.univ (kk ⟨⟩) Ψ)
        -∗ wp frame (wpE (defs₀ (F := F)) 𝕍 c none) Set.univ (.op (.store ctxM (tileR i j) w Finset.univ hx hm) kk) Ψ) :=
  wp_store (defs := defs₀ (F := F)) 𝕍 (c : Thread nD τ) none Set.univ (Γ := .empty) (Q := Ψ) (m := ctxM)
    (r := tileR i j) (w := w) (Mk := Finset.univ) (hx := hx) (hm := hm) (k := kk) (f := f) (S := Finset.univ) (Finset.subset_univ _)

theorem inbH : ∀ a, (![0, 0] : Fin 2 → ℕ) a + S512x128.size a ≤ S512x256.size a := by decide
abbrev halfR : Rect S512x256 := Rect.unit (s := S512x256) ![0, 0] S512x128.size inbH

/-- The left half of the buffer. -/
def leftHalf (f : Vec F S512x256 .bf16) : Vec F S512x128 .bf16 :=
  fun t => f (ix2 (t 0) (⟨(t 1).val, lt_trans (t 1).isLt (by decide)⟩ : Fin 256))

/-- A load of the left half of the context buffer. -/
theorem loadH {α : Type} {Ψ : α → sProp 𝕄} (c : Dev nD) {f : Vec F S512x256 .bf16}
    {hl} {kk : Vec F S512x128 .bf16 → Prog (TpuEff nD τ sig (Elt F) Λ₀ .tc) α} :
    (ctxP c f : sProp 𝕄)
      ⊢ iprop((ctxP c f -∗ wp frame (wpE (defs₀ (F := F)) 𝕍 c none) Set.univ (kk (leftHalf f)) Ψ)
        -∗ wp frame (wpE (defs₀ (F := F)) 𝕍 c none) Set.univ (.op (.load ctxM halfR.toLoadRect hl) kk) Ψ) := by
  have h := wp_load (defs := defs₀ (F := F)) 𝕍 (c : Thread nD τ) none Set.univ (Γ := .empty) (Q := Ψ) (m := ctxM)
    (r := halfR.toLoadRect) (hl := hl) (k := kk) (q := fullShare) (f := f) (S := Finset.univ) (Finset.subset_univ _)
  have e : ctxM.view.readAt (Elt F) halfR.toLoadRect f = leftHalf f := by
    funext t
    show f (halfR.emb t) = f _
    congr 1
    funext a
    refine Fin.ext ?_
    match a with
    | ⟨0, _⟩ => show 0 + 1 * (t 0).val = (t 0).val; omega
    | ⟨1, _⟩ => show 0 + 1 * (t 1).val = (t 1).val; omega
  rwa [e] at h

/-- Eight tiles side by side. -/
def tile8 (w : Fin 2 → Fin 4 → Vec F S256x64 .bf16) : Vec F S512x256 .bf16 := fun t =>
  w ⟨(t 0).val / 256, by have : (t 0).val < 512 := (t 0).isLt; omega⟩ ⟨(t 1).val / 64, by have : (t 1).val < 256 := (t 1).isLt; omega⟩ (inTile t)
/-- Four tiles side by side. -/
def tile4 (w : Fin 2 → Fin 2 → Vec F S256x64 .bf16) : Vec F S512x128 .bf16 := fun t =>
  w ⟨(t 0).val / 256, by have : (t 0).val < 512 := (t 0).isLt; omega⟩ ⟨(t 1).val / 64, by have : (t 1).val < 128 := (t 1).isLt; omega⟩
    (ix2 (⟨(t 0).val % 256, Nat.mod_lt _ (by decide)⟩ : Fin 256) (⟨(t 1).val % 64, Nat.mod_lt _ (by decide)⟩ : Fin 64))

theorem pick8 {α : Type} (w : Fin 2 → Fin 4 → α) (z : α) {a b : ℕ} (ha : a < 2) (hb : b < 4) :
    (if a = 1 ∧ b = 3 then w 1 3 else if a = 1 ∧ b = 2 then w 1 2 else if a = 1 ∧ b = 1 then w 1 1 else if a = 1 ∧ b = 0 then w 1 0
      else if a = 0 ∧ b = 3 then w 0 3 else if a = 0 ∧ b = 2 then w 0 2 else if a = 0 ∧ b = 1 then w 0 1 else if a = 0 ∧ b = 0 then w 0 0 else z)
      = w ⟨a, ha⟩ ⟨b, hb⟩ := by
  interval_cases a <;> interval_cases b <;> rfl
theorem pick4 {α : Type} (w : Fin 2 → Fin 2 → α) (z : α) {a b : ℕ} (ha : a < 2) (hb : b < 2) :
    (if a = 1 ∧ b = 1 then w 1 1 else if a = 1 ∧ b = 0 then w 1 0 else if a = 0 ∧ b = 1 then w 0 1 else if a = 0 ∧ b = 0 then w 0 0 else z)
      = w ⟨a, ha⟩ ⟨b, hb⟩ := by
  interval_cases a <;> interval_cases b <;> rfl

theorem put8 (f : Vec F S512x256 .bf16) (w : Fin 2 → Fin 4 → Vec F S256x64 .bf16) :
    put (put (put (put (put (put (put (put f 0 0 (w 0 0)) 0 1 (w 0 1)) 0 2 (w 0 2)) 0 3 (w 0 3)) 1 0 (w 1 0)) 1 1 (w 1 1)) 1 2 (w 1 2)) 1 3 (w 1 3) = tile8 w := by
  funext t
  have h0 : (t 0).val < 512 := (t 0).isLt
  have h1 : (t 1).val < 256 := (t 1).isLt
  simp only [put_apply]
  exact pick8 (fun i j => w i j (inTile t)) (f t) (by omega) (by omega)

theorem put4 (f : Vec F S512x256 .bf16) (w : Fin 2 → Fin 2 → Vec F S256x64 .bf16) :
    leftHalf (put (put (put (put f 0 0 (w 0 0)) 0 1 (w 0 1)) 1 0 (w 1 0)) 1 1 (w 1 1)) = tile4 w := by
  funext t
  have h0 : (t 0).val < 512 := (t 0).isLt
  have h1 : (t 1).val < 128 := (t 1).isLt
  unfold leftHalf
  simp only [put_apply]
  have e0 : (t 0).val / 256 < 2 := by omega
  have e1 : (t 1).val / 64 < 2 := by omega
  exact pick4 (fun i j => w i j (ix2 (⟨(t 0).val % 256, Nat.mod_lt _ (by decide)⟩ : Fin 256) (⟨(t 1).val % 64, Nat.mod_lt _ (by decide)⟩ : Fin 64)))
    _ e0 e1

end Cert.KernelIdeal.Talk

end
-- ==== Proof.KernelIdeal.Spec.lean ====
/-
# What the body computes, in a few named functions

The printed payloads are cut by the printer's parts; here they are put together again: one head on one batch, all
heads of the own block, the two heads of a travelling half block, and the accumulator they are added to.
-/
module

public import proofs.«01_k».proof.Proof.KernelIdeal.Places

@[expose] public section

noncomputable section

namespace Cert.KernelIdeal.Talk

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- One head on one batch: exponentials of the scaled scores, their product with `v`, divided by their row sums. -/
def headOf (q k v : FVec F S256x64 .bf16) : FVec F S256x64 .bf16 :=
  let e : FVec F S256x256 .f32 := exp (mulf (matmul dot_S256x64_S256x64_S256x256_1_1_0_0_n_n none q k (constant S256x256 .f32 0x00000000#32))
    (broadcast S256x256 (Scalar.ofBits .f32 0x3E000000#32 : F .f32)))
  shapeCast S256x64 (truncf .bf16
    (divf (matmul dot_S256x256_S256x64_S256x64_1_0_0_1_n_n none (truncf .bf16 e bitsLt_bf16_f32) v (constant S256x64 .f32 0x00000000#32))
      (broadcastTo S256x64 (shapeCast S256x1 (multiReduction .add [1] S256 e 0x00000000#32 reduces_S256x256_S256 (.inl rfl) rfl) shapeCasts_S256_S256x1)
        broadcasts_S256x1_S256x64)) bitsLt_bf16_f32) shapeCasts_S256x64_S256x64

/-! ## The own block: four heads -/

theorem sl8_ok (i : Fin 2) (j : Fin 4) : S512x256.Slices ![256 * i.val, 64 * j.val] S256x64 := by revert i j; decide
/-- The rows of batch `i` and the columns of head `j`. -/
def sl8 (A : FVec F S512x256 .bf16) (i : Fin 2) (j : Fin 4) : FVec F S256x64 .bf16 := extractStridedSlice S256x64 ![256 * i.val, 64 * j.val] A (sl8_ok i j)
/-- The projection by the 768 rows of the block from row `o` on. -/
def ownProj (xb : FVec F S512x768 .bf16) (w : FVec F S3072x256 .bf16) (o : ℕ) (h : S3072x256.Slices ![o, 0] S768x256) : FVec F S512x256 .f32 :=
  matmul dot_S512x768_S768x256_S512x256_1_0_0_1_n_n none xb (extractStridedSlice S768x256 ![o, 0] w h) (constant S512x256 .f32 0x00000000#32)
/-- The rotation of the position: `u · cos + (u · pm) · sin`. -/
def ownRot (cs sn : Vec F S512x256 .f32) (pm : FVec F S256x256 .bf16) (u : FVec F S512x256 .f32) : FVec F S512x256 .bf16 :=
  truncf .bf16 (addf (mulf u cs) (mulf (matmul dot_S512x256_S256x256_S512x256_1_0_0_1_n_n none (truncf .bf16 u bitsLt_bf16_f32) pm
    (constant S512x256 .f32 0x00000000#32)) sn)) bitsLt_bf16_f32
/-- The contexts of the own block's four heads on the two batches. -/
def ownCtx (xb : FVec F S512x768 .bf16) (cs sn : Vec F S512x256 .f32) (pm : FVec F S256x256 .bf16) (w : FVec F S3072x256 .bf16) (i : Fin 2) (j : Fin 4) :
    FVec F S256x64 .bf16 :=
  headOf (sl8 (ownRot cs sn pm (ownProj xb w 0 slices_S3072x256_o0_0_S768x256)) i j)
    (sl8 (ownRot cs sn pm (ownProj xb w 768 slices_S3072x256_o768_0_S768x256)) i j)
    (sl8 (truncf .bf16 (ownProj xb w 1536 slices_S3072x256_o1536_0_S768x256) bitsLt_bf16_f32) i j)
/-- The own block's contribution to the output. -/
def ownAcc (xb : FVec F S512x768 .bf16) (cs sn : Vec F S512x256 .f32) (pm : FVec F S256x256 .bf16) (w : FVec F S3072x256 .bf16) : FVec F S512x768 .f32 :=
  matmul dot_S512x256_S768x256_S512x768_1_1_0_0_n_n none (tile8 (ownCtx xb cs sn pm w) : FVec F S512x256 .bf16)
    (extractStridedSlice S768x256 ![2304, 0] w slices_S3072x256_o2304_0_S768x256) (constant S512x768 .f32 0x00000000#32)

/-! ## A travelling half block: two heads -/

theorem sl4_ok (i : Fin 2) (j : Fin 2) : S512x128.Slices ![256 * i.val, 64 * j.val] S256x64 := by revert i j; decide
/-- The rows of batch `i` and the columns of head `j` of the half block. -/
def sl4 (A : FVec F S512x128 .bf16) (i : Fin 2) (j : Fin 2) : FVec F S256x64 .bf16 := extractStridedSlice S256x64 ![256 * i.val, 64 * j.val] A (sl4_ok i j)
/-- The projection by the 768 rows of the half block from row `o` on. -/
def halfProj (xb : FVec F S512x768 .bf16) (w : FVec F S3072x128 .bf16) (o : ℕ) (h : S3072x128.Slices ![o, 0] S768x128) : FVec F S512x128 .f32 :=
  matmul dot_S512x768_S768x128_S512x128_1_0_0_1_n_n none xb (extractStridedSlice S768x128 ![o, 0] w h) (constant S512x128 .f32 0x00000000#32)
/-- The rotation of the position on a half block's columns. -/
def halfRot (cs sn : Vec F S512x256 .f32) (pm : FVec F S256x256 .bf16) (u : FVec F S512x128 .f32) : FVec F S512x128 .bf16 :=
  truncf .bf16 (addf (mulf u (extractStridedSlice S512x128 ![0, 0] (cs : FVec F S512x256 .f32) slices_S512x256_o0_0_S512x128))
    (mulf (matmul dot_S512x128_S128x128_S512x128_1_0_0_1_n_n none (truncf .bf16 u bitsLt_bf16_f32)
      (extractStridedSlice S128x128 ![0, 0] pm slices_S256x256_o0_0_S128x128) (constant S512x128 .f32 0x00000000#32))
      (extractStridedSlice S512x128 ![0, 0] (sn : FVec F S512x256 .f32) slices_S512x256_o0_0_S512x128))) bitsLt_bf16_f32
/-- The contexts of a half block's two heads on the two batches. -/
def halfCtx (xb : FVec F S512x768 .bf16) (cs sn : Vec F S512x256 .f32) (pm : FVec F S256x256 .bf16) (w : FVec F S3072x128 .bf16) (i : Fin 2) (j : Fin 2) :
    FVec F S256x64 .bf16 :=
  headOf (sl4 (halfRot cs sn pm (halfProj xb w 0 slices_S3072x128_o0_0_S768x128)) i j)
    (sl4 (halfRot cs sn pm (halfProj xb w 768 slices_S3072x128_o768_0_S768x128)) i j)
    (sl4 (truncf .bf16 (halfProj xb w 1536 slices_S3072x128_o1536_0_S768x128) bitsLt_bf16_f32) i j)
/-- The accumulator after a half block held in `slot`. -/
def halfAcc (xb : FVec F S512x768 .bf16) (cs sn : Vec F S512x256 .f32) (pm : FVec F S256x256 .bf16) (acc : FVec F S512x768 .f32)
    (slot : Vec F S1x3072x128 .bf16) : FVec F S512x768 .f32 :=
  let w : FVec F S3072x128 .bf16 := shapeCast S3072x128 slot shapeCasts_S1x3072x128_S3072x128
  addf acc (matmul dot_S512x128_S768x128_S512x768_1_1_0_0_n_n none (tile4 (halfCtx xb cs sn pm w) : FVec F S512x128 .bf16)
    (extractStridedSlice S768x128 ![2304, 0] w slices_S3072x128_o2304_0_S768x128) (constant S512x768 .f32 0x00000000#32))

/-- What device `c` writes: its own block's contribution, then those of the six half blocks in the order they arrive. -/
def outV (wc : Dev nD → Vec F S3072x256 .bf16) (c : Dev nD) (x : Vec F S2x256x768 .f32) (cs sn : Vec F S512x256 .f32) (pm : Vec F S256x256 .bf16) : Vec F S2x256x768 .f32 :=
  let h := fun acc b u => halfAcc (k0_pay2 x) cs sn (k0_pay3 pm) acc (slotV wc b u c)
  k0_pay1 (h (h (h (h (h (h (ownAcc (k0_pay2 x) cs sn (k0_pay3 pm) (k0_pay4 (wc c))) true 0) false 0) true 1) false 1) true 2) false 2)

/-! ## The printed values are these functions -/

/-- The own block's accumulator as printed is `ownAcc`. -/
theorem own_eq (x : Vec F S2x256x768 .f32) (cs sn : Vec F S512x256 .f32) (pm : Vec F S256x256 .bf16) (w : Vec F S3072x256 .bf16) (f : Vec F S512x256 .bf16) :
    (k0_pay21 (k0_pay4 w) (put (put (put (put (put (put (put (put f 0 0 (k0_pay9 (k0_pay8 x cs sn pm w))) 0 1 (k0_pay10 (k0_pay5 x w) (k0_pay6 x cs sn pm w) (k0_pay7 x cs sn pm w))) 0 2 (k0_pay11 (k0_pay5 x w) (k0_pay6 x cs sn pm w) (k0_pay7 x cs sn pm w))) 0 3 (k0_pay15 (k0_pay12 (k0_pay5 x w)) (k0_pay13 (k0_pay6 x cs sn pm w) (k0_pay7 x cs sn pm w)) (k0_pay14 (F := F)))) 1 0 (k0_pay16 (k0_pay5 x w) (k0_pay6 x cs sn pm w) (k0_pay7 x cs sn pm w))) 1 1 (k0_pay18 (k0_pay17 (k0_pay5 x w) (k0_pay6 x cs sn pm w) (k0_pay7 x cs sn pm w)))) 1 2 (k0_pay19 (k0_pay5 x w) (k0_pay6 x cs sn pm w) (k0_pay7 x cs sn pm w))) 1 3 (k0_pay20 (k0_pay5 x w) (k0_pay6 x cs sn pm w) (k0_pay7 x cs sn pm w)))) = ownAcc (k0_pay2 x) cs sn (k0_pay3 pm) (k0_pay4 w) :=
  (congrArg (fun t => k0_pay21 (k0_pay4 w) t) (put8 f (ownCtx (k0_pay2 x) cs sn (k0_pay3 pm) (k0_pay4 w)))).trans rfl
theorem half_eq1 (xb : FVec F S512x768 .bf16) (cs sn : Vec F S512x256 .f32) (pm : FVec F S256x256 .bf16) (acc : FVec F S512x768 .f32) (slot : Vec F S1x3072x128 .bf16) (f : Vec F S512x256 .bf16) :
    k0_pay37 acc (leftHalf (put (put (put (put f 0 0 (k0_pay31 xb (k0_pay22 slot) (k0_pay23 cs) (k0_pay24 sn) (k0_pay25 pm) (k0_pay26 xb slot) (k0_pay27 slot) (constant S512x128 .f32 0x00000000#32 : FVec F S512x128 .f32))) 0 1 (k0_pay33 (k0_pay32 xb (k0_pay22 slot) (k0_pay23 cs) (k0_pay24 sn) (k0_pay25 pm) (k0_pay26 xb slot) (k0_pay27 slot) (constant S512x128 .f32 0x00000000#32 : FVec F S512x128 .f32)))) 1 0 (k0_pay34 (k0_pay28 xb (k0_pay22 slot)) (k0_pay29 (k0_pay23 cs) (k0_pay24 sn) (k0_pay25 pm) (k0_pay26 xb slot)) (k0_pay30 xb (k0_pay23 cs) (k0_pay24 sn) (k0_pay25 pm) (k0_pay27 slot) (constant S512x128 .f32 0x00000000#32 : FVec F S512x128 .f32)))) 1 1 (k0_pay35 (k0_pay28 xb (k0_pay22 slot)) (k0_pay29 (k0_pay23 cs) (k0_pay24 sn) (k0_pay25 pm) (k0_pay26 xb slot)) (k0_pay30 xb (k0_pay23 cs) (k0_pay24 sn) (k0_pay25 pm) (k0_pay27 slot) (constant S512x128 .f32 0x00000000#32 : FVec F S512x128 .f32))))) (k0_pay36 (k0_pay22 slot)) (constant S512x768 .f32 0x00000000#32 : FVec F S512x768 .f32) = halfAcc xb cs sn pm acc slot :=
  (congrArg (fun t => k0_pay37 acc t (k0_pay36 (k0_pay22 slot)) (constant S512x768 .f32 0x00000000#32 : FVec F S512x768 .f32)) (put4 f (halfCtx xb cs sn pm (shapeCast S3072x128 slot shapeCasts_S1x3072x128_S3072x128)))).trans rfl
theorem half_eq2 (xb : FVec F S512x768 .bf16) (cs sn : Vec F S512x256 .f32) (pm : FVec F S256x256 .bf16) (acc : FVec F S512x768 .f32) (slot : Vec F S1x3072x128 .bf16) (f : Vec F S512x256 .bf16) :
    k0_pay54 acc (k0_pay38 slot) (leftHalf (put (put (put (put f 0 0 (k0_pay48 (k0_pay43 xb slot) (k0_pay44 xb cs sn pm slot) (k0_pay45 xb cs slot) (k0_pay46 xb sn pm slot))) 0 1 (k0_pay49 (k0_pay43 xb slot) (k0_pay44 xb cs sn pm slot) (k0_pay45 xb cs slot) (k0_pay46 xb sn pm slot))) 1 0 (k0_pay52 (k0_pay50 (k0_pay43 xb slot)) (k0_pay51 (k0_pay44 xb cs sn pm slot) (k0_pay45 xb cs slot) (k0_pay46 xb sn pm slot)))) 1 1 (k0_pay53 (k0_pay43 xb slot) (k0_pay44 xb cs sn pm slot) (k0_pay47 (k0_pay45 xb cs slot) (k0_pay46 xb sn pm slot))))) = halfAcc xb cs sn pm acc slot :=
  (congrArg (fun t => k0_pay54 acc (k0_pay38 slot) t) (put4 f (halfCtx xb cs sn pm (shapeCast S3072x128 slot shapeCasts_S1x3072x128_S3072x128)))).trans rfl
theorem half_eq3 (xb : FVec F S512x768 .bf16) (cs sn : Vec F S512x256 .f32) (pm : FVec F S256x256 .bf16) (acc : FVec F S512x768 .f32) (slot : Vec F S1x3072x128 .bf16) (f : Vec F S512x256 .bf16) :
    k0_pay72 acc (k0_pay55 slot) (leftHalf (put (put (put (put f 0 0 (k0_pay65 (k0_pay63 xb cs sn pm slot) (k0_pay64 xb cs sn pm slot))) 0 1 (k0_pay66 (k0_pay59 xb slot) (k0_pay60 xb cs sn pm slot) (k0_pay61 xb cs sn pm slot))) 1 0 (k0_pay67 (k0_pay59 xb slot) (k0_pay60 xb cs sn pm slot) (k0_pay61 xb cs sn pm slot))) 1 1 (k0_pay71 (k0_pay68 (k0_pay60 xb cs sn pm slot)) (k0_pay69 (k0_pay61 xb cs sn pm slot)) (k0_pay70 (k0_pay59 xb slot))))) = halfAcc xb cs sn pm acc slot :=
  (congrArg (fun t => k0_pay72 acc (k0_pay55 slot) t) (put4 f (halfCtx xb cs sn pm (shapeCast S3072x128 slot shapeCasts_S1x3072x128_S3072x128)))).trans rfl
theorem half_eq4 (xb : FVec F S512x768 .bf16) (cs sn : Vec F S512x256 .f32) (pm : FVec F S256x256 .bf16) (acc : FVec F S512x768 .f32) (slot : Vec F S1x3072x128 .bf16) (f : Vec F S512x256 .bf16) :
    k0_pay87 acc (k0_pay73 slot) (leftHalf (put (put (put (put f 0 0 (k0_pay80 (k0_pay77 xb slot) (k0_pay78 xb cs sn pm slot) (k0_pay79 xb cs sn pm slot))) 0 1 (k0_pay81 (k0_pay77 xb slot) (k0_pay78 xb cs sn pm slot) (k0_pay79 xb cs sn pm slot))) 1 0 (k0_pay85 (k0_pay82 (k0_pay77 xb slot)) (k0_pay83 (k0_pay78 xb cs sn pm slot) (k0_pay79 xb cs sn pm slot)) (k0_pay84 (k0_pay78 xb cs sn pm slot) (k0_pay79 xb cs sn pm slot)))) 1 1 (k0_pay86 (k0_pay77 xb slot) (k0_pay78 xb cs sn pm slot) (k0_pay79 xb cs sn pm slot)))) = halfAcc xb cs sn pm acc slot :=
  (congrArg (fun t => k0_pay87 acc (k0_pay73 slot) t) (put4 f (halfCtx xb cs sn pm (shapeCast S3072x128 slot shapeCasts_S1x3072x128_S3072x128)))).trans rfl
theorem half_eq5 (xb : FVec F S512x768 .bf16) (cs sn : Vec F S512x256 .f32) (pm : FVec F S256x256 .bf16) (acc : FVec F S512x768 .f32) (slot : Vec F S1x3072x128 .bf16) (f : Vec F S512x256 .bf16) :
    k0_pay105 acc (k0_pay88 slot) (leftHalf (put (put (put (put f 0 0 (k0_pay98 (k0_pay95 xb cs sn pm slot) (k0_pay96 xb cs sn pm slot) (k0_pay97 xb slot))) 0 1 (k0_pay99 (k0_pay92 xb slot) (k0_pay93 xb cs sn pm slot) (k0_pay94 xb cs sn pm slot))) 1 0 (k0_pay103 (k0_pay101 (k0_pay93 xb cs sn pm slot) (k0_pay94 xb cs sn pm slot)) (k0_pay102 (k0_pay92 xb slot) (k0_pay93 xb cs sn pm slot) (k0_pay94 xb cs sn pm slot)))) 1 1 (k0_pay104 (k0_pay92 xb slot) (k0_pay93 xb cs sn pm slot) (k0_pay94 xb cs sn pm slot)))) = halfAcc xb cs sn pm acc slot :=
  (congrArg (fun t => k0_pay105 acc (k0_pay88 slot) t) (put4 f (halfCtx xb cs sn pm (shapeCast S3072x128 slot shapeCasts_S1x3072x128_S3072x128)))).trans rfl
theorem half_eq6 (xb : FVec F S512x768 .bf16) (cs sn : Vec F S512x256 .f32) (pm : FVec F S256x256 .bf16) (acc : FVec F S512x768 .f32) (slot : Vec F S1x3072x128 .bf16) (f : Vec F S512x256 .bf16) :
    k0_pay120 acc (k0_pay106 slot) (leftHalf (put (put (put (put f 0 0 (k0_pay115 (k0_pay113 xb slot) (k0_pay114 xb cs sn pm slot) (Scalar.ofBits .f32 0x3E000000#32 : F .f32))) 0 1 (k0_pay116 (k0_pay110 xb slot) (k0_pay111 xb cs sn pm slot) (k0_pay112 xb cs sn pm slot))) 1 0 (k0_pay118 (k0_pay117 (k0_pay110 xb slot) (k0_pay111 xb cs sn pm slot) (k0_pay112 xb cs sn pm slot)))) 1 1 (k0_pay119 (k0_pay110 xb slot) (k0_pay111 xb cs sn pm slot) (k0_pay112 xb cs sn pm slot)))) = halfAcc xb cs sn pm acc slot :=
  (congrArg (fun t => k0_pay120 acc (k0_pay106 slot) t) (put4 f (halfCtx xb cs sn pm (shapeCast S3072x128 slot shapeCasts_S1x3072x128_S3072x128)))).trans rfl

end Cert.KernelIdeal.Talk

end
-- ==== Proof.KernelIdeal.PartsA.lean ====
/-
# The parts of the body, one by one: the own block
-/
module

public import proofs.«01_k».proof.Proof.KernelIdeal.Places

@[expose] public section

noncomputable section

namespace Cert.KernelIdeal.Talk

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (wc : Dev nD → Vec F S3072x256 .bf16)
variable (K : GSem nD τ sig → ℕ) (c : Dev nD)

/-- A staging buffer of device `c` at contents `v`. -/
abbrev stgP (c : Dev nD) (r : Ref sig .tc) (v : Buf (Elt F) ((Memref.whole r).view.loc (c : Thread nD τ))) : sProp 𝕄 :=
  (Memref.whole r).view.loc (c : Thread nD τ) ↦{fullShare} v
/-- The left share of the staged own block: what the loads read, while the right share is lent to the transfers. -/
abbrev catL (c : Dev nD) (f : Buf (Elt F) (catM.view.loc (c : Thread nD τ))) : sProp 𝕄 := catM.view.loc (c : Thread nD τ) ↦{fullShare.left} f

set_option maxHeartbeats 1000000 in
theorem part2 (v5 : BitVec 32) (v7 : BitVec 32) (v22 : BitVec 32) (xv : Vec F S2x256x768 .f32) {Ψ : _ → sProp 𝕄} :
    (iprop(env wc K c ∗ env2 c ∗ S0 false 0 0 c ∗ owesL c [(false, 0, 0), (true, 0, 1), (false, 0, 1), (true, 1, 0), (false, 1, 0), (true, 1, 1), (false, 1, 1), (true, 2, 0), (true, 2, 1), (false, 2, 0), (false, 2, 1)] ∗ pPts false 0 c fullShare.right (catF wc c) ∗ S0 true 0 1 c ∗ pPts true 1 c fullShare.right (catF wc c) ∗ S0 false 0 1 c ∗ pPts false 1 c fullShare.right (catF wc c) ∗ stgP c cc0_stg0_0 xv) : sProp 𝕄)
      ⊢ iprop(((S1 false 0 0 c ∗ owesL c [(true, 1, 0), (false, 1, 0), (true, 1, 1), (false, 1, 1), (true, 2, 0), (true, 2, 1), (false, 2, 0), (false, 2, 1)] ∗ S1 true 0 1 c ∗ S1 false 0 1 c ∗ stgP c cc0_stg0_0 xv) -∗ Ψ (xv))
        -∗ wp frame (wpE (defs₀ (F := F)) 𝕍 c none) Set.univ (k0_part2 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 c v5 v7 v22) Ψ) := by
  simp only [k0_part2_eq_skeleton]; unfold k0_part2_skel
  simp only [semSignalWord, semWaitWord, Prog.lift, Prog.bind_op, Prog.bind_ret, Prog.pure_eq_ret, Prog.bind_assoc]
  iintro ⟨#HE, #HE2, Sf00, HO, Pf0, St01, Pt1, Sf01, Pf1, HX⟩ Hk
  iapply (send0 wc K c false 0 [(true, 0, 1), (false, 0, 1), (true, 1, 0), (false, 1, 0), (true, 1, 1), (false, 1, 1), (true, 2, 0), (true, 2, 1), (false, 2, 0), (false, 2, 1)] (dev4_eq c)) $$ [Sf00 Pf0 HO]
  · isplitr; · iexact HE
    isplitr; · iexact HE2
    isplitl [Sf00]; · iexact Sf00
    isplitl [Pf0]; · iexact Pf0
    iexact HO
  iintro ⟨Sf00, HO⟩
  iapply (send0 wc K c true 1 [(false, 0, 1), (true, 1, 0), (false, 1, 0), (true, 1, 1), (false, 1, 1), (true, 2, 0), (true, 2, 1), (false, 2, 0), (false, 2, 1)] (dev5_eq c)) $$ [St01 Pt1 HO]
  · isplitr; · iexact HE
    isplitr; · iexact HE2
    isplitl [St01]; · iexact St01
    isplitl [Pt1]; · iexact Pt1
    iexact HO
  iintro ⟨St01, HO⟩
  iapply (send0 wc K c false 1 [(true, 1, 0), (false, 1, 0), (true, 1, 1), (false, 1, 1), (true, 2, 0), (true, 2, 1), (false, 2, 0), (false, 2, 1)] (dev6_eq c)) $$ [Sf01 Pf1 HO]
  · isplitr; · iexact HE
    isplitr; · iexact HE2
    isplitl [Sf01]; · iexact Sf01
    isplitl [Pf1]; · iexact Pf1
    iexact HO
  iintro ⟨Sf01, HO⟩
  iapply (loadW c z3) $$ [HX]
  · iexact HX
  iintro HX
  rw [wp_ret]; imodintro
  iapply Hk
  isplitl [Sf00]; · iexact Sf00
  isplitl [HO]; · iexact HO
  isplitl [St01]; · iexact St01
  isplitl [Sf01]; · iexact Sf01
  iexact HX

set_option maxHeartbeats 1000000 in
theorem part3 (v49 : Vec F S2x256x768 .f32) (cs : Vec F S512x256 .f32) (sn : Vec F S512x256 .f32) (pm : Vec F S256x256 .bf16) {Ψ : _ → sProp 𝕄} :
    (iprop(stgP c cc0_stg2_0 cs ∗ stgP c cc0_stg3_0 sn ∗ stgP c cc0_stg4_0 pm ∗ catL c (catF wc c)) : sProp 𝕄)
      ⊢ iprop(((stgP c cc0_stg2_0 cs ∗ stgP c cc0_stg3_0 sn ∗ stgP c cc0_stg4_0 pm ∗ catL c (catF wc c)) -∗ Ψ ⟨k0_pay2 v49, cs, sn, k0_pay3 pm, k0_pay4 (wc c), k0_pay5 v49 (wc c), k0_pay6 v49 cs sn pm (wc c), k0_pay7 v49 cs sn pm (wc c), k0_pay8 v49 cs sn pm (wc c)⟩)
        -∗ wp frame (wpE (defs₀ (F := F)) 𝕍 c none) Set.univ (k0_part3 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v49) Ψ) := by
  simp only [k0_part3_eq_skeleton]; unfold k0_part3_skel
  simp only [semSignalWord, semWaitWord, Prog.lift, Prog.bind_op, Prog.bind_ret, Prog.pure_eq_ret, Prog.bind_assoc]
  iintro ⟨HC, HSN, HPM, HCT⟩ Hk
  iapply (loadW c z2) $$ [HC]
  · iexact HC
  iintro HC
  iapply (loadW c z2) $$ [HSN]
  · iexact HSN
  iintro HSN
  iapply (loadW c z2) $$ [HPM]
  · iexact HPM
  iintro HPM
  iapply (loadW c z2) $$ [HCT]
  · iexact HCT
  iintro HCT
  rw [wp_ret]; imodintro
  iapply Hk
  isplitl [HC]; · iexact HC
  isplitl [HSN]; · iexact HSN
  isplitl [HPM]; · iexact HPM
  iexact HCT

set_option maxHeartbeats 1000000 in
theorem part4 (v65 : FVec F S512x256 .bf16) (v73 : FVec F S512x256 .bf16) (v77 : FVec F S512x256 .bf16) (v91 : FVec F S256x64 .bf16) (f : Vec F S512x256 .bf16) {Ψ : _ → sProp 𝕄} :
    (iprop(ctxP c f) : sProp 𝕄)
      ⊢ iprop(((ctxP c (put (put (put f 0 0 (k0_pay9 v91)) 0 1 (k0_pay10 v65 v73 v77)) 0 2 (k0_pay11 v65 v73 v77))) -∗ Ψ ⟨k0_pay12 v65, k0_pay13 v73 v77, k0_pay14 (F := F)⟩)
        -∗ wp frame (wpE (defs₀ (F := F)) 𝕍 c none) Set.univ (k0_part4 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v65 v73 v77 v91) Ψ) := by
  simp only [k0_part4_eq_skeleton]; unfold k0_part4_skel
  simp only [semSignalWord, semWaitWord, Prog.lift, Prog.bind_op, Prog.bind_ret, Prog.pure_eq_ret, Prog.bind_assoc]
  iintro HK Hk
  iapply (loadT c 0 0) $$ [HK]
  · iexact HK
  iintro %dead HK
  iapply (storeT c 0 0) $$ [HK]
  · iexact HK
  iintro HK
  iapply (loadT c 0 1) $$ [HK]
  · iexact HK
  iintro %dead HK
  iapply (storeT c 0 1) $$ [HK]
  · iexact HK
  iintro HK
  iapply (loadT c 0 2) $$ [HK]
  · iexact HK
  iintro %dead HK
  iapply (storeT c 0 2) $$ [HK]
  · iexact HK
  iintro HK
  rw [wp_ret]; imodintro
  iapply Hk
  iexact HK

set_option maxHeartbeats 1000000 in
theorem part5 (v65 : FVec F S512x256 .bf16) (v73 : FVec F S512x256 .bf16) (v77 : FVec F S512x256 .bf16) (v131 : FVec F S256x64 .bf16) (v132 : FVec F S256x256 .f32) (v133 : FVec F S256x256 .f32) (f : Vec F S512x256 .bf16) {Ψ : _ → sProp 𝕄} :
    (iprop(ctxP c f) : sProp 𝕄)
      ⊢ iprop(((ctxP c (put (put f 0 3 (k0_pay15 v131 v132 v133)) 1 0 (k0_pay16 v65 v73 v77))) -∗ Ψ ((k0_pay17 v65 v73 v77)))
        -∗ wp frame (wpE (defs₀ (F := F)) 𝕍 c none) Set.univ (k0_part5 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v65 v73 v77 v131 v132 v133) Ψ) := by
  simp only [k0_part5_eq_skeleton]; unfold k0_part5_skel
  simp only [semSignalWord, semWaitWord, Prog.lift, Prog.bind_op, Prog.bind_ret, Prog.pure_eq_ret, Prog.bind_assoc]
  iintro HK Hk
  iapply (loadT c 0 3) $$ [HK]
  · iexact HK
  iintro %dead HK
  iapply (storeT c 0 3) $$ [HK]
  · iexact HK
  iintro HK
  iapply (loadT c 1 0) $$ [HK]
  · iexact HK
  iintro %dead HK
  iapply (storeT c 1 0) $$ [HK]
  · iexact HK
  iintro HK
  rw [wp_ret]; imodintro
  iapply Hk
  iexact HK

set_option maxHeartbeats 1000000 in
theorem part6 (v58 : FVec F S3072x256 .bf16) (v65 : FVec F S512x256 .bf16) (v73 : FVec F S512x256 .bf16) (v77 : FVec F S512x256 .bf16) (v176 : FVec F S256x64 .bf16) (f : Vec F S512x256 .bf16) {Ψ : _ → sProp 𝕄} :
    (iprop(ctxP c f) : sProp 𝕄)
      ⊢ iprop(((ctxP c (put (put (put f 1 1 (k0_pay18 v176)) 1 2 (k0_pay19 v65 v73 v77)) 1 3 (k0_pay20 v65 v73 v77))) -∗ Ψ ((k0_pay21 v58 (put (put (put f 1 1 (k0_pay18 v176)) 1 2 (k0_pay19 v65 v73 v77)) 1 3 (k0_pay20 v65 v73 v77)))))
        -∗ wp frame (wpE (defs₀ (F := F)) 𝕍 c none) Set.univ (k0_part6 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v58 v65 v73 v77 v176) Ψ) := by
  simp only [k0_part6_eq_skeleton]; unfold k0_part6_skel
  simp only [semSignalWord, semWaitWord, Prog.lift, Prog.bind_op, Prog.bind_ret, Prog.pure_eq_ret, Prog.bind_assoc]
  iintro HK Hk
  iapply (loadT c 1 1) $$ [HK]
  · iexact HK
  iintro %dead HK
  iapply (storeT c 1 1) $$ [HK]
  · iexact HK
  iintro HK
  iapply (loadT c 1 2) $$ [HK]
  · iexact HK
  iintro %dead HK
  iapply (storeT c 1 2) $$ [HK]
  · iexact HK
  iintro HK
  iapply (loadT c 1 3) $$ [HK]
  · iexact HK
  iintro %dead HK
  iapply (storeT c 1 3) $$ [HK]
  · iexact HK
  iintro HK
  iapply (loadW c z2) $$ [HK]
  · iexact HK
  iintro HK
  rw [wp_ret]; imodintro
  iapply Hk
  iexact HK

end Cert.KernelIdeal.Talk

end
-- ==== Proof.KernelIdeal.PartsB.lean ====
/-
# The parts of the body, one by one: the first hop
-/
module

public import proofs.«01_k».proof.Proof.KernelIdeal.PartsA

@[expose] public section

noncomputable section

namespace Cert.KernelIdeal.Talk

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (wc : Dev nD → Vec F S3072x256 .bf16)
variable (K : GSem nD τ sig → ℕ) (c : Dev nD)
set_option maxHeartbeats 1000000 in
theorem part7 (v5 : BitVec 32) (v7 : BitVec 32) {Ψ : _ → sProp 𝕄} :
    (iprop(env wc K c ∗ env2 c ∗ R0 true 0 0 c ∗ owesL c [(true, 1, 0), (false, 1, 0), (true, 1, 1), (false, 1, 1), (true, 2, 0), (true, 2, 1), (false, 2, 0), (false, 2, 1)] ∗ S0 true 1 0 c ∗ R0 false 0 0 c) : sProp 𝕄)
      ⊢ iprop(((R1 true 0 0 c ∗ owesL c [(false, 1, 0), (true, 1, 1), (false, 1, 1), (true, 2, 0), (true, 2, 1), (false, 2, 0), (false, 2, 1)] ∗ cPts true 0 0 c fullShare.left (WF wc true c) ∗ S1 true 1 0 c ∗ R1 false 0 0 c ∗ cPts false 0 0 c fullShare.left (WF wc false c) ∗ cPts false 0 0 c fullShare.right (WF wc false c)) -∗ Ψ ⟨⟩)
        -∗ wp frame (wpE (defs₀ (F := F)) 𝕍 c none) Set.univ (k0_part7 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 c v5 v7) Ψ) := by
  simp only [k0_part7_eq_skeleton]; unfold k0_part7_skel
  simp only [semSignalWord, semWaitWord, Prog.lift, Prog.bind_op, Prog.bind_ret, Prog.pure_eq_ret, Prog.bind_assoc]
  iintro ⟨#HE, #HE2, Rt00, HO, St10, Rf00⟩ Hk
  iapply (recv wc K c true 0 0 [(true, 1, 0), (false, 1, 0), (true, 1, 1), (false, 1, 1), (true, 2, 0), (true, 2, 1), (false, 2, 0), (false, 2, 1)] (by decide)) $$ [Rt00 HO]
  · isplitr; · iexact HE
    isplitl [Rt00]; · iexact Rt00
    iexact HO
  iintro ⟨Rt00, CLt00, CRt00, HO⟩
  iapply (sendF wc K c true 0 1 rfl 0 [(false, 1, 0), (true, 1, 1), (false, 1, 1), (true, 2, 0), (true, 2, 1), (false, 2, 0), (false, 2, 1)] (dev7_eq c)) $$ [St10 CRt00 HO]
  · isplitr; · iexact HE
    isplitr; · iexact HE2
    isplitl [St10]; · iexact St10
    isplitl [CRt00]; · iexact CRt00
    iexact HO
  iintro ⟨St10, HO⟩
  iapply (recv wc K c false 0 0 [(false, 1, 0), (true, 1, 1), (false, 1, 1), (true, 2, 0), (true, 2, 1), (false, 2, 0), (false, 2, 1)] (by decide)) $$ [Rf00 HO]
  · isplitr; · iexact HE
    isplitl [Rf00]; · iexact Rf00
    iexact HO
  iintro ⟨Rf00, CLf00, CRf00, HO⟩
  rw [wp_ret]; imodintro
  iapply Hk
  isplitl [Rt00]; · iexact Rt00
  isplitl [HO]; · iexact HO
  isplitl [CLt00]; · iexact CLt00
  isplitl [St10]; · iexact St10
  isplitl [Rf00]; · iexact Rf00
  isplitl [CLf00]; · iexact CLf00
  iexact CRf00

set_option maxHeartbeats 1000000 in
theorem part8 (v5 : BitVec 32) (v7 : BitVec 32) {Ψ : _ → sProp 𝕄} :
    (iprop(env wc K c ∗ env2 c ∗ S0 false 1 0 c ∗ owesL c [(false, 1, 0), (true, 1, 1), (false, 1, 1), (true, 2, 0), (true, 2, 1), (false, 2, 0), (false, 2, 1)] ∗ cPts false 0 0 c fullShare.right (WF wc false c) ∗ R0 true 0 1 c) : sProp 𝕄)
      ⊢ iprop(((S1 false 1 0 c ∗ owesL c [(true, 1, 1), (false, 1, 1), (true, 2, 0), (true, 2, 1), (false, 2, 0), (false, 2, 1)] ∗ R1 true 0 1 c ∗ cPts true 0 1 c fullShare.left (WF wc true c) ∗ cPts true 0 1 c fullShare.right (WF wc true c)) -∗ Ψ ⟨⟩)
        -∗ wp frame (wpE (defs₀ (F := F)) 𝕍 c none) Set.univ (k0_part8 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 c v5 v7) Ψ) := by
  simp only [k0_part8_eq_skeleton]; unfold k0_part8_skel
  simp only [semSignalWord, semWaitWord, Prog.lift, Prog.bind_op, Prog.bind_ret, Prog.pure_eq_ret, Prog.bind_assoc]
  iintro ⟨#HE, #HE2, Sf10, HO, CRf00, Rt01⟩ Hk
  iapply (sendF wc K c false 0 1 rfl 0 [(true, 1, 1), (false, 1, 1), (true, 2, 0), (true, 2, 1), (false, 2, 0), (false, 2, 1)] (dev8_eq c)) $$ [Sf10 CRf00 HO]
  · isplitr; · iexact HE
    isplitr; · iexact HE2
    isplitl [Sf10]; · iexact Sf10
    isplitl [CRf00]; · iexact CRf00
    iexact HO
  iintro ⟨Sf10, HO⟩
  iapply (recv wc K c true 0 1 [(true, 1, 1), (false, 1, 1), (true, 2, 0), (true, 2, 1), (false, 2, 0), (false, 2, 1)] (by decide)) $$ [Rt01 HO]
  · isplitr; · iexact HE
    isplitl [Rt01]; · iexact Rt01
    iexact HO
  iintro ⟨Rt01, CLt01, CRt01, HO⟩
  rw [wp_ret]; imodintro
  iapply Hk
  isplitl [Sf10]; · iexact Sf10
  isplitl [HO]; · iexact HO
  isplitl [Rt01]; · iexact Rt01
  isplitl [CLt01]; · iexact CLt01
  iexact CRt01

set_option maxHeartbeats 1000000 in
theorem part9 (v5 : BitVec 32) (v52 : FVec F S512x768 .bf16) (v53 : Vec F S512x256 .f32) (v54 : Vec F S512x256 .f32) (v56 : FVec F S256x256 .bf16) {Ψ : _ → sProp 𝕄} :
    (iprop(env wc K c ∗ env2 c ∗ S0 true 1 1 c ∗ owesL c [(true, 1, 1), (false, 1, 1), (true, 2, 0), (true, 2, 1), (false, 2, 0), (false, 2, 1)] ∗ cPts true 0 1 c fullShare.right (WF wc true c) ∗ R0 false 0 1 c ∗ S0 false 1 1 c ∗ cPts true 0 0 c fullShare.left (WF wc true c) ∗ cPts true 0 1 c fullShare.left (WF wc true c)) : sProp 𝕄)
      ⊢ iprop(((S1 true 1 1 c ∗ owesL c [(true, 2, 0), (true, 2, 1), (false, 2, 0), (false, 2, 1)] ∗ R1 false 0 1 c ∗ cPts false 0 1 c fullShare.left (WF wc false c) ∗ S1 false 1 1 c ∗ cPts true 0 0 c fullShare.left (WF wc true c) ∗ cPts true 0 1 c fullShare.left (WF wc true c)) -∗ Ψ ⟨k0_pay22 (slotV wc true 0 c), k0_pay23 v53, k0_pay24 v54, k0_pay25 v56, k0_pay26 v52 (slotV wc true 0 c), k0_pay27 (slotV wc true 0 c), (constant S512x128 .f32 0x00000000#32 : FVec F S512x128 .f32)⟩)
        -∗ wp frame (wpE (defs₀ (F := F)) 𝕍 c none) Set.univ (k0_part9 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 c v5 v52 v53 v54 v56) Ψ) := by
  simp only [k0_part9_eq_skeleton]; unfold k0_part9_skel
  simp only [semSignalWord, semWaitWord, Prog.lift, Prog.bind_op, Prog.bind_ret, Prog.pure_eq_ret, Prog.bind_assoc]
  iintro ⟨#HE, #HE2, St11, HO, CRt01, Rf01, Sf11, CLt00, CLt01⟩ Hk
  iapply (sendF wc K c true 0 1 rfl 1 [(false, 1, 1), (true, 2, 0), (true, 2, 1), (false, 2, 0), (false, 2, 1)] (dev9_eq c)) $$ [St11 CRt01 HO]
  · isplitr; · iexact HE
    isplitr; · iexact HE2
    isplitl [St11]; · iexact St11
    isplitl [CRt01]; · iexact CRt01
    iexact HO
  iintro ⟨St11, HO⟩
  iapply (recv wc K c false 0 1 [(false, 1, 1), (true, 2, 0), (true, 2, 1), (false, 2, 0), (false, 2, 1)] (by decide)) $$ [Rf01 HO]
  · isplitr; · iexact HE
    isplitl [Rf01]; · iexact Rf01
    iexact HO
  iintro ⟨Rf01, CLf01, CRf01, HO⟩
  iapply (sendF wc K c false 0 1 rfl 1 [(true, 2, 0), (true, 2, 1), (false, 2, 0), (false, 2, 1)] (dev10_eq c)) $$ [Sf11 CRf01 HO]
  · isplitr; · iexact HE
    isplitr; · iexact HE2
    isplitl [Sf11]; · iexact Sf11
    isplitl [CRf01]; · iexact CRf01
    iexact HO
  iintro ⟨Sf11, HO⟩
  iapply (loadSlot wc c true 0) $$ [CLt00 CLt01]
  · isplitl [CLt00]; · iexact CLt00
    iexact CLt01
  iintro ⟨CLt00, CLt01⟩
  rw [wp_ret]; imodintro
  iapply Hk
  isplitl [St11]; · iexact St11
  isplitl [HO]; · iexact HO
  isplitl [Rf01]; · iexact Rf01
  isplitl [CLf01]; · iexact CLf01
  isplitl [Sf11]; · iexact Sf11
  isplitl [CLt00]; · iexact CLt00
  iexact CLt01

set_option maxHeartbeats 1000000 in
theorem part10 (v52 : FVec F S512x768 .bf16) (v286 : FVec F S3072x128 .bf16) (v287 : FVec F S512x128 .f32) (v288 : FVec F S512x128 .f32) (v289 : FVec F S128x128 .bf16) (v291 : FVec F S512x128 .f32) (v292 : FVec F S768x128 .bf16) (cst_209 : FVec F S512x128 .f32) (f : Vec F S512x256 .bf16) {Ψ : _ → sProp 𝕄} :
    (iprop(ctxP c f) : sProp 𝕄)
      ⊢ iprop(((ctxP c (put f 0 0 (k0_pay31 v52 v286 v287 v288 v289 v291 v292 cst_209))) -∗ Ψ ⟨k0_pay28 v52 v286, k0_pay29 v287 v288 v289 v291, k0_pay30 v52 v287 v288 v289 v292 cst_209, k0_pay32 v52 v286 v287 v288 v289 v291 v292 cst_209⟩)
        -∗ wp frame (wpE (defs₀ (F := F)) 𝕍 c none) Set.univ (k0_part10 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v52 v286 v287 v288 v289 v291 v292 cst_209) Ψ) := by
  simp only [k0_part10_eq_skeleton]; unfold k0_part10_skel
  simp only [semSignalWord, semWaitWord, Prog.lift, Prog.bind_op, Prog.bind_ret, Prog.pure_eq_ret, Prog.bind_assoc]
  iintro HK Hk
  iapply (loadT c 0 0) $$ [HK]
  · iexact HK
  iintro %dead HK
  iapply (storeT c 0 0) $$ [HK]
  · iexact HK
  iintro HK
  rw [wp_ret]; imodintro
  iapply Hk
  iexact HK

set_option maxHeartbeats 1000000 in
theorem part11 (v286 : FVec F S3072x128 .bf16) (v296 : FVec F S512x128 .bf16) (v304 : FVec F S512x128 .bf16) (v308 : FVec F S512x128 .bf16) (v338 : FVec F S256x64 .f32) (f : Vec F S512x256 .bf16) {Ψ : _ → sProp 𝕄} :
    (iprop(ctxP c f) : sProp 𝕄)
      ⊢ iprop(((ctxP c (put (put (put f 0 1 (k0_pay33 v338)) 1 0 (k0_pay34 v296 v304 v308)) 1 1 (k0_pay35 v296 v304 v308))) -∗ Ψ ⟨(leftHalf (put (put (put f 0 1 (k0_pay33 v338)) 1 0 (k0_pay34 v296 v304 v308)) 1 1 (k0_pay35 v296 v304 v308))), k0_pay36 v286, (constant S512x768 .f32 0x00000000#32 : FVec F S512x768 .f32)⟩)
        -∗ wp frame (wpE (defs₀ (F := F)) 𝕍 c none) Set.univ (k0_part11 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v286 v296 v304 v308 v338) Ψ) := by
  simp only [k0_part11_eq_skeleton]; unfold k0_part11_skel
  simp only [semSignalWord, semWaitWord, Prog.lift, Prog.bind_op, Prog.bind_ret, Prog.pure_eq_ret, Prog.bind_assoc]
  iintro HK Hk
  iapply (loadT c 0 1) $$ [HK]
  · iexact HK
  iintro %dead HK
  iapply (storeT c 0 1) $$ [HK]
  · iexact HK
  iintro HK
  iapply (loadT c 1 0) $$ [HK]
  · iexact HK
  iintro %dead HK
  iapply (storeT c 1 0) $$ [HK]
  · iexact HK
  iintro HK
  iapply (loadT c 1 1) $$ [HK]
  · iexact HK
  iintro %dead HK
  iapply (storeT c 1 1) $$ [HK]
  · iexact HK
  iintro HK
  iapply (loadH c) $$ [HK]
  · iexact HK
  iintro HK
  rw [wp_ret]; imodintro
  iapply Hk
  iexact HK

set_option maxHeartbeats 1000000 in
theorem part12 (v7 : BitVec 32) (v216 : FVec F S512x768 .f32) (v377 : Vec F S512x128 .bf16) (v378 : FVec F S768x128 .bf16) (cst_239 : FVec F S512x768 .f32) {Ψ : _ → sProp 𝕄} :
    (iprop(env wc K c ∗ env2 c ∗ R0 true 1 0 c ∗ owesL c [(true, 2, 0), (true, 2, 1), (false, 2, 0), (false, 2, 1)] ∗ S0 true 2 0 c) : sProp 𝕄)
      ⊢ iprop(((R1 true 1 0 c ∗ owesL c [(true, 2, 1), (false, 2, 0), (false, 2, 1)] ∗ cPts true 1 0 c fullShare.left (WF wc true c) ∗ S1 true 2 0 c) -∗ Ψ ((k0_pay37 v216 v377 v378 cst_239)))
        -∗ wp frame (wpE (defs₀ (F := F)) 𝕍 c none) Set.univ (k0_part12 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 c v7 v216 v377 v378 cst_239) Ψ) := by
  simp only [k0_part12_eq_skeleton]; unfold k0_part12_skel
  simp only [semSignalWord, semWaitWord, Prog.lift, Prog.bind_op, Prog.bind_ret, Prog.pure_eq_ret, Prog.bind_assoc]
  iintro ⟨#HE, #HE2, Rt10, HO, St20⟩ Hk
  iapply (recv wc K c true 1 0 [(true, 2, 0), (true, 2, 1), (false, 2, 0), (false, 2, 1)] (by decide)) $$ [Rt10 HO]
  · isplitr; · iexact HE
    isplitl [Rt10]; · iexact Rt10
    iexact HO
  iintro ⟨Rt10, CLt10, CRt10, HO⟩
  iapply (sendF wc K c true 1 2 rfl 0 [(true, 2, 1), (false, 2, 0), (false, 2, 1)] (dev11_eq c)) $$ [St20 CRt10 HO]
  · isplitr; · iexact HE
    isplitr; · iexact HE2
    isplitl [St20]; · iexact St20
    isplitl [CRt10]; · iexact CRt10
    iexact HO
  iintro ⟨St20, HO⟩
  rw [wp_ret]; imodintro
  iapply Hk
  isplitl [Rt10]; · iexact Rt10
  isplitl [HO]; · iexact HO
  isplitl [CLt10]; · iexact CLt10
  iexact St20

set_option maxHeartbeats 1000000 in
theorem part13 (v7 : BitVec 32) (v52 : FVec F S512x768 .bf16) (v53 : Vec F S512x256 .f32) (v54 : Vec F S512x256 .f32) (v56 : FVec F S256x256 .bf16) {Ψ : _ → sProp 𝕄} :
    (iprop(env wc K c ∗ env2 c ∗ R0 true 1 1 c ∗ owesL c [(true, 2, 1), (false, 2, 0), (false, 2, 1)] ∗ S0 true 2 1 c ∗ cPts false 0 0 c fullShare.left (WF wc false c) ∗ cPts false 0 1 c fullShare.left (WF wc false c)) : sProp 𝕄)
      ⊢ iprop(((R1 true 1 1 c ∗ owesL c [(false, 2, 0), (false, 2, 1)] ∗ cPts true 1 1 c fullShare.left (WF wc true c) ∗ S1 true 2 1 c ∗ cPts false 0 0 c fullShare.left (WF wc false c) ∗ cPts false 0 1 c fullShare.left (WF wc false c)) -∗ Ψ ⟨k0_pay38 (slotV wc false 0 c), k0_pay43 v52 (slotV wc false 0 c), k0_pay44 v52 v53 v54 v56 (slotV wc false 0 c), k0_pay45 v52 v53 (slotV wc false 0 c), k0_pay46 v52 v54 v56 (slotV wc false 0 c)⟩)
        -∗ wp frame (wpE (defs₀ (F := F)) 𝕍 c none) Set.univ (k0_part13 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 c v7 v52 v53 v54 v56) Ψ) := by
  simp only [k0_part13_eq_skeleton]; unfold k0_part13_skel
  simp only [semSignalWord, semWaitWord, Prog.lift, Prog.bind_op, Prog.bind_ret, Prog.pure_eq_ret, Prog.bind_assoc]
  iintro ⟨#HE, #HE2, Rt11, HO, St21, CLf00, CLf01⟩ Hk
  iapply (recv wc K c true 1 1 [(true, 2, 1), (false, 2, 0), (false, 2, 1)] (by decide)) $$ [Rt11 HO]
  · isplitr; · iexact HE
    isplitl [Rt11]; · iexact Rt11
    iexact HO
  iintro ⟨Rt11, CLt11, CRt11, HO⟩
  iapply (sendF wc K c true 1 2 rfl 1 [(false, 2, 0), (false, 2, 1)] (dev12_eq c)) $$ [St21 CRt11 HO]
  · isplitr; · iexact HE
    isplitr; · iexact HE2
    isplitl [St21]; · iexact St21
    isplitl [CRt11]; · iexact CRt11
    iexact HO
  iintro ⟨St21, HO⟩
  iapply (loadSlot wc c false 0) $$ [CLf00 CLf01]
  · isplitl [CLf00]; · iexact CLf00
    iexact CLf01
  iintro ⟨CLf00, CLf01⟩
  rw [wp_ret]; imodintro
  iapply Hk
  isplitl [Rt11]; · iexact Rt11
  isplitl [HO]; · iexact HO
  isplitl [CLt11]; · iexact CLt11
  isplitl [St21]; · iexact St21
  isplitl [CLf00]; · iexact CLf00
  iexact CLf01

set_option maxHeartbeats 1000000 in
theorem part14 (v428 : FVec F S512x128 .bf16) (v436 : FVec F S512x128 .bf16) (v437 : FVec F S512x128 .f32) (v438 : FVec F S512x128 .f32) (f : Vec F S512x256 .bf16) {Ψ : _ → sProp 𝕄} :
    (iprop(ctxP c f) : sProp 𝕄)
      ⊢ iprop(((ctxP c (put (put f 0 0 (k0_pay48 v428 v436 v437 v438)) 0 1 (k0_pay49 v428 v436 v437 v438))) -∗ Ψ ⟨k0_pay47 v437 v438, k0_pay50 v428, k0_pay51 v436 v437 v438⟩)
        -∗ wp frame (wpE (defs₀ (F := F)) 𝕍 c none) Set.univ (k0_part14 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v428 v436 v437 v438) Ψ) := by
  simp only [k0_part14_eq_skeleton]; unfold k0_part14_skel
  simp only [semSignalWord, semWaitWord, Prog.lift, Prog.bind_op, Prog.bind_ret, Prog.pure_eq_ret, Prog.bind_assoc]
  iintro HK Hk
  iapply (loadT c 0 0) $$ [HK]
  · iexact HK
  iintro %dead HK
  iapply (storeT c 0 0) $$ [HK]
  · iexact HK
  iintro HK
  iapply (loadT c 0 1) $$ [HK]
  · iexact HK
  iintro %dead HK
  iapply (storeT c 0 1) $$ [HK]
  · iexact HK
  iintro HK
  rw [wp_ret]; imodintro
  iapply Hk
  iexact HK

set_option maxHeartbeats 1000000 in
theorem part15 (v5 : BitVec 32) (v380 : FVec F S512x768 .f32) (v418 : FVec F S3072x128 .bf16) (v428 : FVec F S512x128 .bf16) (v436 : FVec F S512x128 .bf16) (v440 : FVec F S512x128 .bf16) (v477 : FVec F S256x64 .bf16) (v481 : FVec F S256x256 .f32) (f : Vec F S512x256 .bf16) {Ψ : _ → sProp 𝕄} :
    (iprop(ctxP c f) : sProp 𝕄)
      ⊢ iprop(((ctxP c (put (put f 1 0 (k0_pay52 v477 v481)) 1 1 (k0_pay53 v428 v436 v440))) -∗ Ψ ((k0_pay54 v380 v418 (leftHalf (put (put f 1 0 (k0_pay52 v477 v481)) 1 1 (k0_pay53 v428 v436 v440))))))
        -∗ wp frame (wpE (defs₀ (F := F)) 𝕍 c none) Set.univ (k0_part15 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v5 v380 v418 v428 v436 v440 v477 v481) Ψ) := by
  simp only [k0_part15_eq_skeleton]; unfold k0_part15_skel
  simp only [semSignalWord, semWaitWord, Prog.lift, Prog.bind_op, Prog.bind_ret, Prog.pure_eq_ret, Prog.bind_assoc]
  iintro HK Hk
  iapply (loadT c 1 0) $$ [HK]
  · iexact HK
  iintro %dead HK
  iapply (storeT c 1 0) $$ [HK]
  · iexact HK
  iintro HK
  iapply (loadT c 1 1) $$ [HK]
  · iexact HK
  iintro %dead HK
  iapply (storeT c 1 1) $$ [HK]
  · iexact HK
  iintro HK
  iapply (loadH c) $$ [HK]
  · iexact HK
  iintro HK
  rw [wp_ret]; imodintro
  iapply Hk
  iexact HK

end Cert.KernelIdeal.Talk

end
-- ==== Proof.KernelIdeal.PartsC.lean ====
/-
# The parts of the body, one by one: the second hop
-/
module

public import proofs.«01_k».proof.Proof.KernelIdeal.PartsA

@[expose] public section

noncomputable section

namespace Cert.KernelIdeal.Talk

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (wc : Dev nD → Vec F S3072x256 .bf16)
variable (K : GSem nD τ sig → ℕ) (c : Dev nD)
set_option maxHeartbeats 1000000 in
theorem part16 (v5 : BitVec 32) {Ψ : _ → sProp 𝕄} :
    (iprop(env wc K c ∗ env2 c ∗ R0 false 1 0 c ∗ owesL c [(false, 2, 0), (false, 2, 1)] ∗ S0 false 2 0 c ∗ R0 false 1 1 c) : sProp 𝕄)
      ⊢ iprop(((R1 false 1 0 c ∗ owesL c [(false, 2, 1)] ∗ cPts false 1 0 c fullShare.left (WF wc false c) ∗ S1 false 2 0 c ∗ R1 false 1 1 c ∗ cPts false 1 1 c fullShare.left (WF wc false c) ∗ cPts false 1 1 c fullShare.right (WF wc false c)) -∗ Ψ ⟨⟩)
        -∗ wp frame (wpE (defs₀ (F := F)) 𝕍 c none) Set.univ (k0_part16 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 c v5) Ψ) := by
  simp only [k0_part16_eq_skeleton]; unfold k0_part16_skel
  simp only [semSignalWord, semWaitWord, Prog.lift, Prog.bind_op, Prog.bind_ret, Prog.pure_eq_ret, Prog.bind_assoc]
  iintro ⟨#HE, #HE2, Rf10, HO, Sf20, Rf11⟩ Hk
  iapply (recv wc K c false 1 0 [(false, 2, 0), (false, 2, 1)] (by decide)) $$ [Rf10 HO]
  · isplitr; · iexact HE
    isplitl [Rf10]; · iexact Rf10
    iexact HO
  iintro ⟨Rf10, CLf10, CRf10, HO⟩
  iapply (sendF wc K c false 1 2 rfl 0 [(false, 2, 1)] (dev13_eq c)) $$ [Sf20 CRf10 HO]
  · isplitr; · iexact HE
    isplitr; · iexact HE2
    isplitl [Sf20]; · iexact Sf20
    isplitl [CRf10]; · iexact CRf10
    iexact HO
  iintro ⟨Sf20, HO⟩
  iapply (recv wc K c false 1 1 [(false, 2, 1)] (by decide)) $$ [Rf11 HO]
  · isplitr; · iexact HE
    isplitl [Rf11]; · iexact Rf11
    iexact HO
  iintro ⟨Rf11, CLf11, CRf11, HO⟩
  rw [wp_ret]; imodintro
  iapply Hk
  isplitl [Rf10]; · iexact Rf10
  isplitl [HO]; · iexact HO
  isplitl [CLf10]; · iexact CLf10
  isplitl [Sf20]; · iexact Sf20
  isplitl [Rf11]; · iexact Rf11
  isplitl [CLf11]; · iexact CLf11
  iexact CRf11

set_option maxHeartbeats 1000000 in
theorem part17 (v52 : FVec F S512x768 .bf16) (v53 : Vec F S512x256 .f32) (v54 : Vec F S512x256 .f32) (v56 : FVec F S256x256 .bf16) {Ψ : _ → sProp 𝕄} :
    (iprop(env wc K c ∗ env2 c ∗ S0 false 2 1 c ∗ owesL c [(false, 2, 1)] ∗ cPts false 1 1 c fullShare.right (WF wc false c) ∗ cPts true 1 0 c fullShare.left (WF wc true c) ∗ cPts true 1 1 c fullShare.left (WF wc true c)) : sProp 𝕄)
      ⊢ iprop(((S1 false 2 1 c ∗ owesL c [] ∗ cPts true 1 0 c fullShare.left (WF wc true c) ∗ cPts true 1 1 c fullShare.left (WF wc true c)) -∗ Ψ ⟨k0_pay55 (slotV wc true 1 c), k0_pay59 v52 (slotV wc true 1 c), k0_pay60 v52 v53 v54 v56 (slotV wc true 1 c), k0_pay61 v52 v53 v54 v56 (slotV wc true 1 c), k0_pay63 v52 v53 v54 v56 (slotV wc true 1 c), k0_pay64 v52 v53 v54 v56 (slotV wc true 1 c)⟩)
        -∗ wp frame (wpE (defs₀ (F := F)) 𝕍 c none) Set.univ (k0_part17 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 c v52 v53 v54 v56) Ψ) := by
  simp only [k0_part17_eq_skeleton]; unfold k0_part17_skel
  simp only [semSignalWord, semWaitWord, Prog.lift, Prog.bind_op, Prog.bind_ret, Prog.pure_eq_ret, Prog.bind_assoc]
  iintro ⟨#HE, #HE2, Sf21, HO, CRf11, CLt10, CLt11⟩ Hk
  iapply (sendF wc K c false 1 2 rfl 1 [] (dev14_eq c)) $$ [Sf21 CRf11 HO]
  · isplitr; · iexact HE
    isplitr; · iexact HE2
    isplitl [Sf21]; · iexact Sf21
    isplitl [CRf11]; · iexact CRf11
    iexact HO
  iintro ⟨Sf21, HO⟩
  iapply (loadSlot wc c true 1) $$ [CLt10 CLt11]
  · isplitl [CLt10]; · iexact CLt10
    iexact CLt11
  iintro ⟨CLt10, CLt11⟩
  rw [wp_ret]; imodintro
  iapply Hk
  isplitl [Sf21]; · iexact Sf21
  isplitl [HO]; · iexact HO
  isplitl [CLt10]; · iexact CLt10
  iexact CLt11

set_option maxHeartbeats 1000000 in
theorem part18 (v560 : FVec F S512x128 .bf16) (v568 : FVec F S512x128 .bf16) (v572 : FVec F S512x128 .bf16) (v581 : FVec F S256x1 .f32) (v583 : FVec F S256x64 .f32) (f : Vec F S512x256 .bf16) {Ψ : _ → sProp 𝕄} :
    (iprop(ctxP c f) : sProp 𝕄)
      ⊢ iprop(((ctxP c (put (put (put f 0 0 (k0_pay65 v581 v583)) 0 1 (k0_pay66 v560 v568 v572)) 1 0 (k0_pay67 v560 v568 v572))) -∗ Ψ ⟨k0_pay68 v568, k0_pay69 v572, k0_pay70 v560⟩)
        -∗ wp frame (wpE (defs₀ (F := F)) 𝕍 c none) Set.univ (k0_part18 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v560 v568 v572 v581 v583) Ψ) := by
  simp only [k0_part18_eq_skeleton]; unfold k0_part18_skel
  simp only [semSignalWord, semWaitWord, Prog.lift, Prog.bind_op, Prog.bind_ret, Prog.pure_eq_ret, Prog.bind_assoc]
  iintro HK Hk
  iapply (loadT c 0 0) $$ [HK]
  · iexact HK
  iintro %dead HK
  iapply (storeT c 0 0) $$ [HK]
  · iexact HK
  iintro HK
  iapply (loadT c 0 1) $$ [HK]
  · iexact HK
  iintro %dead HK
  iapply (storeT c 0 1) $$ [HK]
  · iexact HK
  iintro HK
  iapply (loadT c 1 0) $$ [HK]
  · iexact HK
  iintro %dead HK
  iapply (storeT c 1 0) $$ [HK]
  · iexact HK
  iintro HK
  rw [wp_ret]; imodintro
  iapply Hk
  iexact HK

set_option maxHeartbeats 1000000 in
theorem part19 (v52 : FVec F S512x768 .bf16) (v53 : Vec F S512x256 .f32) (v54 : Vec F S512x256 .f32) (v56 : FVec F S256x256 .bf16) (v512 : FVec F S512x768 .f32) (v550 : FVec F S3072x128 .bf16) (v624 : FVec F S256x64 .bf16) (v625 : FVec F S256x64 .bf16) (v626 : FVec F S256x64 .bf16) (f : Vec F S512x256 .bf16) {Ψ : _ → sProp 𝕄} :
    (iprop(ctxP c f ∗ cPts false 1 0 c fullShare.left (WF wc false c) ∗ cPts false 1 1 c fullShare.left (WF wc false c)) : sProp 𝕄)
      ⊢ iprop(((ctxP c (put f 1 1 (k0_pay71 v624 v625 v626)) ∗ cPts false 1 0 c fullShare.left (WF wc false c) ∗ cPts false 1 1 c fullShare.left (WF wc false c)) -∗ Ψ ⟨k0_pay72 v512 v550 (leftHalf (put f 1 1 (k0_pay71 v624 v625 v626))), k0_pay73 (slotV wc false 1 c), k0_pay77 v52 (slotV wc false 1 c), k0_pay78 v52 v53 v54 v56 (slotV wc false 1 c), k0_pay79 v52 v53 v54 v56 (slotV wc false 1 c)⟩)
        -∗ wp frame (wpE (defs₀ (F := F)) 𝕍 c none) Set.univ (k0_part19 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v52 v53 v54 v56 v512 v550 v624 v625 v626) Ψ) := by
  simp only [k0_part19_eq_skeleton]; unfold k0_part19_skel
  simp only [semSignalWord, semWaitWord, Prog.lift, Prog.bind_op, Prog.bind_ret, Prog.pure_eq_ret, Prog.bind_assoc]
  iintro ⟨HK, CLf10, CLf11⟩ Hk
  iapply (loadT c 1 1) $$ [HK]
  · iexact HK
  iintro %dead HK
  iapply (storeT c 1 1) $$ [HK]
  · iexact HK
  iintro HK
  iapply (loadH c) $$ [HK]
  · iexact HK
  iintro HK
  iapply (loadSlot wc c false 1) $$ [CLf10 CLf11]
  · isplitl [CLf10]; · iexact CLf10
    iexact CLf11
  iintro ⟨CLf10, CLf11⟩
  rw [wp_ret]; imodintro
  iapply Hk
  isplitl [HK]; · iexact HK
  isplitl [CLf10]; · iexact CLf10
  iexact CLf11

set_option maxHeartbeats 1000000 in
theorem part20 (v656 : FVec F S512x128 .bf16) (v664 : FVec F S512x128 .bf16) (v668 : FVec F S512x128 .bf16) (f : Vec F S512x256 .bf16) {Ψ : _ → sProp 𝕄} :
    (iprop(ctxP c f) : sProp 𝕄)
      ⊢ iprop(((ctxP c (put (put f 0 0 (k0_pay80 v656 v664 v668)) 0 1 (k0_pay81 v656 v664 v668))) -∗ Ψ ⟨k0_pay82 v656, k0_pay83 v664 v668, k0_pay84 v664 v668⟩)
        -∗ wp frame (wpE (defs₀ (F := F)) 𝕍 c none) Set.univ (k0_part20 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v656 v664 v668) Ψ) := by
  simp only [k0_part20_eq_skeleton]; unfold k0_part20_skel
  simp only [semSignalWord, semWaitWord, Prog.lift, Prog.bind_op, Prog.bind_ret, Prog.pure_eq_ret, Prog.bind_assoc]
  iintro HK Hk
  iapply (loadT c 0 0) $$ [HK]
  · iexact HK
  iintro %dead HK
  iapply (storeT c 0 0) $$ [HK]
  · iexact HK
  iintro HK
  iapply (loadT c 0 1) $$ [HK]
  · iexact HK
  iintro %dead HK
  iapply (storeT c 0 1) $$ [HK]
  · iexact HK
  iintro HK
  rw [wp_ret]; imodintro
  iapply Hk
  iexact HK

set_option maxHeartbeats 1000000 in
theorem part21 (v7 : BitVec 32) (v644 : FVec F S512x768 .f32) (v646 : FVec F S3072x128 .bf16) (v656 : FVec F S512x128 .bf16) (v664 : FVec F S512x128 .bf16) (v668 : FVec F S512x128 .bf16) (v705 : FVec F S256x64 .bf16) (v709 : FVec F S256x256 .f32) (v711 : FVec F S256x1 .f32) (f : Vec F S512x256 .bf16) {Ψ : _ → sProp 𝕄} :
    (iprop(ctxP c f) : sProp 𝕄)
      ⊢ iprop(((ctxP c (put (put f 1 0 (k0_pay85 v705 v709 v711)) 1 1 (k0_pay86 v656 v664 v668))) -∗ Ψ ((k0_pay87 v644 v646 (leftHalf (put (put f 1 0 (k0_pay85 v705 v709 v711)) 1 1 (k0_pay86 v656 v664 v668))))))
        -∗ wp frame (wpE (defs₀ (F := F)) 𝕍 c none) Set.univ (k0_part21 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v7 v644 v646 v656 v664 v668 v705 v709 v711) Ψ) := by
  simp only [k0_part21_eq_skeleton]; unfold k0_part21_skel
  simp only [semSignalWord, semWaitWord, Prog.lift, Prog.bind_op, Prog.bind_ret, Prog.pure_eq_ret, Prog.bind_assoc]
  iintro HK Hk
  iapply (loadT c 1 0) $$ [HK]
  · iexact HK
  iintro %dead HK
  iapply (storeT c 1 0) $$ [HK]
  · iexact HK
  iintro HK
  iapply (loadT c 1 1) $$ [HK]
  · iexact HK
  iintro %dead HK
  iapply (storeT c 1 1) $$ [HK]
  · iexact HK
  iintro HK
  iapply (loadH c) $$ [HK]
  · iexact HK
  iintro HK
  rw [wp_ret]; imodintro
  iapply Hk
  iexact HK

end Cert.KernelIdeal.Talk

end
-- ==== Proof.KernelIdeal.PartsD.lean ====
/-
# The parts of the body, one by one: the last hop and the waits for the sends
-/
module

public import proofs.«01_k».proof.Proof.KernelIdeal.PartsA

@[expose] public section

noncomputable section

namespace Cert.KernelIdeal.Talk

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (wc : Dev nD → Vec F S3072x256 .bf16)
variable (K : GSem nD τ sig → ℕ) (c : Dev nD)
set_option maxHeartbeats 1000000 in
theorem part22 (v7 : BitVec 32) (v52 : FVec F S512x768 .bf16) (v53 : Vec F S512x256 .f32) (v54 : Vec F S512x256 .f32) (v56 : FVec F S256x256 .bf16) {Ψ : _ → sProp 𝕄} :
    (iprop(env wc K c ∗ R0 true 2 0 c ∗ owesL c [] ∗ R0 true 2 1 c) : sProp 𝕄)
      ⊢ iprop(((R1 true 2 0 c ∗ owesL c [] ∗ cPts true 2 0 c fullShare.left (WF wc true c) ∗ cPts true 2 0 c fullShare.right (WF wc true c) ∗ R1 true 2 1 c ∗ cPts true 2 1 c fullShare.left (WF wc true c) ∗ cPts true 2 1 c fullShare.right (WF wc true c)) -∗ Ψ ⟨k0_pay88 (slotV wc true 2 c), k0_pay92 v52 (slotV wc true 2 c), k0_pay93 v52 v53 v54 v56 (slotV wc true 2 c), k0_pay94 v52 v53 v54 v56 (slotV wc true 2 c), k0_pay95 v52 v53 v54 v56 (slotV wc true 2 c), k0_pay96 v52 v53 v54 v56 (slotV wc true 2 c), k0_pay97 v52 (slotV wc true 2 c)⟩)
        -∗ wp frame (wpE (defs₀ (F := F)) 𝕍 c none) Set.univ (k0_part22 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v7 v52 v53 v54 v56) Ψ) := by
  simp only [k0_part22_eq_skeleton]; unfold k0_part22_skel
  simp only [semSignalWord, semWaitWord, Prog.lift, Prog.bind_op, Prog.bind_ret, Prog.pure_eq_ret, Prog.bind_assoc]
  iintro ⟨#HE, Rt20, HO, Rt21⟩ Hk
  iapply (recv wc K c true 2 0 [] (by decide)) $$ [Rt20 HO]
  · isplitr; · iexact HE
    isplitl [Rt20]; · iexact Rt20
    iexact HO
  iintro ⟨Rt20, CLt20, CRt20, HO⟩
  iapply (recv wc K c true 2 1 [] (by decide)) $$ [Rt21 HO]
  · isplitr; · iexact HE
    isplitl [Rt21]; · iexact Rt21
    iexact HO
  iintro ⟨Rt21, CLt21, CRt21, HO⟩
  iapply (loadSlot wc c true 2) $$ [CLt20 CLt21]
  · isplitl [CLt20]; · iexact CLt20
    iexact CLt21
  iintro ⟨CLt20, CLt21⟩
  rw [wp_ret]; imodintro
  iapply Hk
  isplitl [Rt20]; · iexact Rt20
  isplitl [HO]; · iexact HO
  isplitl [CLt20]; · iexact CLt20
  isplitl [CRt20]; · iexact CRt20
  isplitl [Rt21]; · iexact Rt21
  isplitl [CLt21]; · iexact CLt21
  iexact CRt21

set_option maxHeartbeats 1000000 in
theorem part23 (v768 : FVec F S512x128 .bf16) (v776 : FVec F S512x128 .bf16) (v780 : FVec F S512x128 .bf16) (v781 : FVec F S256x64 .bf16) (v782 : FVec F S256x64 .bf16) (v783 : FVec F S256x64 .bf16) (f : Vec F S512x256 .bf16) {Ψ : _ → sProp 𝕄} :
    (iprop(ctxP c f) : sProp 𝕄)
      ⊢ iprop(((ctxP c (put (put f 0 0 (k0_pay98 v781 v782 v783)) 0 1 (k0_pay99 v768 v776 v780))) -∗ Ψ ⟨k0_pay101 v776 v780, k0_pay102 v768 v776 v780⟩)
        -∗ wp frame (wpE (defs₀ (F := F)) 𝕍 c none) Set.univ (k0_part23 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v768 v776 v780 v781 v782 v783) Ψ) := by
  simp only [k0_part23_eq_skeleton]; unfold k0_part23_skel
  simp only [semSignalWord, semWaitWord, Prog.lift, Prog.bind_op, Prog.bind_ret, Prog.pure_eq_ret, Prog.bind_assoc]
  iintro HK Hk
  iapply (loadT c 0 0) $$ [HK]
  · iexact HK
  iintro %dead HK
  iapply (storeT c 0 0) $$ [HK]
  · iexact HK
  iintro HK
  iapply (loadT c 0 1) $$ [HK]
  · iexact HK
  iintro %dead HK
  iapply (storeT c 0 1) $$ [HK]
  · iexact HK
  iintro HK
  rw [wp_ret]; imodintro
  iapply Hk
  iexact HK

set_option maxHeartbeats 1000000 in
theorem part24 (v5 : BitVec 32) (v740 : FVec F S512x768 .f32) (v758 : FVec F S3072x128 .bf16) (v768 : FVec F S512x128 .bf16) (v776 : FVec F S512x128 .bf16) (v780 : FVec F S512x128 .bf16) (v823 : FVec F S256x1 .f32) (v825 : FVec F S256x64 .f32) (f : Vec F S512x256 .bf16) {Ψ : _ → sProp 𝕄} :
    (iprop(ctxP c f) : sProp 𝕄)
      ⊢ iprop(((ctxP c (put (put f 1 0 (k0_pay103 v823 v825)) 1 1 (k0_pay104 v768 v776 v780))) -∗ Ψ ((k0_pay105 v740 v758 (leftHalf (put (put f 1 0 (k0_pay103 v823 v825)) 1 1 (k0_pay104 v768 v776 v780))))))
        -∗ wp frame (wpE (defs₀ (F := F)) 𝕍 c none) Set.univ (k0_part24 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v5 v740 v758 v768 v776 v780 v823 v825) Ψ) := by
  simp only [k0_part24_eq_skeleton]; unfold k0_part24_skel
  simp only [semSignalWord, semWaitWord, Prog.lift, Prog.bind_op, Prog.bind_ret, Prog.pure_eq_ret, Prog.bind_assoc]
  iintro HK Hk
  iapply (loadT c 1 0) $$ [HK]
  · iexact HK
  iintro %dead HK
  iapply (storeT c 1 0) $$ [HK]
  · iexact HK
  iintro HK
  iapply (loadT c 1 1) $$ [HK]
  · iexact HK
  iintro %dead HK
  iapply (storeT c 1 1) $$ [HK]
  · iexact HK
  iintro HK
  iapply (loadH c) $$ [HK]
  · iexact HK
  iintro HK
  rw [wp_ret]; imodintro
  iapply Hk
  iexact HK

set_option maxHeartbeats 1000000 in
theorem part25 (v5 : BitVec 32) (v52 : FVec F S512x768 .bf16) (v53 : Vec F S512x256 .f32) (v54 : Vec F S512x256 .f32) (v56 : FVec F S256x256 .bf16) {Ψ : _ → sProp 𝕄} :
    (iprop(env wc K c ∗ R0 false 2 0 c ∗ owesL c [] ∗ R0 false 2 1 c) : sProp 𝕄)
      ⊢ iprop(((R1 false 2 0 c ∗ owesL c [] ∗ cPts false 2 0 c fullShare.left (WF wc false c) ∗ cPts false 2 0 c fullShare.right (WF wc false c) ∗ R1 false 2 1 c ∗ cPts false 2 1 c fullShare.left (WF wc false c) ∗ cPts false 2 1 c fullShare.right (WF wc false c)) -∗ Ψ ⟨k0_pay106 (slotV wc false 2 c), k0_pay110 v52 (slotV wc false 2 c), k0_pay111 v52 v53 v54 v56 (slotV wc false 2 c), k0_pay112 v52 v53 v54 v56 (slotV wc false 2 c), k0_pay113 v52 (slotV wc false 2 c), k0_pay114 v52 v53 v54 v56 (slotV wc false 2 c), (Scalar.ofBits .f32 0x3E000000#32 : F .f32)⟩)
        -∗ wp frame (wpE (defs₀ (F := F)) 𝕍 c none) Set.univ (k0_part25 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v5 v52 v53 v54 v56) Ψ) := by
  simp only [k0_part25_eq_skeleton]; unfold k0_part25_skel
  simp only [semSignalWord, semWaitWord, Prog.lift, Prog.bind_op, Prog.bind_ret, Prog.pure_eq_ret, Prog.bind_assoc]
  iintro ⟨#HE, Rf20, HO, Rf21⟩ Hk
  iapply (recv wc K c false 2 0 [] (by decide)) $$ [Rf20 HO]
  · isplitr; · iexact HE
    isplitl [Rf20]; · iexact Rf20
    iexact HO
  iintro ⟨Rf20, CLf20, CRf20, HO⟩
  iapply (recv wc K c false 2 1 [] (by decide)) $$ [Rf21 HO]
  · isplitr; · iexact HE
    isplitl [Rf21]; · iexact Rf21
    iexact HO
  iintro ⟨Rf21, CLf21, CRf21, HO⟩
  iapply (loadSlot wc c false 2) $$ [CLf20 CLf21]
  · isplitl [CLf20]; · iexact CLf20
    iexact CLf21
  iintro ⟨CLf20, CLf21⟩
  rw [wp_ret]; imodintro
  iapply Hk
  isplitl [Rf20]; · iexact Rf20
  isplitl [HO]; · iexact HO
  isplitl [CLf20]; · iexact CLf20
  isplitl [CRf20]; · iexact CRf20
  isplitl [Rf21]; · iexact Rf21
  isplitl [CLf21]; · iexact CLf21
  iexact CRf21

set_option maxHeartbeats 1000000 in
theorem part26 (v880 : FVec F S512x128 .bf16) (v888 : FVec F S512x128 .bf16) (v892 : FVec F S512x128 .bf16) (v895 : FVec F S256x64 .bf16) (v896 : FVec F S256x256 .f32) (cst_531 : F .f32) (f : Vec F S512x256 .bf16) {Ψ : _ → sProp 𝕄} :
    (iprop(ctxP c f) : sProp 𝕄)
      ⊢ iprop(((ctxP c (put (put f 0 0 (k0_pay115 v895 v896 cst_531)) 0 1 (k0_pay116 v880 v888 v892))) -∗ Ψ ((k0_pay117 v880 v888 v892)))
        -∗ wp frame (wpE (defs₀ (F := F)) 𝕍 c none) Set.univ (k0_part26 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v880 v888 v892 v895 v896 cst_531) Ψ) := by
  simp only [k0_part26_eq_skeleton]; unfold k0_part26_skel
  simp only [semSignalWord, semWaitWord, Prog.lift, Prog.bind_op, Prog.bind_ret, Prog.pure_eq_ret, Prog.bind_assoc]
  iintro HK Hk
  iapply (loadT c 0 0) $$ [HK]
  · iexact HK
  iintro %dead HK
  iapply (storeT c 0 0) $$ [HK]
  · iexact HK
  iintro HK
  iapply (loadT c 0 1) $$ [HK]
  · iexact HK
  iintro %dead HK
  iapply (storeT c 0 1) $$ [HK]
  · iexact HK
  iintro HK
  rw [wp_ret]; imodintro
  iapply Hk
  iexact HK

set_option maxHeartbeats 1000000 in
theorem part27 (v852 : FVec F S512x768 .f32) (v870 : FVec F S3072x128 .bf16) (v880 : FVec F S512x128 .bf16) (v888 : FVec F S512x128 .bf16) (v892 : FVec F S512x128 .bf16) (v940 : FVec F S256x64 .bf16) (f : Vec F S512x256 .bf16) {Ψ : _ → sProp 𝕄} :
    (iprop(env wc K c ∗ ctxP c f ∗ S1 true 0 0 c ∗ owesL c []) : sProp 𝕄)
      ⊢ iprop(((ctxP c (put (put f 1 0 (k0_pay118 v940)) 1 1 (k0_pay119 v880 v888 v892)) ∗ S2 true 0 0 c ∗ owesL c [] ∗ sendPay wc true 0 0 c) -∗ Ψ ((k0_pay120 v852 v870 (leftHalf (put (put f 1 0 (k0_pay118 v940)) 1 1 (k0_pay119 v880 v888 v892))))))
        -∗ wp frame (wpE (defs₀ (F := F)) 𝕍 c none) Set.univ (k0_part27 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v852 v870 v880 v888 v892 v940) Ψ) := by
  simp only [k0_part27_eq_skeleton]; unfold k0_part27_skel
  simp only [semSignalWord, semWaitWord, Prog.lift, Prog.bind_op, Prog.bind_ret, Prog.pure_eq_ret, Prog.bind_assoc]
  iintro ⟨#HE, HK, St00, HO⟩ Hk
  iapply (loadT c 1 0) $$ [HK]
  · iexact HK
  iintro %dead HK
  iapply (storeT c 1 0) $$ [HK]
  · iexact HK
  iintro HK
  iapply (loadT c 1 1) $$ [HK]
  · iexact HK
  iintro %dead HK
  iapply (storeT c 1 1) $$ [HK]
  · iexact HK
  iintro HK
  iapply (loadH c) $$ [HK]
  · iexact HK
  iintro HK
  iapply (waitSend wc K c true 0 0) $$ [St00 HO]
  · isplitr; · iexact HE
    isplitl [St00]; · iexact St00
    iexact HO
  iintro ⟨St00, Qt00, HO⟩
  rw [wp_ret]; imodintro
  iapply Hk
  isplitl [HK]; · iexact HK
  isplitl [St00]; · iexact St00
  isplitl [HO]; · iexact HO
  iexact Qt00

set_option maxHeartbeats 1000000 in
theorem part28  {Ψ : _ → sProp 𝕄} :
    (iprop(env wc K c ∗ S1 false 0 0 c ∗ owesL c [] ∗ S1 true 0 1 c ∗ S1 false 0 1 c ∗ S1 true 1 0 c) : sProp 𝕄)
      ⊢ iprop(((S2 false 0 0 c ∗ owesL c [] ∗ sendPay wc false 0 0 c ∗ S2 true 0 1 c ∗ sendPay wc true 0 1 c ∗ S2 false 0 1 c ∗ sendPay wc false 0 1 c ∗ S2 true 1 0 c ∗ sendPay wc true 1 0 c) -∗ Ψ ⟨⟩)
        -∗ wp frame (wpE (defs₀ (F := F)) 𝕍 c none) Set.univ (k0_part28 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 ) Ψ) := by
  simp only [k0_part28_eq_skeleton]; unfold k0_part28_skel
  simp only [semSignalWord, semWaitWord, Prog.lift, Prog.bind_op, Prog.bind_ret, Prog.pure_eq_ret, Prog.bind_assoc]
  iintro ⟨#HE, Sf00, HO, St01, Sf01, St10⟩ Hk
  iapply (waitSend wc K c false 0 0) $$ [Sf00 HO]
  · isplitr; · iexact HE
    isplitl [Sf00]; · iexact Sf00
    iexact HO
  iintro ⟨Sf00, Qf00, HO⟩
  iapply (waitSend wc K c true 0 1) $$ [St01 HO]
  · isplitr; · iexact HE
    isplitl [St01]; · iexact St01
    iexact HO
  iintro ⟨St01, Qt01, HO⟩
  iapply (waitSend wc K c false 0 1) $$ [Sf01 HO]
  · isplitr; · iexact HE
    isplitl [Sf01]; · iexact Sf01
    iexact HO
  iintro ⟨Sf01, Qf01, HO⟩
  iapply (waitSend wc K c true 1 0) $$ [St10 HO]
  · isplitr; · iexact HE
    isplitl [St10]; · iexact St10
    iexact HO
  iintro ⟨St10, Qt10, HO⟩
  rw [wp_ret]; imodintro
  iapply Hk
  isplitl [Sf00]; · iexact Sf00
  isplitl [HO]; · iexact HO
  isplitl [Qf00]; · iexact Qf00
  isplitl [St01]; · iexact St01
  isplitl [Qt01]; · iexact Qt01
  isplitl [Sf01]; · iexact Sf01
  isplitl [Qf01]; · iexact Qf01
  isplitl [St10]; · iexact St10
  iexact Qt10

set_option maxHeartbeats 1000000 in
theorem part29  {Ψ : _ → sProp 𝕄} :
    (iprop(env wc K c ∗ S1 false 1 0 c ∗ owesL c [] ∗ S1 true 1 1 c ∗ S1 false 1 1 c) : sProp 𝕄)
      ⊢ iprop(((S2 false 1 0 c ∗ owesL c [] ∗ sendPay wc false 1 0 c ∗ S2 true 1 1 c ∗ sendPay wc true 1 1 c ∗ S2 false 1 1 c ∗ sendPay wc false 1 1 c) -∗ Ψ ⟨⟩)
        -∗ wp frame (wpE (defs₀ (F := F)) 𝕍 c none) Set.univ (k0_part29 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 ) Ψ) := by
  simp only [k0_part29_eq_skeleton]; unfold k0_part29_skel
  simp only [semSignalWord, semWaitWord, Prog.lift, Prog.bind_op, Prog.bind_ret, Prog.pure_eq_ret, Prog.bind_assoc]
  iintro ⟨#HE, Sf10, HO, St11, Sf11⟩ Hk
  iapply (waitSend wc K c false 1 0) $$ [Sf10 HO]
  · isplitr; · iexact HE
    isplitl [Sf10]; · iexact Sf10
    iexact HO
  iintro ⟨Sf10, Qf10, HO⟩
  iapply (waitSend wc K c true 1 1) $$ [St11 HO]
  · isplitr; · iexact HE
    isplitl [St11]; · iexact St11
    iexact HO
  iintro ⟨St11, Qt11, HO⟩
  iapply (waitSend wc K c false 1 1) $$ [Sf11 HO]
  · isplitr; · iexact HE
    isplitl [Sf11]; · iexact Sf11
    iexact HO
  iintro ⟨Sf11, Qf11, HO⟩
  rw [wp_ret]; imodintro
  iapply Hk
  isplitl [Sf10]; · iexact Sf10
  isplitl [HO]; · iexact HO
  isplitl [Qf10]; · iexact Qf10
  isplitl [St11]; · iexact St11
  isplitl [Qt11]; · iexact Qt11
  isplitl [Sf11]; · iexact Sf11
  iexact Qf11

set_option maxHeartbeats 1000000 in
theorem part30  {Ψ : _ → sProp 𝕄} :
    (iprop(env wc K c ∗ S1 true 2 0 c ∗ owesL c [] ∗ S1 true 2 1 c ∗ S1 false 2 0 c) : sProp 𝕄)
      ⊢ iprop(((S2 true 2 0 c ∗ owesL c [] ∗ sendPay wc true 2 0 c ∗ S2 true 2 1 c ∗ sendPay wc true 2 1 c ∗ S2 false 2 0 c ∗ sendPay wc false 2 0 c) -∗ Ψ ⟨⟩)
        -∗ wp frame (wpE (defs₀ (F := F)) 𝕍 c none) Set.univ (k0_part30 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 ) Ψ) := by
  simp only [k0_part30_eq_skeleton]; unfold k0_part30_skel
  simp only [semSignalWord, semWaitWord, Prog.lift, Prog.bind_op, Prog.bind_ret, Prog.pure_eq_ret, Prog.bind_assoc]
  iintro ⟨#HE, St20, HO, St21, Sf20⟩ Hk
  iapply (waitSend wc K c true 2 0) $$ [St20 HO]
  · isplitr; · iexact HE
    isplitl [St20]; · iexact St20
    iexact HO
  iintro ⟨St20, Qt20, HO⟩
  iapply (waitSend wc K c true 2 1) $$ [St21 HO]
  · isplitr; · iexact HE
    isplitl [St21]; · iexact St21
    iexact HO
  iintro ⟨St21, Qt21, HO⟩
  iapply (waitSend wc K c false 2 0) $$ [Sf20 HO]
  · isplitr; · iexact HE
    isplitl [Sf20]; · iexact Sf20
    iexact HO
  iintro ⟨Sf20, Qf20, HO⟩
  rw [wp_ret]; imodintro
  iapply Hk
  isplitl [St20]; · iexact St20
  isplitl [HO]; · iexact HO
  isplitl [Qt20]; · iexact Qt20
  isplitl [St21]; · iexact St21
  isplitl [Qt21]; · iexact Qt21
  isplitl [Sf20]; · iexact Sf20
  iexact Qf20

end Cert.KernelIdeal.Talk

end
-- ==== Proof.KernelIdeal.Ends.lean ====
/-
# The parts that end a block, with the accumulator named
-/
module

public import proofs.«01_k».proof.Proof.KernelIdeal.Spec
public import proofs.«01_k».proof.Proof.KernelIdeal.PartsB
public import proofs.«01_k».proof.Proof.KernelIdeal.PartsC
public import proofs.«01_k».proof.Proof.KernelIdeal.PartsD

@[expose] public section

noncomputable section

namespace Cert.KernelIdeal.Talk

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (wc : Dev nD → Vec F S3072x256 .bf16)
variable (K : GSem nD τ sig → ℕ) (c : Dev nD)

set_option maxHeartbeats 1000000 in
/-- `part6` with the block's accumulator named. -/
theorem part6s (x : Vec F S2x256x768 .f32) (cs sn : Vec F S512x256 .f32) (pm : Vec F S256x256 .bf16) (f : Vec F S512x256 .bf16) {Ψ : _ → sProp 𝕄} :
    (iprop(ctxP c (put (put (put (put (put f 0 0 (k0_pay9 (k0_pay8 x cs sn pm (wc c)))) 0 1 (k0_pay10 (k0_pay5 x (wc c)) (k0_pay6 x cs sn pm (wc c)) (k0_pay7 x cs sn pm (wc c)))) 0 2 (k0_pay11 (k0_pay5 x (wc c)) (k0_pay6 x cs sn pm (wc c)) (k0_pay7 x cs sn pm (wc c)))) 0 3 (k0_pay15 (k0_pay12 (k0_pay5 x (wc c))) (k0_pay13 (k0_pay6 x cs sn pm (wc c)) (k0_pay7 x cs sn pm (wc c))) (k0_pay14 (F := F)))) 1 0 (k0_pay16 (k0_pay5 x (wc c)) (k0_pay6 x cs sn pm (wc c)) (k0_pay7 x cs sn pm (wc c))))) : sProp 𝕄)
      ⊢ iprop((((∃ g : Vec F S512x256 .bf16, ctxP c g)) -∗ Ψ (ownAcc (k0_pay2 x) cs sn (k0_pay3 pm) (k0_pay4 (wc c))))
        -∗ wp frame (wpE (defs₀ (F := F)) 𝕍 c none) Set.univ (k0_part6 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 (k0_pay4 (wc c)) (k0_pay5 x (wc c)) (k0_pay6 x cs sn pm (wc c)) (k0_pay7 x cs sn pm (wc c)) (k0_pay17 (k0_pay5 x (wc c)) (k0_pay6 x cs sn pm (wc c)) (k0_pay7 x cs sn pm (wc c)))) Ψ) := by
  iintro H Hk
  iapply (part6 c _ _ _ _ _ _) $$ [H]
  · iexact H
  iintro HK
  rw [own_eq]
  iapply Hk
  iexists _; iexact HK

set_option maxHeartbeats 1000000 in
/-- `part12` with the block's accumulator named. -/
theorem part12s (v7 : BitVec 32) (xb : FVec F S512x768 .bf16) (cs sn : Vec F S512x256 .f32) (pm : FVec F S256x256 .bf16) (acc : FVec F S512x768 .f32) (slot : Vec F S1x3072x128 .bf16) (f : Vec F S512x256 .bf16) {Ψ : _ → sProp 𝕄} :
    (iprop(env wc K c ∗ env2 c ∗ R0 true 1 0 c ∗ owesL c [(true, 2, 0), (true, 2, 1), (false, 2, 0), (false, 2, 1)] ∗ S0 true 2 0 c) : sProp 𝕄)
      ⊢ iprop(((R1 true 1 0 c ∗ owesL c [(true, 2, 1), (false, 2, 0), (false, 2, 1)] ∗ cPts true 1 0 c fullShare.left (WF wc true c) ∗ S1 true 2 0 c) -∗ Ψ (halfAcc xb cs sn pm acc slot))
        -∗ wp frame (wpE (defs₀ (F := F)) 𝕍 c none) Set.univ (k0_part12 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 c v7 acc (leftHalf (put (put (put (put f 0 0 (k0_pay31 xb (k0_pay22 slot) (k0_pay23 cs) (k0_pay24 sn) (k0_pay25 pm) (k0_pay26 xb slot) (k0_pay27 slot) (constant S512x128 .f32 0x00000000#32 : FVec F S512x128 .f32))) 0 1 (k0_pay33 (k0_pay32 xb (k0_pay22 slot) (k0_pay23 cs) (k0_pay24 sn) (k0_pay25 pm) (k0_pay26 xb slot) (k0_pay27 slot) (constant S512x128 .f32 0x00000000#32 : FVec F S512x128 .f32)))) 1 0 (k0_pay34 (k0_pay28 xb (k0_pay22 slot)) (k0_pay29 (k0_pay23 cs) (k0_pay24 sn) (k0_pay25 pm) (k0_pay26 xb slot)) (k0_pay30 xb (k0_pay23 cs) (k0_pay24 sn) (k0_pay25 pm) (k0_pay27 slot) (constant S512x128 .f32 0x00000000#32 : FVec F S512x128 .f32)))) 1 1 (k0_pay35 (k0_pay28 xb (k0_pay22 slot)) (k0_pay29 (k0_pay23 cs) (k0_pay24 sn) (k0_pay25 pm) (k0_pay26 xb slot)) (k0_pay30 xb (k0_pay23 cs) (k0_pay24 sn) (k0_pay25 pm) (k0_pay27 slot) (constant S512x128 .f32 0x00000000#32 : FVec F S512x128 .f32))))) (k0_pay36 (k0_pay22 slot)) (constant S512x768 .f32 0x00000000#32 : FVec F S512x768 .f32)) Ψ) := by
  iintro H Hk
  iapply (part12 wc K c _ _ _ _ _) $$ [H]
  · iexact H
  iintro ⟨Rt10, HO, CLt10, St20⟩
  rw [half_eq1]
  iapply Hk
  isplitl [Rt10]; · iexact Rt10
  isplitl [HO]; · iexact HO
  isplitl [CLt10]; · iexact CLt10
  iexact St20

set_option maxHeartbeats 1000000 in
/-- `part15` with the block's accumulator named. -/
theorem part15s (v5 : BitVec 32) (xb : FVec F S512x768 .bf16) (cs sn : Vec F S512x256 .f32) (pm : FVec F S256x256 .bf16) (acc : FVec F S512x768 .f32) (slot : Vec F S1x3072x128 .bf16) (f : Vec F S512x256 .bf16) {Ψ : _ → sProp 𝕄} :
    (iprop(ctxP c (put (put f 0 0 (k0_pay48 (k0_pay43 xb slot) (k0_pay44 xb cs sn pm slot) (k0_pay45 xb cs slot) (k0_pay46 xb sn pm slot))) 0 1 (k0_pay49 (k0_pay43 xb slot) (k0_pay44 xb cs sn pm slot) (k0_pay45 xb cs slot) (k0_pay46 xb sn pm slot)))) : sProp 𝕄)
      ⊢ iprop((((∃ g : Vec F S512x256 .bf16, ctxP c g)) -∗ Ψ (halfAcc xb cs sn pm acc slot))
        -∗ wp frame (wpE (defs₀ (F := F)) 𝕍 c none) Set.univ (k0_part15 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v5 acc (k0_pay38 slot) (k0_pay43 xb slot) (k0_pay44 xb cs sn pm slot) (k0_pay47 (k0_pay45 xb cs slot) (k0_pay46 xb sn pm slot)) (k0_pay50 (k0_pay43 xb slot)) (k0_pay51 (k0_pay44 xb cs sn pm slot) (k0_pay45 xb cs slot) (k0_pay46 xb sn pm slot))) Ψ) := by
  iintro H Hk
  iapply (part15 c _ _ _ _ _ _ _ _ _) $$ [H]
  · iexact H
  iintro HK
  rw [half_eq2]
  iapply Hk
  iexists _; iexact HK

set_option maxHeartbeats 1000000 in
/-- `part19` with the block's accumulator named. -/
theorem part19s (xb : FVec F S512x768 .bf16) (cs sn : Vec F S512x256 .f32) (pm : FVec F S256x256 .bf16) (acc : FVec F S512x768 .f32) (slot : Vec F S1x3072x128 .bf16) (f : Vec F S512x256 .bf16) {Ψ : _ → sProp 𝕄} :
    (iprop(ctxP c (put (put (put f 0 0 (k0_pay65 (k0_pay63 xb cs sn pm slot) (k0_pay64 xb cs sn pm slot))) 0 1 (k0_pay66 (k0_pay59 xb slot) (k0_pay60 xb cs sn pm slot) (k0_pay61 xb cs sn pm slot))) 1 0 (k0_pay67 (k0_pay59 xb slot) (k0_pay60 xb cs sn pm slot) (k0_pay61 xb cs sn pm slot))) ∗ cPts false 1 0 c fullShare.left (WF wc false c) ∗ cPts false 1 1 c fullShare.left (WF wc false c)) : sProp 𝕄)
      ⊢ iprop((((∃ g : Vec F S512x256 .bf16, ctxP c g) ∗ cPts false 1 0 c fullShare.left (WF wc false c) ∗ cPts false 1 1 c fullShare.left (WF wc false c)) -∗ Ψ ⟨halfAcc xb cs sn pm acc slot, k0_pay73 (slotV wc false 1 c), k0_pay77 xb (slotV wc false 1 c), k0_pay78 xb cs sn pm (slotV wc false 1 c), k0_pay79 xb cs sn pm (slotV wc false 1 c)⟩)
        -∗ wp frame (wpE (defs₀ (F := F)) 𝕍 c none) Set.univ (k0_part19 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 xb cs sn pm acc (k0_pay55 slot) (k0_pay68 (k0_pay60 xb cs sn pm slot)) (k0_pay69 (k0_pay61 xb cs sn pm slot)) (k0_pay70 (k0_pay59 xb slot))) Ψ) := by
  iintro H Hk
  iapply (part19 wc c _ _ _ _ _ _ _ _ _ _) $$ [H]
  · iexact H
  iintro ⟨HK, CLf10, CLf11⟩
  rw [half_eq3]
  iapply Hk
  isplitl [HK]; · iexists _; iexact HK
  isplitl [CLf10]; · iexact CLf10
  iexact CLf11

set_option maxHeartbeats 1000000 in
/-- `part21` with the block's accumulator named. -/
theorem part21s (v7 : BitVec 32) (xb : FVec F S512x768 .bf16) (cs sn : Vec F S512x256 .f32) (pm : FVec F S256x256 .bf16) (acc : FVec F S512x768 .f32) (slot : Vec F S1x3072x128 .bf16) (f : Vec F S512x256 .bf16) {Ψ : _ → sProp 𝕄} :
    (iprop(ctxP c (put (put f 0 0 (k0_pay80 (k0_pay77 xb slot) (k0_pay78 xb cs sn pm slot) (k0_pay79 xb cs sn pm slot))) 0 1 (k0_pay81 (k0_pay77 xb slot) (k0_pay78 xb cs sn pm slot) (k0_pay79 xb cs sn pm slot)))) : sProp 𝕄)
      ⊢ iprop((((∃ g : Vec F S512x256 .bf16, ctxP c g)) -∗ Ψ (halfAcc xb cs sn pm acc slot))
        -∗ wp frame (wpE (defs₀ (F := F)) 𝕍 c none) Set.univ (k0_part21 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v7 acc (k0_pay73 slot) (k0_pay77 xb slot) (k0_pay78 xb cs sn pm slot) (k0_pay79 xb cs sn pm slot) (k0_pay82 (k0_pay77 xb slot)) (k0_pay83 (k0_pay78 xb cs sn pm slot) (k0_pay79 xb cs sn pm slot)) (k0_pay84 (k0_pay78 xb cs sn pm slot) (k0_pay79 xb cs sn pm slot))) Ψ) := by
  iintro H Hk
  iapply (part21 c _ _ _ _ _ _ _ _ _ _) $$ [H]
  · iexact H
  iintro HK
  rw [half_eq4]
  iapply Hk
  iexists _; iexact HK

set_option maxHeartbeats 1000000 in
/-- `part24` with the block's accumulator named. -/
theorem part24s (v5 : BitVec 32) (xb : FVec F S512x768 .bf16) (cs sn : Vec F S512x256 .f32) (pm : FVec F S256x256 .bf16) (acc : FVec F S512x768 .f32) (slot : Vec F S1x3072x128 .bf16) (f : Vec F S512x256 .bf16) {Ψ : _ → sProp 𝕄} :
    (iprop(ctxP c (put (put f 0 0 (k0_pay98 (k0_pay95 xb cs sn pm slot) (k0_pay96 xb cs sn pm slot) (k0_pay97 xb slot))) 0 1 (k0_pay99 (k0_pay92 xb slot) (k0_pay93 xb cs sn pm slot) (k0_pay94 xb cs sn pm slot)))) : sProp 𝕄)
      ⊢ iprop((((∃ g : Vec F S512x256 .bf16, ctxP c g)) -∗ Ψ (halfAcc xb cs sn pm acc slot))
        -∗ wp frame (wpE (defs₀ (F := F)) 𝕍 c none) Set.univ (k0_part24 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 v5 acc (k0_pay88 slot) (k0_pay92 xb slot) (k0_pay93 xb cs sn pm slot) (k0_pay94 xb cs sn pm slot) (k0_pay101 (k0_pay93 xb cs sn pm slot) (k0_pay94 xb cs sn pm slot)) (k0_pay102 (k0_pay92 xb slot) (k0_pay93 xb cs sn pm slot) (k0_pay94 xb cs sn pm slot))) Ψ) := by
  iintro H Hk
  iapply (part24 c _ _ _ _ _ _ _ _ _) $$ [H]
  · iexact H
  iintro HK
  rw [half_eq5]
  iapply Hk
  iexists _; iexact HK

set_option maxHeartbeats 1000000 in
/-- `part27` with the block's accumulator named. -/
theorem part27s (xb : FVec F S512x768 .bf16) (cs sn : Vec F S512x256 .f32) (pm : FVec F S256x256 .bf16) (acc : FVec F S512x768 .f32) (slot : Vec F S1x3072x128 .bf16) (f : Vec F S512x256 .bf16) {Ψ : _ → sProp 𝕄} :
    (iprop(env wc K c ∗ ctxP c (put (put f 0 0 (k0_pay115 (k0_pay113 xb slot) (k0_pay114 xb cs sn pm slot) (Scalar.ofBits .f32 0x3E000000#32 : F .f32))) 0 1 (k0_pay116 (k0_pay110 xb slot) (k0_pay111 xb cs sn pm slot) (k0_pay112 xb cs sn pm slot))) ∗ S1 true 0 0 c ∗ owesL c []) : sProp 𝕄)
      ⊢ iprop((((∃ g : Vec F S512x256 .bf16, ctxP c g) ∗ S2 true 0 0 c ∗ owesL c [] ∗ sendPay wc true 0 0 c) -∗ Ψ (halfAcc xb cs sn pm acc slot))
        -∗ wp frame (wpE (defs₀ (F := F)) 𝕍 c none) Set.univ (k0_part27 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 acc (k0_pay106 slot) (k0_pay110 xb slot) (k0_pay111 xb cs sn pm slot) (k0_pay112 xb cs sn pm slot) (k0_pay117 (k0_pay110 xb slot) (k0_pay111 xb cs sn pm slot) (k0_pay112 xb cs sn pm slot))) Ψ) := by
  iintro H Hk
  iapply (part27 wc K c _ _ _ _ _ _ _) $$ [H]
  · iexact H
  iintro ⟨HK, St00, HO, Qt00⟩
  rw [half_eq6]
  iapply Hk
  isplitl [HK]; · iexists _; iexact HK
  isplitl [St00]; · iexact St00
  isplitl [HO]; · iexact HO
  iexact Qt00

end Cert.KernelIdeal.Talk

end
-- ==== Proof.KernelIdeal.Opening.lean ====
/-
# Opening and closing

The opening of the body, up to the first transfer, and the lemmas that put the shares together and close the cells at its end.
-/
module

public import proofs.«01_k».proof.Proof.KernelIdeal.PartsA

@[expose] public section

noncomputable section

namespace Cert.KernelIdeal.Talk

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (wc : Dev nD → Vec F S3072x256 .bf16)
variable (K : GSem nD τ sig → ℕ) (c : Dev nD)

/-! ## The transfers as lists -/

/-- The tokens of a transfer before its destination is known to be free. -/
def T0 (b : Bool) (u : Fin 3) (k : Fin 2) (c : Dev nD) : sProp 𝕄 :=
  iprop(atPos ER (sCell b u k c) 0 ∅ 0 ∗ dutyTok ER (sCell b u k c) 0 false ∗ dutyTok ER (rCell b u k (nb b c)) 0 false)

theorem all12 (Φ : Tr → sProp 𝕄) : (bigSep (Finset.univ : Finset Tr) Φ) = iprop(Φ (true, 0, 0) ∗ Φ (false, 0, 0) ∗ Φ (true, 0, 1) ∗ Φ (false, 0, 1) ∗ Φ (true, 1, 0) ∗ Φ (false, 1, 0) ∗ Φ (true, 1, 1) ∗ Φ (false, 1, 1) ∗ Φ (true, 2, 0) ∗ Φ (true, 2, 1) ∗ Φ (false, 2, 0) ∗ Φ (false, 2, 1)) := by
  rw [bigSep_univ_eq_bigSepL [(true, 0, 0), (false, 0, 0), (true, 0, 1), (false, 0, 1), (true, 1, 0), (false, 1, 0), (true, 1, 1), (false, 1, 1), (true, 2, 0), (true, 2, 1), (false, 2, 0), (false, 2, 1)] (by decide) (by decide)]; rfl
theorem all24 (Φ : Bool × Tr → sProp 𝕄) : (bigSep (Finset.univ : Finset (Bool × Tr)) Φ)
    = iprop((bigSep (Finset.univ : Finset Tr) fun x => Φ (true, x)) ∗ bigSep (Finset.univ : Finset Tr) fun x => Φ (false, x)) := by
  rw [bigSep_univ_prod Φ, show (Finset.univ : Finset Bool) = {true, false} from rfl, bigSep_insert (by decide), bigSep_singleton]
  rfl

theorem s0_of (b : Bool) (u : Fin 3) (k : Fin 2) (f : Buf (Elt F) ((wM b).view.loc (nb b c : Thread nD τ))) :
    iprop(T0 b u k c ∗ cPts b u k (nb b c) fullShare f) ⊢ (S0 b u k c : sProp 𝕄) := by
  unfold T0 S0
  iintro ⟨⟨H1, H2, H3⟩, Hd⟩
  isplitl [H1]; · iexact H1
  isplitl [H2]; · iexact H2
  isplitl [H3]; · iexact H3
  iexists f; iexact Hd

theorem w_cut6 (b : Bool) (c : Dev nD) (f : Buf (Elt F) ((wM b).view.loc (c : Thread nD τ))) :
    ((wM b).view.loc (c : Thread nD τ) ↦{fullShare} f : sProp 𝕄) ⊢ iprop(cPts b 0 0 c fullShare f ∗ cPts b 0 1 c fullShare f ∗ cPts b 1 0 c fullShare f ∗ cPts b 1 1 c fullShare f
      ∗ cPts b 2 0 c fullShare f ∗ cPts b 2 1 c fullShare f) := by rw [w_split6]
/-- The six transfers of a direction, once the destination buffer is known to be free. -/
theorem s0_all (b : Bool) :
    iprop((∃ f : Buf (Elt F) ((wM b).view.loc (nb b c : Thread nD τ)), (wM b).view.loc (nb b c : Thread nD τ) ↦{fullShare} f)
      ∗ T0 b 0 0 c ∗ T0 b 0 1 c ∗ T0 b 1 0 c ∗ T0 b 1 1 c ∗ T0 b 2 0 c ∗ T0 b 2 1 c)
    ⊢ (iprop(S0 b 0 0 c ∗ S0 b 0 1 c ∗ S0 b 1 0 c ∗ S0 b 1 1 c ∗ S0 b 2 0 c ∗ S0 b 2 1 c) : sProp 𝕄) := by
  iintro ⟨⟨%f, Hw⟩, H1, H2, H3, H4, H5, H6⟩
  ihave Hw := (w_cut6 b (nb b c) f) $$ Hw
  icases Hw with ⟨W1, W2, W3, W4, W5, W6⟩
  isplitl [H1 W1]; · iapply (s0_of c b 0 0 f); isplitl [H1]; · iexact H1
                     iexact W1
  isplitl [H2 W2]; · iapply (s0_of c b 0 1 f); isplitl [H2]; · iexact H2
                     iexact W2
  isplitl [H3 W3]; · iapply (s0_of c b 1 0 f); isplitl [H3]; · iexact H3
                     iexact W3
  isplitl [H4 W4]; · iapply (s0_of c b 1 1 f); isplitl [H4]; · iexact H4
                     iexact W4
  isplitl [H5 W5]; · iapply (s0_of c b 2 0 f); isplitl [H5]; · iexact H5
                     iexact W5
  iapply (s0_of c b 2 1 f); isplitl [H6]; · iexact H6
  iexact W6

/-- The shares of a chunk put together. -/
theorem joinC (b : Bool) (u : Fin 3) (k : Fin 2) : iprop(cPts b u k c fullShare.left (WF wc b c) ∗ cPts b u k c fullShare.right (WF wc b c))
    ⊢ (cPts b u k c fullShare (WF wc b c) : sProp 𝕄) := (pointsTo_share (PosShare.mem_left_op_right fullShare)).2

theorem pay0 (b : Bool) (k : Fin 2) : (sendPay wc b 0 k c : sProp 𝕄) ⊢ pPts b k c fullShare.right (catF wc c) := BI.Entails.refl _
theorem pay1 (b : Bool) (k : Fin 2) : (sendPay wc b 1 k c : sProp 𝕄) ⊢ cPts b 0 k c fullShare.right (WF wc b c) := BI.Entails.refl _
theorem pay2 (b : Bool) (k : Fin 2) : (sendPay wc b 2 k c : sProp 𝕄) ⊢ cPts b 1 k c fullShare.right (WF wc b c) := BI.Entails.refl _

/-- A receive buffer put together: the left shares kept, the right shares back from the sends, and those never lent. -/
theorem joinW (b : Bool) :
    iprop((cPts b 0 0 c fullShare.left (WF wc b c) ∗ cPts b 0 1 c fullShare.left (WF wc b c) ∗ cPts b 1 0 c fullShare.left (WF wc b c)
        ∗ cPts b 1 1 c fullShare.left (WF wc b c) ∗ cPts b 2 0 c fullShare.left (WF wc b c) ∗ cPts b 2 1 c fullShare.left (WF wc b c))
      ∗ (sendPay wc b 1 0 c ∗ sendPay wc b 1 1 c ∗ sendPay wc b 2 0 c ∗ sendPay wc b 2 1 c)
      ∗ cPts b 2 0 c fullShare.right (WF wc b c) ∗ cPts b 2 1 c fullShare.right (WF wc b c))
    ⊢ (iprop(∃ f : Buf (Elt F) ((wM b).view.loc (c : Thread nD τ)), (wM b).view.loc (c : Thread nD τ) ↦{fullShare} f) : sProp 𝕄) := by
  iintro ⟨⟨L1, L2, L3, L4, L5, L6⟩, ⟨Q1, Q2, Q3, Q4⟩, Q5, Q6⟩
  iexists WF wc b c
  rw [w_split6]
  isplitl [L1 Q1]; · iapply (joinC wc c b 0 0); isplitl [L1]; · iexact L1
                     iapply (pay1 wc c b 0); iexact Q1
  isplitl [L2 Q2]; · iapply (joinC wc c b 0 1); isplitl [L2]; · iexact L2
                     iapply (pay1 wc c b 1); iexact Q2
  isplitl [L3 Q3]; · iapply (joinC wc c b 1 0); isplitl [L3]; · iexact L3
                     iapply (pay2 wc c b 0); iexact Q3
  isplitl [L4 Q4]; · iapply (joinC wc c b 1 1); isplitl [L4]; · iexact L4
                     iapply (pay2 wc c b 1); iexact Q4
  isplitl [L5 Q5]; · iapply (joinC wc c b 2 0); isplitl [L5]; · iexact L5
                     iexact Q5
  iapply (joinC wc c b 2 1); isplitl [L6]; · iexact L6
  iexact Q6

/-- The staged own block cut for the run: the left share for the load, the right share in four pieces. -/
theorem cutCat : (catM.view.loc (c : Thread nD τ) ↦{fullShare} (catF wc c) : sProp 𝕄)
    ⊢ iprop(catL c (catF wc c) ∗ pPts true 0 c fullShare.right (catF wc c) ∗ pPts false 0 c fullShare.right (catF wc c)
      ∗ pPts true 1 c fullShare.right (catF wc c) ∗ pPts false 1 c fullShare.right (catF wc c)) := by
  rw [← cat_split]; exact (pointsTo_share (PosShare.mem_left_op_right fullShare)).1
/-- And put together again. -/
theorem joinCat : iprop(catL c (catF wc c) ∗ sendPay wc true 0 0 c ∗ sendPay wc false 0 0 c ∗ sendPay wc true 0 1 c ∗ sendPay wc false 0 1 c)
    ⊢ (catM.view.loc (c : Thread nD τ) ↦{fullShare} (catF wc c) : sProp 𝕄) := by
  iintro ⟨HL, Q1, Q2, Q3, Q4⟩
  iapply (pointsTo_share (PosShare.mem_left_op_right fullShare)).2
  isplitl [HL]; · iexact HL
  rw [cat_split]
  isplitl [Q1]; · iapply (pay0 wc c true 0); iexact Q1
  isplitl [Q2]; · iapply (pay0 wc c false 0); iexact Q2
  isplitl [Q3]; · iapply (pay0 wc c true 1); iexact Q3
  iapply (pay0 wc c false 1); iexact Q4

/-! ## Closing the cells -/

theorem close1 (p : Dev nD × Option (Bool × Tr)) : iprop(env wc K c ∗ atPos ER (cellAt p) (0 + 1) ∅ 0) ⊢ (iprop(|={Set.univ}=> semVal (cellAt p) 0) : sProp 𝕄) := by
  iintro ⟨HE, Hat⟩
  iapply (Rounds.cell_close ER (rd wc) (g := cellAt p) (κ := K (cellAt p)) (Set.mem_univ _) id (duties_later wc (cellAt p)))
  isplitl [HE]; · iapply (env_inv wc K c p); iexact HE
  iexact Hat

theorem closeAll : iprop(env wc K c ∗ bigSep (Finset.univ : Finset (Bool × Tr)) fun x => atPos ER (cellAt (c, some x)) (0 + 1) ∅ 0)
    ⊢ (iprop(|={Set.univ}=> bigSep (Finset.univ : Finset (Bool × Tr)) fun x => semVal (cellAt (c, some x)) 0) : sProp 𝕄) := by
  have h : (iprop(env wc K c ∗ bigSep (Finset.univ : Finset (Bool × Tr)) fun x => atPos ER (cellAt (c, some x)) (0 + 1) ∅ 0) : sProp 𝕄)
      ⊢ bigSep (Finset.univ : Finset (Bool × Tr)) fun x => iprop(env wc K c ∗ atPos ER (cellAt (c, some x)) (0 + 1) ∅ 0) :=
    bigSep_with_persistent (fun x _ => BI.Entails.refl _)
  exact h.trans ((bigSep_mono fun x _ => close1 wc K c (c, some x)).trans (BI.bigSep_fupd _ _))

/-- What is owed at the start, with the two barrier units last. -/
theorem O₀_cut {W} : (owes (c : Thread nD τ) (O₀ c) W : sProp 𝕄)
    ⊢ owes (c : Thread nD τ) (owedL c allTr + tallyAt (barCell (nb (!false) c)) () 1 + tallyAt (barCell (nb (!true) c)) () 1) W := by
  have h : O₀ c = owedL c allTr + tallyAt (barCell (nb (!false) c)) () 1 + tallyAt (barCell (nb (!true) c)) () 1 := rfl
  rw [h]

theorem bindStep {α β : Type} {m : Prog (TpuEff nD τ sig (Elt F) Λ₀ .tc) β} {kk : β → Prog (TpuEff nD τ sig (Elt F) Λ₀ .tc) α} {Ψ : α → sProp 𝕄} :
    wp frame (wpE (defs₀ (F := F)) 𝕍 c none) Set.univ m (fun r => wp frame (wpE (defs₀ (F := F)) 𝕍 c none) Set.univ (kk r) Ψ)
      ⊢ wp frame (wpE (defs₀ (F := F)) 𝕍 c none) Set.univ (m >>= kk) Ψ := by
  rw [wp_bind]

set_option maxHeartbeats 1000000 in
/-- The opening: the two barrier units, the barrier wait, and the first transfer. -/
theorem part1 {Ψ : _ → sProp 𝕄} :
    (iprop(env wc K c ∗ pPts true 0 c fullShare.right (catF wc c) ∗ dutyTok ER (barCell (nb (!true) c)) 0 true ∗ dutyTok ER (barCell (nb (!false) c)) 0 false ∗ (∃ f : Buf (Elt F) ((wM true).view.loc (c : Thread nD τ)), (wM true).view.loc (c : Thread nD τ) ↦{fullShare} f) ∗ (∃ f : Buf (Elt F) ((wM false).view.loc (c : Thread nD τ)), (wM false).view.loc (c : Thread nD τ) ↦{fullShare} f) ∗ (∃ W, owes (c : Thread nD τ) (O₀ c) W)
      ∗ atPos ER (barCell c) 0 ∅ 0 ∗ cred (tallyAt (barCell c) () 2) ∗ (bigSep (Finset.univ : Finset Tr) fun x => T0 x.1 x.2.1 x.2.2 c)) : sProp 𝕄)
      ⊢ iprop((∀ a b e, (env2 c ∗ atPos ER (barCell c) (0 + 1) ∅ 0 ∗ owesL c [(false, 0, 0), (true, 0, 1), (false, 0, 1), (true, 1, 0), (false, 1, 0), (true, 1, 1), (false, 1, 1), (true, 2, 0), (true, 2, 1), (false, 2, 0), (false, 2, 1)] ∗ S1 true 0 0 c ∗ S0 false 0 0 c ∗ S0 true 0 1 c ∗ S0 false 0 1 c ∗ S0 true 1 0 c ∗ S0 false 1 0 c ∗ S0 true 1 1 c ∗ S0 false 1 1 c ∗ S0 true 2 0 c ∗ S0 true 2 1 c ∗ S0 false 2 0 c ∗ S0 false 2 1 c) -∗ Ψ ⟨c, a, b, e⟩)
        -∗ wp frame (wpE (defs₀ (F := F)) 𝕍 c none) Set.univ (k0_part1 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6) Ψ) := by
  simp only [k0_part1_eq_skeleton]; unfold k0_part1_skel
  simp only [semSignalWord, semWaitWord, Prog.lift, Prog.bind_op, Prog.bind_ret, Prog.pure_eq_ret, Prog.bind_assoc, wp_deviceId, all12]
  iintro ⟨#HE, Pt0, Htt, Htf, Hwt, Hwf, HO, Hat, Hc, Tt00, Tf00, Tt01, Tf01, Tt10, Tf10, Tt11, Tf11, Tt20, Tt21, Tf20, Tf21⟩ Hk
  icases HO with ⟨%W0, HO⟩
  ihave HO := (O₀_cut c) $$ HO
  iapply (signal wc K c true (owedL c allTr + tallyAt (barCell (nb (!false) c)) () 1) (dev1_eq c)) $$ [Htt Hwt HO]
  · isplitr; · iexact HE
    isplitl [Htt]; · iexact Htt
    isplitl [Hwt]; · iexact Hwt
    iexists W0; iexact HO
  iintro ⟨%W1, HO⟩
  iapply (signal wc K c false (owedL c allTr) (dev2_eq c)) $$ [Htf Hwf HO]
  · isplitr; · iexact HE
    isplitl [Htf]; · iexact Htf
    isplitl [Hwf]; · iexact Hwf
    iexists W1; iexact HO
  iintro HO
  iapply (barrier wc K c allTr) $$ [Hat Hc HO]
  · isplitr; · iexact HE
    isplitl [Hat]; · iexact Hat
    isplitl [Hc]; · iexact Hc
    unfold owesL; iexact HO
  iintro ⟨Hat, #HE2, Hdt, Hdf, HO⟩
  ihave HS := (s0_all c true) $$ [Hdt Tt00 Tt01 Tt10 Tt11 Tt20 Tt21]
  · isplitl [Hdt]; · iexact Hdt
    isplitl [Tt00]; · iexact Tt00
    isplitl [Tt01]; · iexact Tt01
    isplitl [Tt10]; · iexact Tt10
    isplitl [Tt11]; · iexact Tt11
    isplitl [Tt20]; · iexact Tt20
    iexact Tt21
  icases HS with ⟨St00, St01, St10, St11, St20, St21⟩
  ihave HS := (s0_all c false) $$ [Hdf Tf00 Tf01 Tf10 Tf11 Tf20 Tf21]
  · isplitl [Hdf]; · iexact Hdf
    isplitl [Tf00]; · iexact Tf00
    isplitl [Tf01]; · iexact Tf01
    isplitl [Tf10]; · iexact Tf10
    isplitl [Tf11]; · iexact Tf11
    isplitl [Tf20]; · iexact Tf20
    iexact Tf21
  icases HS with ⟨Sf00, Sf01, Sf10, Sf11, Sf20, Sf21⟩
  iapply (send0 wc K c true 0 [(false, 0, 0), (true, 0, 1), (false, 0, 1), (true, 1, 0), (false, 1, 0), (true, 1, 1), (false, 1, 1), (true, 2, 0), (true, 2, 1), (false, 2, 0), (false, 2, 1)] (dev3_eq c)) $$ [St00 Pt0 HO]
  · isplitr; · iexact HE
    isplitr; · iexact HE2
    isplitl [St00]; · iexact St00
    isplitl [Pt0]; · iexact Pt0
    iexact HO
  iintro ⟨St00, HO⟩
  rw [wp_ret]; imodintro
  iapply Hk
  isplitr; · iexact HE2
  isplitl [Hat]; · iexact Hat
  isplitl [HO]; · iexact HO
  isplitl [St00]; · iexact St00
  isplitl [Sf00]; · iexact Sf00
  isplitl [St01]; · iexact St01
  isplitl [Sf01]; · iexact Sf01
  isplitl [St10]; · iexact St10
  isplitl [Sf10]; · iexact Sf10
  isplitl [St11]; · iexact St11
  isplitl [Sf11]; · iexact Sf11
  isplitl [St20]; · iexact St20
  isplitl [St21]; · iexact St21
  isplitl [Sf20]; · iexact Sf20
  iexact Sf21

end Cert.KernelIdeal.Talk

end
-- ==== Proof.KernelIdeal.Run.lean ====
/-
# The whole body on one device

The parts composed. Before the body: the tokens, positions and credits of the device, its two receive buffers at any
contents and the staged operands. After it: every semaphore back at zero, nothing owed, the operands unchanged, and the
output buffer at `outV`.
-/
module

public import proofs.«01_k».proof.Proof.KernelIdeal.Ends
public import proofs.«01_k».proof.Proof.KernelIdeal.Opening

@[expose] public section

noncomputable section

namespace Cert.KernelIdeal.Talk

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (wc : Dev nD → Vec F S3072x256 .bf16)
variable (K : GSem nD τ sig → ℕ) (c : Dev nD)

set_option maxHeartbeats 4000000 in
theorem owesL_nil (c : Dev nD) : (owesL c [] : sProp 𝕄) = iprop(∃ W, owes (c : Thread nD τ) (0 : CellTallies nD τ sig Unit) W) := rfl

/-- The whole body on one device, at symbolic contents. -/
theorem run (x : Vec F S2x256x768 .f32) (cs sn : Vec F S512x256 .f32) (pm : Vec F S256x256 .bf16) {Ψ : _ → sProp 𝕄} :
    (iprop(env wc K c ∗ dutyTok ER (barCell (nb (!true) c)) 0 true ∗ dutyTok ER (barCell (nb (!false) c)) 0 false ∗ (∃ f : Buf (Elt F) ((wM true).view.loc (c : Thread nD τ)), (wM true).view.loc (c : Thread nD τ) ↦{fullShare} f) ∗ (∃ f : Buf (Elt F) ((wM false).view.loc (c : Thread nD τ)), (wM false).view.loc (c : Thread nD τ) ↦{fullShare} f) ∗ (∃ W, owes (c : Thread nD τ) (O₀ c) W)
      ∗ atPos ER (barCell c) 0 ∅ 0 ∗ cred (tallyAt (barCell c) () 2) ∗ (bigSep (Finset.univ : Finset Tr) fun x => T0 x.1 x.2.1 x.2.2 c) ∗ (bigSep (Finset.univ : Finset Tr) fun x => R0 x.1 x.2.1 x.2.2 c)
      ∗ stgP c cc0_stg0_0 x ∗ (catM.view.loc (c : Thread nD τ) ↦{fullShare} (catF wc c)) ∗ stgP c cc0_stg2_0 cs ∗ stgP c cc0_stg3_0 sn ∗ stgP c cc0_stg4_0 pm
      ∗ (∃ v, stgP c cc0_stg5_0 v) ∗ (∃ f : Vec F S512x256 .bf16, ctxP c f)) : sProp 𝕄)
      ⊢ iprop((((bigSep (Finset.univ : Finset (Bool × Tr)) fun x => semVal (cellAt (c, some x)) 0) ∗ semVal (barCell c) 0 ∗ (∃ W, owes (c : Thread nD τ) 0 W) ∗ (∃ f : Buf (Elt F) ((wM true).view.loc (c : Thread nD τ)), (wM true).view.loc (c : Thread nD τ) ↦{fullShare} f) ∗ (∃ f : Buf (Elt F) ((wM false).view.loc (c : Thread nD τ)), (wM false).view.loc (c : Thread nD τ) ↦{fullShare} f)
      ∗ stgP c cc0_stg0_0 x ∗ (catM.view.loc (c : Thread nD τ) ↦{fullShare} (catF wc c)) ∗ stgP c cc0_stg2_0 cs ∗ stgP c cc0_stg3_0 sn ∗ stgP c cc0_stg4_0 pm
      ∗ stgP c cc0_stg5_0 (outV wc c x cs sn pm) ∗ (∃ f : Vec F S512x256 .bf16, ctxP c f)) -∗ Ψ ⟨⟩)
        -∗ wp frame (wpE (defs₀ (F := F)) 𝕍 c none) Set.univ (cc0_body (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6) Ψ) := by
  simp only [cc0_body_eq_skeleton]; unfold cc0_body_skel
  simp only [all12 fun x : Tr => R0 x.1 x.2.1 x.2.2 c]
  iintro ⟨#HE, Ht1, Ht2, Hw1, Hw2, HO, Hat, Hc, HT, ⟨Rt00, Rf00, Rt01, Rf01, Rt10, Rf10, Rt11, Rf11, Rt20, Rt21, Rf20, Rf21⟩, HX, Hcat, HC, HSN, HPM, ⟨%ov, HOUT⟩, ⟨%f0, HK⟩⟩ HΨ
  icases (cutCat wc c) $$ Hcat with ⟨HCT, Pt0, Pf0, Pt1, Pf1⟩
  iapply (bindStep c)
  iapply (part1 wc K c) $$ [Pt0 Ht1 Ht2 Hw1 Hw2 HO Hat Hc HT]
  · isplitr; · iexact HE
    isplitl [Pt0]; · iexact Pt0
    isplitl [Ht1]; · iexact Ht1
    isplitl [Ht2]; · iexact Ht2
    isplitl [Hw1]; · iexact Hw1
    isplitl [Hw2]; · iexact Hw2
    isplitl [HO]; · iexact HO
    isplitl [Hat]; · iexact Hat
    isplitl [Hc]; · iexact Hc
    iexact HT
  iintro %v5 %v7 %v22 ⟨#HE2, Hat, HO, St00, Sf00, St01, Sf01, St10, Sf10, St11, Sf11, St20, St21, Sf20, Sf21⟩
  iapply (bindStep c)
  iapply (part2 wc K c _ _ _ _) $$ [Sf00 HO Pf0 St01 Pt1 Sf01 Pf1 HX]
  · isplitr; · iexact HE
    isplitr; · iexact HE2
    isplitl [Sf00]; · iexact Sf00
    isplitl [HO]; · iexact HO
    isplitl [Pf0]; · iexact Pf0
    isplitl [St01]; · iexact St01
    isplitl [Pt1]; · iexact Pt1
    isplitl [Sf01]; · iexact Sf01
    isplitl [Pf1]; · iexact Pf1
    iexact HX
  iintro ⟨Sf00, HO, St01, Sf01, HX⟩
  iapply (bindStep c)
  iapply (part3 wc c _ _ _ _) $$ [HC HSN HPM HCT]
  · isplitl [HC]; · iexact HC
    isplitl [HSN]; · iexact HSN
    isplitl [HPM]; · iexact HPM
    iexact HCT
  iintro ⟨HC, HSN, HPM, HCT⟩
  iapply (bindStep c)
  iapply (part4 c _ _ _ _ _) $$ [HK]
  · iexact HK
  iintro HK
  iapply (bindStep c)
  iapply (part5 c _ _ _ _ _ _ _) $$ [HK]
  · iexact HK
  iintro HK
  iapply (bindStep c)
  iapply (part6s wc c _ _ _ _ _) $$ [HK]
  · iexact HK
  iintro ⟨%g6, HK⟩
  iapply (bindStep c)
  iapply (part7 wc K c _ _) $$ [Rt00 HO St10 Rf00]
  · isplitr; · iexact HE
    isplitr; · iexact HE2
    isplitl [Rt00]; · iexact Rt00
    isplitl [HO]; · iexact HO
    isplitl [St10]; · iexact St10
    iexact Rf00
  iintro ⟨Rt00, HO, CLt00, St10, Rf00, CLf00, CRf00⟩
  iapply (bindStep c)
  iapply (part8 wc K c _ _) $$ [Sf10 HO CRf00 Rt01]
  · isplitr; · iexact HE
    isplitr; · iexact HE2
    isplitl [Sf10]; · iexact Sf10
    isplitl [HO]; · iexact HO
    isplitl [CRf00]; · iexact CRf00
    iexact Rt01
  iintro ⟨Sf10, HO, Rt01, CLt01, CRt01⟩
  iapply (bindStep c)
  iapply (part9 wc K c _ _ _ _ _) $$ [St11 HO CRt01 Rf01 Sf11 CLt00 CLt01]
  · isplitr; · iexact HE
    isplitr; · iexact HE2
    isplitl [St11]; · iexact St11
    isplitl [HO]; · iexact HO
    isplitl [CRt01]; · iexact CRt01
    isplitl [Rf01]; · iexact Rf01
    isplitl [Sf11]; · iexact Sf11
    isplitl [CLt00]; · iexact CLt00
    iexact CLt01
  iintro ⟨St11, HO, Rf01, CLf01, Sf11, CLt00, CLt01⟩
  iapply (bindStep c)
  iapply (part10 c _ _ _ _ _ _ _ _ _) $$ [HK]
  · iexact HK
  iintro HK
  iapply (bindStep c)
  iapply (part11 c _ _ _ _ _ _) $$ [HK]
  · iexact HK
  iintro HK
  iapply (bindStep c)
  iapply (part12s wc K c _ _ _ _ _ _ _ _) $$ [Rt10 HO St20]
  · isplitr; · iexact HE
    isplitr; · iexact HE2
    isplitl [Rt10]; · iexact Rt10
    isplitl [HO]; · iexact HO
    iexact St20
  iintro ⟨Rt10, HO, CLt10, St20⟩
  iapply (bindStep c)
  iapply (part13 wc K c _ _ _ _ _) $$ [Rt11 HO St21 CLf00 CLf01]
  · isplitr; · iexact HE
    isplitr; · iexact HE2
    isplitl [Rt11]; · iexact Rt11
    isplitl [HO]; · iexact HO
    isplitl [St21]; · iexact St21
    isplitl [CLf00]; · iexact CLf00
    iexact CLf01
  iintro ⟨Rt11, HO, CLt11, St21, CLf00, CLf01⟩
  iapply (bindStep c)
  iapply (part14 c _ _ _ _ _) $$ [HK]
  · iexact HK
  iintro HK
  iapply (bindStep c)
  iapply (part15s c _ _ _ _ _ _ _ _) $$ [HK]
  · iexact HK
  iintro ⟨%g15, HK⟩
  iapply (bindStep c)
  iapply (part16 wc K c _) $$ [Rf10 HO Sf20 Rf11]
  · isplitr; · iexact HE
    isplitr; · iexact HE2
    isplitl [Rf10]; · iexact Rf10
    isplitl [HO]; · iexact HO
    isplitl [Sf20]; · iexact Sf20
    iexact Rf11
  iintro ⟨Rf10, HO, CLf10, Sf20, Rf11, CLf11, CRf11⟩
  iapply (bindStep c)
  iapply (part17 wc K c _ _ _ _) $$ [Sf21 HO CRf11 CLt10 CLt11]
  · isplitr; · iexact HE
    isplitr; · iexact HE2
    isplitl [Sf21]; · iexact Sf21
    isplitl [HO]; · iexact HO
    isplitl [CRf11]; · iexact CRf11
    isplitl [CLt10]; · iexact CLt10
    iexact CLt11
  iintro ⟨Sf21, HO, CLt10, CLt11⟩
  iapply (bindStep c)
  iapply (part18 c _ _ _ _ _ _) $$ [HK]
  · iexact HK
  iintro HK
  iapply (bindStep c)
  iapply (part19s wc c _ _ _ _ _ _ _) $$ [HK CLf10 CLf11]
  · isplitl [HK]; · iexact HK
    isplitl [CLf10]; · iexact CLf10
    iexact CLf11
  iintro ⟨⟨%g19, HK⟩, CLf10, CLf11⟩
  iapply (bindStep c)
  iapply (part20 c _ _ _ _) $$ [HK]
  · iexact HK
  iintro HK
  iapply (bindStep c)
  iapply (part21s c _ _ _ _ _ _ _ _) $$ [HK]
  · iexact HK
  iintro ⟨%g21, HK⟩
  iapply (bindStep c)
  iapply (part22 wc K c _ _ _ _ _) $$ [Rt20 HO Rt21]
  · isplitr; · iexact HE
    isplitl [Rt20]; · iexact Rt20
    isplitl [HO]; · iexact HO
    iexact Rt21
  iintro ⟨Rt20, HO, CLt20, CRt20, Rt21, CLt21, CRt21⟩
  iapply (bindStep c)
  iapply (part23 c _ _ _ _ _ _ _) $$ [HK]
  · iexact HK
  iintro HK
  iapply (bindStep c)
  iapply (part24s c _ _ _ _ _ _ _ _) $$ [HK]
  · iexact HK
  iintro ⟨%g24, HK⟩
  iapply (bindStep c)
  iapply (part25 wc K c _ _ _ _ _) $$ [Rf20 HO Rf21]
  · isplitr; · iexact HE
    isplitl [Rf20]; · iexact Rf20
    isplitl [HO]; · iexact HO
    iexact Rf21
  iintro ⟨Rf20, HO, CLf20, CRf20, Rf21, CLf21, CRf21⟩
  iapply (bindStep c)
  iapply (part26 c _ _ _ _ _ _ _) $$ [HK]
  · iexact HK
  iintro HK
  iapply (bindStep c)
  iapply (part27s wc K c _ _ _ _ _ _ _) $$ [HK St00 HO]
  · isplitr; · iexact HE
    isplitl [HK]; · iexact HK
    isplitl [St00]; · iexact St00
    iexact HO
  iintro ⟨⟨%g27, HK⟩, St00, HO, Qt00⟩
  iapply (bindStep c)
  iapply (part28 wc K c) $$ [Sf00 HO St01 Sf01 St10]
  · isplitr; · iexact HE
    isplitl [Sf00]; · iexact Sf00
    isplitl [HO]; · iexact HO
    isplitl [St01]; · iexact St01
    isplitl [Sf01]; · iexact Sf01
    iexact St10
  iintro ⟨Sf00, HO, Qf00, St01, Qt01, Sf01, Qf01, St10, Qt10⟩
  iapply (bindStep c)
  iapply (part29 wc K c) $$ [Sf10 HO St11 Sf11]
  · isplitr; · iexact HE
    isplitl [Sf10]; · iexact Sf10
    isplitl [HO]; · iexact HO
    isplitl [St11]; · iexact St11
    iexact Sf11
  iintro ⟨Sf10, HO, Qf10, St11, Qt11, Sf11, Qf11⟩
  iapply (bindStep c)
  iapply (part30 wc K c) $$ [St20 HO St21 Sf20]
  · isplitr; · iexact HE
    isplitl [St20]; · iexact St20
    isplitl [HO]; · iexact HO
    isplitl [St21]; · iexact St21
    iexact Sf20
  iintro ⟨St20, HO, Qt20, St21, Qt21, Sf20, Qf20⟩
  simp only [Prog.lift, Prog.bind_op, Prog.bind_ret, Prog.pure_eq_ret, Prog.bind_assoc]
  iapply (waitSend wc K c false 2 1) $$ [Sf21 HO]
  · isplitr; · iexact HE
    isplitl [Sf21]; · iexact Sf21
    iexact HO
  iintro ⟨Sf21, Qf21, HO⟩
  iapply (loadW c z3) $$ [HOUT]
  · iexact HOUT
  iintro HOUT
  iapply (storeW c z3) $$ [HOUT]
  · iexact HOUT
  iintro HOUT
  unfold R1 S2
  imod (closeAll wc K c) $$ [Rt00 Rf00 Rt01 Rf01 Rt10 Rf10 Rt11 Rf11 Rt20 Rt21 Rf20 Rf21 St00 Sf00 St01 Sf01 St10 Sf10 St11 Sf11 St20 St21 Sf20 Sf21] with HV
  · isplitr; · iexact HE
    rw [all24]
    simp only [all12]
    isplitl [Rt00 Rf00 Rt01 Rf01 Rt10 Rf10 Rt11 Rf11 Rt20 Rt21 Rf20 Rf21]
    · isplitl [Rt00]; · iexact Rt00
      isplitl [Rf00]; · iexact Rf00
      isplitl [Rt01]; · iexact Rt01
      isplitl [Rf01]; · iexact Rf01
      isplitl [Rt10]; · iexact Rt10
      isplitl [Rf10]; · iexact Rf10
      isplitl [Rt11]; · iexact Rt11
      isplitl [Rf11]; · iexact Rf11
      isplitl [Rt20]; · iexact Rt20
      isplitl [Rt21]; · iexact Rt21
      isplitl [Rf20]; · iexact Rf20
      iexact Rf21
    isplitl [St00]; · iexact St00
    isplitl [Sf00]; · iexact Sf00
    isplitl [St01]; · iexact St01
    isplitl [Sf01]; · iexact Sf01
    isplitl [St10]; · iexact St10
    isplitl [Sf10]; · iexact Sf10
    isplitl [St11]; · iexact St11
    isplitl [Sf11]; · iexact Sf11
    isplitl [St20]; · iexact St20
    isplitl [St21]; · iexact St21
    isplitl [Sf20]; · iexact Sf20
    iexact Sf21
  imod (close1 wc K c (c, none)) $$ [Hat] with HB
  · isplitr; · iexact HE
    iexact Hat
  rw [wp_ret]; imodintro
  iapply HΨ
  isplitl [HV]; · iexact HV
  isplitl [HB]; · iexact HB
  isplitl [HO]; · iapply (Entails.of_eq (owesL_nil c)); iexact HO
  isplitl [CLt00 CLt01 CLt10 CLt11 CLt20 CLt21 Qt10 Qt11 Qt20 Qt21 CRt20 CRt21]
  · iapply (joinW wc c true)
    isplitl [CLt00 CLt01 CLt10 CLt11 CLt20 CLt21]
    · isplitl [CLt00]; · iexact CLt00
      isplitl [CLt01]; · iexact CLt01
      isplitl [CLt10]; · iexact CLt10
      isplitl [CLt11]; · iexact CLt11
      isplitl [CLt20]; · iexact CLt20
      iexact CLt21
    isplitl [Qt10 Qt11 Qt20 Qt21]
    · isplitl [Qt10]; · iexact Qt10
      isplitl [Qt11]; · iexact Qt11
      isplitl [Qt20]; · iexact Qt20
      iexact Qt21
    isplitl [CRt20]; · iexact CRt20
    iexact CRt21
  isplitl [CLf00 CLf01 CLf10 CLf11 CLf20 CLf21 Qf10 Qf11 Qf20 Qf21 CRf20 CRf21]
  · iapply (joinW wc c false)
    isplitl [CLf00 CLf01 CLf10 CLf11 CLf20 CLf21]
    · isplitl [CLf00]; · iexact CLf00
      isplitl [CLf01]; · iexact CLf01
      isplitl [CLf10]; · iexact CLf10
      isplitl [CLf11]; · iexact CLf11
      isplitl [CLf20]; · iexact CLf20
      iexact CLf21
    isplitl [Qf10 Qf11 Qf20 Qf21]
    · isplitl [Qf10]; · iexact Qf10
      isplitl [Qf11]; · iexact Qf11
      isplitl [Qf20]; · iexact Qf20
      iexact Qf21
    isplitl [CRf20]; · iexact CRf20
    iexact CRf21
  isplitl [HX]; · iexact HX
  isplitl [HCT Qt00 Qf00 Qt01 Qf01]
  · iapply (joinCat wc c)
    isplitl [HCT]; · iexact HCT
    isplitl [Qt00]; · iexact Qt00
    isplitl [Qf00]; · iexact Qf00
    isplitl [Qt01]; · iexact Qt01
    iexact Qf01
  isplitl [HC]; · iexact HC
  isplitl [HSN]; · iexact HSN
  isplitl [HPM]; · iexact HPM
  isplitl [HOUT]; · iexact HOUT
  iexists _; iexact HK

end Cert.KernelIdeal.Talk

end
-- ==== Proof.KernelIdeal.Region.lean ====
/-
# The call as a region of the program

The proof data of the one call: what its arrays hold on entry, what its body leaves, what the device owes before and after;
the body's obligation, from `run`; and the region's record, entered with the rights to open the transfer semaphores and
left with every semaphore at zero.
-/
module

public import proofs.«01_k».proof.Proof.KernelIdeal.Run

@[expose] public section

noncomputable section

namespace Cert.KernelIdeal.Talk

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The operands as the body finds them -/

def wcI (c : Dev nD) : Vec F S3072x256 .bf16 := iblk m c 1 t0_0
def xI (c : Dev nD) : Vec F S2x256x768 .f32 := iblk m c 0 t0_0
def csI (c : Dev nD) : Vec F S512x256 .f32 := iblk m c 2 t0_0
def snI (c : Dev nD) : Vec F S512x256 .f32 := iblk m c 3 t0_0
def pmI (c : Dev nD) : Vec F S256x256 .bf16 := iblk m c 4 t0_0
/-- What device `c` computes. -/
def outI (c : Dev nD) : Vec F S2x256x768 .f32 := outV (wcI m) c (xI m c) (csI m c) (snI m c) (pmI m c)

/-! ## The semaphores of the body -/

/-- The transfer semaphores: the receiving ones (`true`) and the sending ones. -/
def osem : Bool × Tr → SemLoc sig
  | (true, b, u, k) => .dma (rSem b u k)
  | (false, b, u, k) => .dma (sSem b u k)
theorem cellAt_some (c : Dev nD) (x : Bool × Tr) : cellAt (c, some x) = ((c : Thread nD τ), osem x) := by
  rcases x with ⟨_ | _, b, u, k⟩ <;> rfl
theorem osem_inj : Function.Injective osem := by decide
theorem osem_facts : Pipeline.OwnSemFacts spec0 osem := by decide
theorem ownSems_eq (c : Dev nD) : (Pipeline.ownSems0 osem c : sProp 𝕄) = bigSep (Finset.univ : Finset (Bool × Tr)) fun x => semVal (cellAt (c, some x)) 0 :=
  bigSep_congr fun x _ => by rw [cellAt_some]

/-! ## What enters the call and what leaves it -/

/-- Before the transfer semaphores are opened. -/
def Tk (c : Dev nD) : sProp 𝕄 :=
  iprop((∃ K, records (wcI m) K ∗ (bigSep (Finset.univ : Finset (Bool × Tr)) fun x => openTok ER (cellAt (c, some x)))
      ∗ (bigSep (Finset.univ : Finset Bool) fun b => reached ER (barCell (nb b c)) 0)
      ∗ dutyTok ER (barCell (nb (!true) c)) 0 true ∗ dutyTok ER (barCell (nb (!false) c)) 0 false
      ∗ atPos ER (barCell c) 0 ∅ 0
      ∗ (bigSep (Finset.univ : Finset Tr) fun x => iprop(dutyTok ER (sCell x.1 x.2.1 x.2.2 c) 0 false ∗ dutyTok ER (rCell x.1 x.2.1 x.2.2 (nb x.1 c)) 0 false)))
    ∗ cred (tallyAt (barCell c) () 2)
    ∗ bigSep (Finset.univ : Finset Tr) fun x => cred (tallyAt (rCell x.1 x.2.1 x.2.2 c) () N))

/-- What the body starts from, beside its buffers and what it owes. -/
def Xk (c : Dev nD) : sProp 𝕄 :=
  iprop(∃ K, env (wcI m) K c ∗ dutyTok ER (barCell (nb (!true) c)) 0 true ∗ dutyTok ER (barCell (nb (!false) c)) 0 false
    ∗ atPos ER (barCell c) 0 ∅ 0 ∗ cred (tallyAt (barCell c) () 2)
    ∗ (bigSep (Finset.univ : Finset Tr) fun x => T0 x.1 x.2.1 x.2.2 c) ∗ bigSep (Finset.univ : Finset Tr) fun x => R0 x.1 x.2.1 x.2.2 c)
def Yk (c : Dev nD) : sProp 𝕄 := semVal (barCell c) 0

/-- The body's own buffers at any contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(Xk m c ∗ scr c ∗ ∃ r, prngReg c r)
def Φ₁ (c : Dev nD) : sProp 𝕄 := iprop(Yk c ∗ (Pipeline.ownSems0 osem c) ∗ scr c ∗ ∃ r, prngReg c r)

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outI m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev adm : (p : Fin 1) → (pcfgs (F := F) p).Adm := fun p => (cfgs p).toPCfg_adm
abbrev pdats : (p : Fin 1) → (c : Dev nD) → Dat τ (Elt F) Unit ℕ UU ℕ (Pipeline.pin (pcfgs (F := F)) adm p) c
  | 0 => dats m 0

theorem share_eq (c : Dev nD) (w : Fin cfg0.W) : (dats m 0 c).share w = fullShare := by unfold Dat.share; split <;> rfl
theorem owed_first (c : Dev nD) : (dats m 0 c).owed t0_0.castSucc = O₀ c := rfl
theorem owed_last (c : Dev nD) : (dats m 0 c).owed t0_0.succ = 0 := rfl

theorem A_eq (c : Dev nD) (w : Fin cfg0.W) : (dats m 0 c).A w = V m c (Pipeline.arrRef spec0 w) := by unfold dats; rfl
theorem after_0 (c : Dev nD) (t : Fin cfg0.N) : (dats m 0 c).after 0 t = iblk m c 0 t := by unfold dats; rfl
theorem after_1 (c : Dev nD) (t : Fin cfg0.N) : (dats m 0 c).after 1 t = iblk m c 1 t := by unfold dats; rfl
theorem after_2 (c : Dev nD) (t : Fin cfg0.N) : (dats m 0 c).after 2 t = iblk m c 2 t := by dsimp only [dats]
theorem after_3 (c : Dev nD) (t : Fin cfg0.N) : (dats m 0 c).after 3 t = iblk m c 3 t := by unfold dats; with_reducible rfl
theorem after_4 (c : Dev nD) (t : Fin cfg0.N) : (dats m 0 c).after 4 t = iblk m c 4 t := by unfold dats; rfl

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; try rfl)

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
def bodyPost (c : Dev nD) : sProp 𝕄 :=
  iprop(Φ₁ c ∗ (dats m 0 c).owesAt () t0_0.succ
    ∗ stg c cc0_stg0_0 (xI m c) ∗ stg c cc0_stg1_0 (wcI m c) ∗ stg c cc0_stg2_0 (csI m c) ∗ stg c cc0_stg3_0 (snI m c) ∗ stg c cc0_stg4_0 (pmI m c)
    ∗ stg c cc0_stg5_0 (outI m c))

set_option maxRecDepth 8000 in
set_option maxHeartbeats 1000000 in
theorem body (c : Dev nD) : BodyObligation (dats (F := F) m 0 c) (defs₀ (F := F)) 𝒱₀ () Set.univ := fun t => by
  rw [fin_N0 t]
  rw [bigSep_W0, bigSep_W0]
  simp only [owns_whole]
  show bodyPre m c ⊢ wp frame (wpE (defs₀ (F := F)) 𝒱₀ c none) Set.univ
    (cc0_body (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6) (fun _ => bodyPost m c)
  unfold bodyPre Φ₀ Xk scr
  simp only [before_0, before_1, before_2, before_3, before_4]
  unfold Dat.owesAt Pipeline.owesWithin
  rw [owed_first]
  iintro ⟨⟨⟨%K, HE, Ht1, Ht2, Hat, Hc, HT, HR⟩, ⟨Hw1, Hw2, HK⟩, Hp⟩, ⟨%W, -, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  subst e0 e1 e2 e3 e4
  iapply (run (wcI m) K c (xI m c) (csI m c) (snI m c) (pmI m c)) $$ [HE Ht1 Ht2 Hat Hc HT HR Hw1 Hw2 HK HO H0 H1 H2 H3 H4 H5]
  · isplitl [HE]; · iexact HE
    isplitl [Ht1]; · iexact Ht1
    isplitl [Ht2]; · iexact Ht2
    isplitl [Hw1]; · iexact Hw1
    isplitl [Hw2]; · iexact Hw2
    isplitl [HO]; · iexists W; iexact HO
    isplitl [Hat]; · iexact Hat
    isplitl [Hc]; · iexact Hc
    isplitl [HT]; · iexact HT
    isplitl [HR]; · iexact HR
    isplitl [H0]; · iexact H0
    isplitl [H1]; · iexact H1
    isplitl [H2]; · iexact H2
    isplitl [H3]; · iexact H3
    isplitl [H4]; · iexact H4
    isplitl [H5]; · iexists f5; iexact H5
    iexact HK
  iintro ⟨HV, HB, ⟨%W', HO⟩, Hw1, Hw2, H0, H1, H2, H3, H4, H5, HK⟩
  unfold bodyPost Φ₁ Yk scr Dat.owesAt Pipeline.owesWithin
  rw [owed_last, ownSems_eq]
  isplitl [HV HB Hw1 Hw2 HK Hp]
  · isplitl [HB]; · iexact HB
    isplitl [HV]; · iexact HV
    isplitr [Hp]
    · isplitl [Hw1]; · iexact Hw1
      isplitl [Hw2]; · iexact Hw2
      iexact HK
    iexact Hp
  isplitl [HO]
  · iexists W'; isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

end Cert.KernelIdeal.Talk

end
-- ==== Proof.KernelIdeal.Segs.lean ====
/-
# The call entered and left

The buffers around the call, the opening of the transfer semaphores on entry, and the record of the call as a region of the
program, with the host operations before it.
-/
module

public import proofs.«01_k».proof.Proof.KernelIdeal.Region
public import Idealize.ShloMosaic.Lib.Pipeline.RegionTalk
public import Idealize.ShloMosaic.Harness.Basic

@[expose] public section

noncomputable section

namespace Cert.KernelIdeal.Talk

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers before and after the call -/

/-- At launch. -/
def WL (c : Dev nD) : Valuation τ sig (Elt F) := fun b => m (c, b)
/-- Before the call: the host operations have run. -/
def W0 (c : Dev nD) : Valuation τ sig (Elt F) := StableHlo.after hostOps0 (WL m c)
/-- After the call: the result's array holds what the call wrote. -/
def W1 (c : Dev nD) : Valuation τ sig (Elt F) := Function.update (W0 m c) (Proc.devRef .tc main_v17) ((dats m 0 c).arrAt 5 cfg0.N)

theorem W1_out (c : Dev nD) : W1 m c (Proc.devRef .tc main_v17) = (dats m 0 c).arrAt 5 cfg0.N := by unfold W1; rw [Function.update_self]
theorem W1_ne (c : Dev nD) (b : DevRef τ sig) (h : b ≠ Proc.devRef .tc main_v17) : W1 m c b = W0 m c b := by unfold W1; rw [Function.update_of_ne h]
theorem W0_eq (c : Dev nD) (b : Ref sig .tc) : W0 m c (Proc.devRef .tc b) = V m c b := by unfold W0 WL; with_reducible rfl

/-- The buffers that no window stages. -/
abbrev Sr : Finset (DevRef τ sig) := Pipeline.ucRefs τ sig \ Pipeline.arrRefs (τ := τ) spec0

theorem out_mem : Proc.devRef .tc main_v17 ∈ Pipeline.arrRefs (τ := τ) (sig := sig) spec0 := by
  unfold Pipeline.arrRefs
  exact Finset.mem_map_of_mem _ (Finset.mem_image.mpr ⟨5, Finset.mem_univ _, rfl⟩)

theorem hrest (c : Dev nD) (b : DevRef τ sig) (hb : b ∈ Sr \ ∅) : W1 m c b = W0 m c b :=
  W1_ne m c b (by
    rintro rfl
    rw [Finset.sdiff_empty] at hb
    exact (Finset.mem_sdiff.mp hb).2 out_mem)

theorem pair_up {I : Type} [Fintype I] {A B : I → sProp 𝕄} :
    iprop(bigSep Finset.univ A ∗ bigSep Finset.univ B) ⊢ bigSep Finset.univ fun i => iprop(A i ∗ B i) :=
  Entails.of_eq (bigSep_sep' _ _ _).symm
theorem pair_down {I : Type} [Fintype I] {A B : I → sProp 𝕄} :
    (bigSep Finset.univ fun i => iprop(A i ∗ B i)) ⊢ iprop(bigSep Finset.univ A ∗ bigSep Finset.univ B) :=
  Entails.of_eq (bigSep_sep' _ _ _)

/-! ## Opening the transfer semaphores -/

theorem open_all (K : GSem nD τ sig → ℕ) (c : Dev nD) :
    iprop(records (wcI m) K ∗ (bigSep (Finset.univ : Finset (Bool × Tr)) fun x => openTok ER (cellAt (c, some x)))
      ∗ bigSep (Finset.univ : Finset (Bool × Tr)) fun x => semVal (cellAt (c, some x)) 0)
    ⊢ iprop(|={Set.univ}=> ((bigSep (Finset.univ : Finset (Bool × Tr)) fun x => atPos ER (cellAt (c, some x)) 0 ∅ 0)
      ∗ bigSep (Finset.univ : Finset (Bool × Tr)) fun x => (reached ER (cellAt (c, some x)) 0 : sProp 𝕄))) := by
  have h : iprop(records (wcI m) K ∗ bigSep (Finset.univ : Finset (Bool × Tr)) fun x => iprop(openTok ER (cellAt (c, some x)) ∗ semVal (cellAt (c, some x)) 0))
      ⊢ bigSep (Finset.univ : Finset (Bool × Tr)) fun x => iprop(|={Set.univ}=> (atPos ER (cellAt (c, some x)) 0 ∅ 0 ∗ (reached ER (cellAt (c, some x)) 0 : sProp 𝕄))) :=
    bigSep_with_persistent (R := records (wcI m) K) fun x _ => by
      iintro ⟨#HR, Ho, Hv⟩
      iapply (Rounds.cell_open ER (rd (wcI m)) (g := cellAt (c, some x)) (Set.mem_univ (K (cellAt (c, some x)))))
      isplitr; · iapply (records_at (wcI m) K (c, some x)); iexact HR
      isplitl [Ho] <;> iassumption
  iintro ⟨#HR, Ho, Hv⟩
  ihave Hp := pair_up $$ [Ho Hv]
  · isplitl [Ho]; · iexact Ho
    iexact Hv
  ihave H1 := h $$ [Hp]
  · isplitr; · iexact HR
    iexact Hp
  imod (BI.bigSep_fupd _ _) $$ H1 with H2
  imodintro
  iapply pair_down
  iexact H2

theorem hopen (c : Dev nD) : iprop(Tk m c ∗ Pipeline.ownSems0 osem c ∗ levAts L lv) ⊢ (|={Set.univ}=> Xk m c : sProp 𝕄) := by
  rw [ownSems_eq]
  unfold Tk Xk
  iintro ⟨⟨⟨%K, #HR, Ho, #Hb, Ht1, Ht2, Hat, Htr⟩, Hc, Hcr⟩, Hv, #Hlev⟩
  imod (open_all m K c) $$ [Ho Hv] with ⟨Hp, #Hr⟩
  · isplitr; · iexact HR
    isplitl [Ho] <;> iassumption
  imodintro
  iexists K
  isplitr
  · unfold env
    isplitr; · iexact HR
    isplitr; · iexact Hlev
    isplitr; · iexact Hr
    iexact Hb
  isplitl [Ht1]; · iexact Ht1
  isplitl [Ht2]; · iexact Ht2
  isplitl [Hat]; · iexact Hat
  isplitl [Hc]; · iexact Hc
  ihave Hp' := (Entails.of_eq (all24 (fun x => (atPos ER (cellAt (c, some x)) 0 ∅ 0 : sProp 𝕄)))) $$ Hp
  icases Hp' with ⟨HpR, HpS⟩
  isplitl [HpS Htr]
  · ihave H := pair_up $$ [HpS Htr]
    · isplitl [HpS]; · iexact HpS
      iexact Htr
    iapply (show (bigSep (Finset.univ : Finset Tr) fun x => iprop(atPos ER (cellAt (c, some (false, x))) 0 ∅ 0
        ∗ (dutyTok ER (sCell x.1 x.2.1 x.2.2 c) 0 false ∗ dutyTok ER (rCell x.1 x.2.1 x.2.2 (nb x.1 c)) 0 false)) : sProp 𝕄)
      ⊢ bigSep (Finset.univ : Finset Tr) fun x => T0 x.1 x.2.1 x.2.2 c from bigSep_mono fun x _ => by unfold T0; exact BI.Entails.refl _)
    iexact H
  ihave H := pair_up $$ [HpR Hcr]
  · isplitl [HpR]; · iexact HpR
    iexact Hcr
  iapply (show (bigSep (Finset.univ : Finset Tr) fun x => iprop(atPos ER (cellAt (c, some (true, x))) 0 ∅ 0
      ∗ cred (tallyAt (rCell x.1 x.2.1 x.2.2 c) () N)) : sProp 𝕄)
    ⊢ bigSep (Finset.univ : Finset Tr) fun x => R0 x.1 x.2.1 x.2.2 c from bigSep_mono fun x _ => by unfold R0; exact BI.Entails.refl _)
  iexact H

/-! ## The region's record -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem stage_lv : ∀ (w : Fin 6) (s : Fin (spec0 w).nbuf), dec ((spec0 w).sem s).val = none := by decide

theorem cutD (c : Dev nD) (t : Fin (cfg0.N + 1)) (g : GSem nD τ sig) (i : Unit) (h : 0 < (dats (F := F) m 0 c).owed t g i) :
    i ∈ L g ∧ (0 : ℕ) < lv g i := by
  have h' : 0 < O₀ c g i := by
    rcases t with ⟨_ | n, ht⟩
    · exact h
    · exact absurd h (Nat.lt_irrefl 0)
  unfold O₀ at h'
  rw [Pi.add_apply, Finsupp.add_apply, Pi.add_apply, Finsupp.add_apply] at h'
  have hb : ∀ d : Dev nD, 0 < (tallyAt (barCell d) () 1 : CellTallies nD τ sig Unit) g i → i ∈ L g ∧ (0 : ℕ) < lv g i := fun d hd => by
    rw [tallyAt_apply] at hd
    split at hd
    · next hg => obtain ⟨rfl, -⟩ := hg; exact ⟨by rw [L_tc]; exact Finset.mem_singleton_self _, by rw [lv_bar]; decide⟩
    · exact absurd hd (Nat.lt_irrefl 0)
  rcases Nat.add_pos_iff_pos_or_pos.mp h' with h' | h'
  · rcases Nat.add_pos_iff_pos_or_pos.mp h' with h' | h'
    · obtain ⟨x, -, rfl⟩ := owedL_pos c allTr h'
      exact ⟨by rw [L_tc]; exact Finset.mem_singleton_self _, by rw [lv_r]; omega⟩
    · exact hb _ h'
  · exact hb _ h'

theorem hin (c : Dev nD) : iprop(Pipeline.scopedRest (Pipeline.pin (pcfgs (F := F)) adm 0).spec c ∗ (∃ r, prngReg c r)
      ∗ StableHlo.held (c.tc : Thread nD τ) (∅ : Finset (DevRef τ sig)) (W0 m c) ∗ Xk m c) ⊢ (pdats m 0 c).Φ 0 := by
  rw [show (pdats m 0 c).Φ 0 = Φ₀ m c from rfl,
    show (Pipeline.scopedRest (Pipeline.pin (pcfgs (F := F)) adm 0).spec c : sProp 𝕄) = scr c from scopedRest0_eq c]
  unfold Φ₀
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) (∅ : Finset (DevRef τ sig)) (W1 m c) ∗ Pipeline.ownSems0 osem c ∗ Yk c) := by
  rw [show (pdats m 0 c).Φ (Fin.last _) = Φ₁ c from rfl,
    show (Pipeline.scopedRest (Pipeline.pin (pcfgs (F := F)) adm 0).spec c : sProp 𝕄) = scr c from scopedRest0_eq c,
    show (StableHlo.held (c.tc : Thread nD τ) (∅ : Finset (DevRef τ sig)) (W1 m c) : sProp 𝕄) = BI.emp from BI.bigSep_empty]
  unfold Φ₁
  iintro ⟨HY, HS, Hs, Hp⟩
  isplitl [Hs]; · iexact Hs
  isplitl [Hp]; · iexact Hp
  isplitr; · iempintro
  isplitl [HS]; · iexact HS
  iexact HY

theorem hW (c : Dev nD) (w : Fin cfg0.W) : (dats m 0 c).arrAt w 0 = W0 m c (Proc.devRef .tc (Pipeline.arrRef spec0 w)) := by
  rw [W0_eq, show (dats m 0 c).arrAt w 0 = (dats m 0 c).A w from by unfold Dat.arrAt; rfl, A_eq]

theorem arr_ne : ∀ w : Fin 6, w ≠ 5 → Pipeline.arrRef spec0 w ≠ main_v17 := by decide
theorem win_in : ∀ w : Fin 6, w ≠ 5 → (spec0 w).isOut = false := by decide

theorem hW' (c : Dev nD) (w : Fin cfg0.W) : (dats m 0 c).arrAt w cfg0.N = W1 m c (Proc.devRef .tc (Pipeline.arrRef spec0 w)) := by
  by_cases h : w = 5
  · subst h; exact (W1_out m c).symm
  · rw [W1_ne m c _ (fun e => arr_ne w h (Proc.devRef_injective .tc e)), W0_eq, Dat.arrAt_in (dats m 0 c) w (win_in w h), A_eq]

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ Sr (Finset.empty_subset _) kitP rfl (fun c => (body m c).loose)
    (fun _ => 0) O₀ (fun c => (show (pdats m 0 c).owed 0 = O₀ c from rfl).trans (zero_add _).symm) (fun c => rfl) (fun _ => rfl) (fun c w => share_eq m c w)
    (W0 m) (W1 m) (hrest m)
    (Tk m) Yk (Xk m) Yk (hopen m) (hin m) (hout m)
    (fun c => by iintro H; imodintro; iexact H)
    (fun _ => 0)
    ⟨fun c w s => by rw [L_tc]; exact Finset.mem_singleton_self _,
      fun c w s => by
        show lv ((c : Thread nD τ), .dma ((spec0 w).sem s)) () ≤ 0
        unfold lv; dsimp only; rw [stage_lv w s],
      fun c t g i h => cutD m c t g i h⟩
    (fun _ => iprop(emp))
    (hW m) (hW' m)

/-- What rides beside the buffers up to the call. -/
def Rd0 (c : Dev nD) : sProp 𝕄 := iprop(Tk m c ∗ (∃ r, prngReg c r) ∗ ∃ W, owes (c : Thread nD τ) (O₀ c) W)

def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (WL m) (Rd0 m)

theorem arr_sub : Pipeline.arrRefs (τ := τ) spec0 ⊆ Pipeline.ucRefs τ sig := Pipeline.arrRefs_sub_ucRefs _ winFacts0.arr_unscoped

theorem reg_pre (c : Dev nD) : iprop(StableHlo.held (c.tc : Thread nD τ) (Pipeline.ucRefs τ sig) (W0 m c) ∗ Rd0 m c) ⊢ (reg m).pre c := by
  show _ ⊢ iprop(StableHlo.held (c.tc : Thread nD τ) (Pipeline.arrRefs (τ := τ) spec0) (W0 m c) ∗ (∃ r, prngReg c r)
    ∗ (StableHlo.held (c.tc : Thread nD τ) Sr (W0 m c) ∗ emp) ∗ Tk m c ∗ ∃ Wd, owes (c : Thread nD τ) (0 + O₀ c) Wd)
  rw [zero_add, StableHlo.held_sub_split (c.tc : Thread nD τ) arr_sub (W0 m c)]
  unfold Rd0
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop((StableHlo.held (c.tc : Thread nD τ) (Pipeline.ucRefs τ sig) (W1 m c) ∗ semVal (barCell c) 0)
      ∗ ∃ W, owes (c : Thread nD τ) (0 : CellTallies nD τ sig Unit) W) := by
  show iprop(StableHlo.held (c.tc : Thread nD τ) (Pipeline.arrRefs (τ := τ) spec0) (W1 m c) ∗ (∃ r, prngReg c r)
    ∗ (StableHlo.held (c.tc : Thread nD τ) Sr (W1 m c) ∗ emp) ∗ Yk c ∗ ∃ Wd, owes (c : Thread nD τ) (0 : CellTallies nD τ sig Unit) Wd) ⊢ _
  rw [StableHlo.held_sub_split (c.tc : Thread nD τ) arr_sub (W1 m c)]
  unfold Yk
  iintro ⟨Ha, -, ⟨Hr, -⟩, Hb, HO⟩
  isplitr [HO]
  · isplitr [Hb]
    · isplitl [Ha]; · iexact Ha
      iexact Hr
    iexact Hb
  iexact HO

def segs : List (Pipeline.Seg (pcfgs (F := F)) adm (pdats m) () defs₀ 𝒱₀ L lv) := [.host (seg0 m), .region (reg m)]

end Cert.KernelIdeal.Talk

end
-- ==== Proof.KernelIdeal.Launch.lean ====
/-
# The launch and the run

The protocol's cells, tokens and credits as the launch makes them, dealt to the devices; then the whole program's run from any
memory with every semaphore at zero: the buffers it leaves, the arguments among them unchanged, and every semaphore at zero.
-/
module

public import proofs.«01_k».proof.Proof.KernelIdeal.Segs

@[expose] public section

noncomputable section

namespace Cert.KernelIdeal.Talk

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens of the protocol -/

theorem dev_of_cell {c d : Dev nD} {s s' : SemLoc sig} (h : (((c : Dev nD) : Thread nD τ), s) = (((d : Dev nD) : Thread nD τ), s')) : c = d :=
  congrArg (fun g : GSem nD τ sig => g.1.1) h
theorem bar_ne_osem : ∀ x : Bool × Tr, osem x ≠ .reg barS := by decide

def barEmb : Dev nD ↪ GSem nD τ sig := ⟨fun c => barCell c, fun _ _ h => dev_of_cell h⟩
def scEmb : Dev nD × (Bool × Tr) ↪ GSem nD τ sig :=
  ⟨fun p => cellAt (p.1, some p.2), fun p q h => by
    have h' : (((p.1 : Dev nD) : Thread nD τ), osem p.2) = (((q.1 : Dev nD) : Thread nD τ), osem q.2) := by
      rw [← cellAt_some, ← cellAt_some]; exact h
    exact Prod.ext (dev_of_cell h') (osem_inj (congrArg Prod.snd h'))⟩
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  have h' : cellAt (p.1, some p.2) = barCell c := h
  rw [cellAt_some] at h'
  exact bar_ne_osem p.2 (congrArg Prod.snd h')

theorem cell_mem : ∀ p : Dev nD × Option (Bool × Tr), cellAt p ∈ (barCells ∪ scCells : Finset (GSem nD τ sig))
  | (c, none) => Finset.mem_union_left _ (Finset.mem_map_of_mem barEmb (Finset.mem_univ c))
  | (c, some x) => Finset.mem_union_right _ (Finset.mem_map_of_mem scEmb (Finset.mem_univ (c, x)))

/-- A barrier token per device and neighbour; a token per transfer cell. -/
def barTokEmb : Dev nD × Bool ↪ GSem nD τ sig × ℕ × Bool :=
  ⟨fun p => (barCell p.1, 0, p.2), fun _ _ h => Prod.ext (dev_of_cell (congrArg Prod.fst h)) (congrArg (fun t : GSem nD τ sig × ℕ × Bool => t.2.2) h)⟩
def trTokEmb : Dev nD × (Bool × Tr) ↪ GSem nD τ sig × ℕ × Bool :=
  ⟨fun p => (scEmb p, 0, false), fun _ _ h => scEmb.injective (congrArg Prod.fst h)⟩
def talkToks : Finset (GSem nD τ sig × ℕ × Bool) := Finset.univ.map barTokEmb ∪ Finset.univ.map trTokEmb

theorem disjoint_toks : Disjoint (Finset.univ.map barTokEmb) (Finset.univ.map trTokEmb) := by
  rw [Finset.disjoint_left]
  rintro t h₁ h₂
  obtain ⟨p, -, rfl⟩ := Finset.mem_map.mp h₁
  obtain ⟨q, -, h⟩ := Finset.mem_map.mp h₂
  have h' : cellAt (q.1, some q.2) = barCell p.1 := congrArg Prod.fst h
  rw [cellAt_some] at h'
  exact bar_ne_osem q.2 (congrArg Prod.snd h')

/-- The device that holds the token of a transfer's receive cell is the sender. -/
def trTurn : Dev nD × (Bool × Tr) ≃ Dev nD × (Bool × Tr) where
  toFun p := (if p.2.1 then nb p.2.2.1 p.1 else p.1, p.2)
  invFun p := (if p.2.1 then nb (!p.2.2.1) p.1 else p.1, p.2)
  left_inv p := by
    rcases p with ⟨c, _ | _, b, x⟩
    · rfl
    · exact Prod.ext (nb_nb' b c) rfl
  right_inv p := by
    rcases p with ⟨c, _ | _, b, x⟩
    · rfl
    · exact Prod.ext (nb_nb b c) rfl

/-- The duties that device `c` pays, all told. -/
def toks (c : Dev nD) : sProp 𝕄 :=
  iprop(dutyTok ER (barCell (nb (!true) c)) 0 true ∗ dutyTok ER (barCell (nb (!false) c)) 0 false
    ∗ (bigSep (Finset.univ : Finset Tr) fun x => iprop(dutyTok ER (sCell x.1 x.2.1 x.2.2 c) 0 false ∗ dutyTok ER (rCell x.1 x.2.1 x.2.2 (nb x.1 c)) 0 false)))

theorem bar_toks : bigSep (Finset.univ.map barTokEmb) (fun x => (dutyTok ER x.1 x.2.1 x.2.2 : sProp 𝕄))
    ⊢ iprop((bigSep Finset.univ fun c : Dev nD => (dutyTok ER (barCell (nb (!true) c)) 0 true : sProp 𝕄))
      ∗ bigSep Finset.univ fun c : Dev nD => (dutyTok ER (barCell (nb (!false) c)) 0 false : sProp 𝕄)) := by
  rw [bigSep_map, bigSep_univ_prod]
  rw [bigSep_congr (s := (Finset.univ : Finset (Dev nD))) (Ψ := fun c => iprop((dutyTok ER (barCell c) 0 true : sProp 𝕄) ∗ dutyTok ER (barCell c) 0 false))
    fun c _ => by
      rw [show (Finset.univ : Finset Bool) = {true, false} from rfl, bigSep_insert (by decide), bigSep_singleton]
      rfl]
  rw [bigSep_sep', bigSep_univ_equiv (ringB (!true)) (fun c : Dev nD => (dutyTok ER (barCell c) 0 true : sProp 𝕄)),
    bigSep_univ_equiv (ringB (!false)) (fun c : Dev nD => (dutyTok ER (barCell c) 0 false : sProp 𝕄))]
  exact BI.Entails.refl _

theorem tr_toks : bigSep (Finset.univ.map trTokEmb) (fun x => (dutyTok ER x.1 x.2.1 x.2.2 : sProp 𝕄))
    ⊢ bigSep Finset.univ fun c : Dev nD => bigSep (Finset.univ : Finset Tr) fun x =>
        iprop((dutyTok ER (sCell x.1 x.2.1 x.2.2 c) 0 false : sProp 𝕄) ∗ dutyTok ER (rCell x.1 x.2.1 x.2.2 (nb x.1 c)) 0 false) := by
  rw [bigSep_map, bigSep_univ_equiv trTurn, bigSep_univ_prod]
  refine bigSep_mono fun c _ => ?_
  rw [all24, bigSep_sep']
  refine (show _ ⊢ iprop((bigSep (Finset.univ : Finset Tr) fun x => (dutyTok ER (rCell x.1 x.2.1 x.2.2 (nb x.1 c)) 0 false : sProp 𝕄))
    ∗ bigSep (Finset.univ : Finset Tr) fun x => (dutyTok ER (sCell x.1 x.2.1 x.2.2 c) 0 false : sProp 𝕄)) from BI.Entails.refl _).trans ?_
  exact sep_comm.1

theorem toks_deal : bigSep talkToks (fun x => (dutyTok ER x.1 x.2.1 x.2.2 : sProp 𝕄)) ⊢ bigSep Finset.univ fun c : Dev nD => toks c := by
  unfold talkToks
  refine (Entails.of_eq (BI.bigSep_union disjoint_toks)).trans (show iprop((bigSep (Finset.univ.map barTokEmb) fun x => (dutyTok ER x.1 x.2.1 x.2.2 : sProp 𝕄))
    ∗ bigSep (Finset.univ.map trTokEmb) fun x => (dutyTok ER x.1 x.2.1 x.2.2 : sProp 𝕄)) ⊢ _ from ?_)
  iintro ⟨Hb, Ht⟩
  ihave Hb' := bar_toks $$ Hb
  icases Hb' with ⟨H1, H2⟩
  ihave H3 := tr_toks $$ Ht
  unfold toks
  iapply pair_up; isplitl [H1]; · iexact H1
  iapply pair_up; isplitl [H2]; · iexact H2
  iexact H3

/-! ## The credit at launch -/

theorem owedL_bar (d c : Dev nD) : ∀ l : List Tr, owedL d l (barCell c) () = 0
  | [] => rfl
  | x :: l => by
    show (owedL d l + tallyAt (rCell x.1 x.2.1 x.2.2 (nb x.1 d)) () N) (barCell c) () = 0
    rw [Pi.add_apply, Finsupp.add_apply, owedL_bar d c l, tallyAt_ne_cell (fun h => bar_ne_osem (true, x) (congrArg Prod.snd h).symm), Finsupp.zero_apply, Nat.add_zero]

theorem owed_bar (d c : Dev nD) : O₀ d (barCell c) () = (if d = prv c then 1 else 0) + if d = nxt c then 1 else 0 := by
  unfold O₀
  rw [Pi.add_apply, Finsupp.add_apply, Pi.add_apply, Finsupp.add_apply, owedL_bar, Nat.zero_add, tallyAt_apply, tallyAt_apply]
  refine congrArg₂ (· + ·) ?_ ?_
  · refine if_congr ⟨fun h => ?_, fun h => ?_⟩ rfl rfl
    · rw [dev_of_cell h.1, prv_nxt]
    · subst h; exact ⟨by rw [nxt_prv], rfl⟩
  · refine if_congr ⟨fun h => ?_, fun h => ?_⟩ rfl rfl
    · rw [dev_of_cell h.1, nxt_prv]
    · subst h; exact ⟨by rw [prv_nxt], rfl⟩

theorem owedL_recv (d c : Dev nD) (x : Tr) : ∀ l : List Tr, owedL d l (rCell x.1 x.2.1 x.2.2 c) () = if d = nb (!x.1) c then l.count x * N else 0
  | [] => by rw [List.count_nil, Nat.zero_mul, ite_self]; rfl
  | y :: l => by
    show (owedL d l + tallyAt (rCell y.1 y.2.1 y.2.2 (nb y.1 d)) () N) (rCell x.1 x.2.1 x.2.2 c) () = _
    rw [Pi.add_apply, Finsupp.add_apply, owedL_recv d c x l, tallyAt_apply, List.count_cons]
    by_cases hxy : y = x
    · subst hxy
      rw [if_pos (show (y == y) = true from beq_self_eq_true y)]
      by_cases h : d = nb (!y.1) c
      · subst h
        rw [if_pos rfl, if_pos rfl, if_pos ⟨by rw [nb_nb], rfl⟩, Nat.succ_mul]
      · rw [if_neg h, if_neg h, if_neg fun e => h (by rw [dev_of_cell e.1, nb_nb'])]
    · have hn : ¬(rCell x.1 x.2.1 x.2.2 c = rCell y.1 y.2.1 y.2.2 (nb y.1 d) ∧ () = ()) := fun e => hxy (by
        have := osem_inj (a₁ := (true, x)) (a₂ := (true, y)) (congrArg Prod.snd e.1)
        exact (congrArg Prod.snd this).symm)
      rw [if_neg (show ¬(y == x) = true from fun e => hxy (eq_of_beq e)), if_neg hn, Nat.add_zero, Nat.add_zero]

theorem count_all : ∀ x : Tr, allTr.count x = 1 := by decide

theorem owed_recv (d c : Dev nD) (x : Tr) : O₀ d (rCell x.1 x.2.1 x.2.2 c) () = if d = nb (!x.1) c then N else 0 := by
  unfold O₀
  rw [Pi.add_apply, Finsupp.add_apply, Pi.add_apply, Finsupp.add_apply, owedL_recv, count_all, Nat.one_mul,
    tallyAt_ne_cell (fun h => bar_ne_osem (true, x) (congrArg Prod.snd h)), tallyAt_ne_cell (fun h => bar_ne_osem (true, x) (congrArg Prod.snd h)),
    Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (x : Tr) :
    tallyOn (rCell x.1 x.2.1 x.2.2 c) (launchCredit (Pipeline.owing O₀) 0 (rCell x.1 x.2.1 x.2.2 c))
      = (tallyAt (rCell x.1 x.2.1 x.2.2 c) () N : CellTallies nD τ sig Unit) := by
  unfold tallyAt; refine congrArg _ (Finsupp.ext fun u => ?_); cases u
  rw [Pipeline.launchCredit_owing, Finsupp.single_eq_same, Finset.sum_congr rfl fun d _ => owed_recv d c x,
    Finset.sum_ite_eq' Finset.univ (nb (!x.1) c) fun _ => N, if_pos (Finset.mem_univ _)]

def recvEmb : Tr ↪ SemLoc sig := ⟨fun x => osem (true, x), fun _ _ h => congrArg Prod.snd (osem_inj h)⟩

theorem creds (c : Dev nD) : (Pipeline.launchCred O₀ c : sProp 𝕄)
    ⊢ iprop(cred (tallyAt (barCell c) () 2) ∗ bigSep (Finset.univ : Finset Tr) fun x => cred (tallyAt (rCell x.1 x.2.1 x.2.2 c) () N)) := by
  unfold Pipeline.launchCred
  rw [bigSep_univ_at _ (SemLoc.reg barS), launch_bar]
  refine sep_mono_right ?_
  refine (BI.bigSep_subset (t := Finset.univ.map recvEmb) fun s hs => ?_).trans ?_
  · obtain ⟨x, -, rfl⟩ := Finset.mem_map.mp hs
    exact Finset.mem_erase.mpr ⟨bar_ne_osem (true, x), Finset.mem_univ _⟩
  · rw [bigSep_map]
    exact Entails.of_eq (bigSep_congr fun x _ => congrArg cred (launch_recv c x))

/-! ## The launch -/

def u₀ : UU :=
  (initOf (Pipeline.cells (Pipeline.pin (pcfgs (F := F)) adm) cellOf_inj) (Pipeline.launchToks (Pipeline.pin (pcfgs (F := F)) adm) cellOf_inj),
    launchOf barCells scCells talkToks)

/-- A resource that device 0 keeps until the launch's one step for all devices. -/
def on0 (X : sProp 𝕄) (c : Dev nD) : sProp 𝕄 := if c = 0 then X else iprop(emp)
theorem bigSep_on0 (X : sProp 𝕄) : bigSep Finset.univ (on0 X) = X := by
  rw [bigSep_univ_at _ (0 : Dev nD), bigSep_congr (s := Finset.univ.erase (0 : Dev nD)) (Ψ := fun _ => (BI.emp : sProp 𝕄))
      fun c hc => by unfold on0; rw [if_neg (Finset.ne_of_mem_erase hc)]; rfl, BI.bigSep_emp_const]
  unfold on0; rw [if_pos rfl]
  exact BI.equiv_iff.mp sep_emp
def G : Dev nD → sProp 𝕄 := on0 (BI.own (ER (launchOf barCells scCells talkToks)))

theorem unscoped_eq : ∀ sm : SemLoc sig, sm.isScoped .tc = false → sm = .reg barS := by decide
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What every device starts from. -/
def Ts (c : Dev nD) : sProp 𝕄 := iprop(StableHlo.held (c.tc : Thread nD τ) (Pipeline.ucRefs τ sig) (WL m c) ∗ Rd0 m c)
/-- What every device ends with. -/
def Te (c : Dev nD) : sProp 𝕄 := iprop(StableHlo.held (c.tc : Thread nD τ) (Pipeline.ucRefs τ sig) (W1 m c) ∗ semVal (barCell c) 0)

def bundle (c : Dev nD) : sProp 𝕄 :=
  iprop(StableHlo.held (c.tc : Thread nD τ) (Pipeline.ucRefs τ sig) (WL m c)
    ∗ (cred (tallyAt (barCell c) () 2) ∗ bigSep (Finset.univ : Finset Tr) fun x => cred (tallyAt (rCell x.1 x.2.1 x.2.2 c) () N))
    ∗ owes (c : Thread nD τ) (O₀ c) ∅ ∗ ∃ r, prngReg c r)

def deal (c : Dev nD) : sProp 𝕄 :=
  iprop(atPos ER (barCell c) 0 ∅ 0 ∗ (bigSep (Finset.univ : Finset (Bool × Tr)) fun x => openTok ER (cellAt (c, some x))) ∗ toks c)

def known (K : GSem nD τ sig → ℕ) : sProp 𝕄 := iprop(records (wcI m) K ∗ bigSep (Finset.univ : Finset (Dev nD)) fun c => reached ER (barCell c) 0)
instance known_persistent (K : GSem nD τ sig → ℕ) : BI.Persistent (known m K) := by unfold known; infer_instance

theorem reached_nb (c : Dev nD) : (bigSep (Finset.univ : Finset (Dev nD)) fun c => (reached ER (barCell c) 0 : sProp 𝕄))
    ⊢ bigSep (Finset.univ : Finset Bool) fun b => (reached ER (barCell (nb b c)) 0 : sProp 𝕄) :=
  BI.bigSep_intro_persistent fun b _ =>
    (show _ ⊢ _ from BI.bigSep_elim (Φ := fun c => (reached ER (barCell c) 0 : sProp 𝕄)) (Finset.mem_univ (nb b c)))

theorem Ts_intro (K : GSem nD τ sig → ℕ) (c : Dev nD) : iprop(known m K ∗ (deal c ∗ bundle m c)) ⊢ Ts m c := by
  unfold known deal bundle toks Ts Rd0 Tk
  iintro ⟨⟨#HR, #Hb⟩, ⟨Hat, Ho, Ht1, Ht2, Ht⟩, Hh, Hc, HO, Hp⟩
  isplitl [Hh]; · iexact Hh
  isplitr [HO Hp]
  · isplitr [Hc]
    · iexists K
      isplitr; · iexact HR
      isplitl [Ho]; · iexact Ho
      isplitr; · iapply (reached_nb (F := F) c); iexact Hb
      isplitl [Ht1]; · iexact Ht1
      isplitl [Ht2]; · iexact Ht2
      isplitl [Hat]; · iexact Hat
      iexact Ht
    iexact Hc
  isplitl [Hp]; · iexact Hp
  iexists ∅; iexact HO

theorem records_of (K : GSem nD τ sig → ℕ) :
    (bigSep (barCells ∪ scCells) fun g => (cellInv ER (rd (wcI m)) (K g) g : sProp 𝕄)) ⊢ records (wcI m) K := by
  unfold records
  exact BI.bigSep_intro_persistent fun p _ =>
    (show _ ⊢ _ from BI.bigSep_elim (Φ := fun g => (cellInv ER (rd (wcI m)) (K g) g : sProp 𝕄)) (cell_mem p))

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (Ts m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = (StableHlo.held (c.tc : Thread nD τ) (Pipeline.ucRefs τ sig) (WL m c) : sProp 𝕄)
        from Pipeline.unscopedBufs_held c (WL m c), unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hr : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep scCells (fun g => (openTok ER g : sProp 𝕄))
      ⊢ bigSep Finset.univ (fun c : Dev nD => bigSep (Finset.univ : Finset (Bool × Tr)) fun x => (openTok ER (cellAt (c, some x)) : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := pair_down $$ H'; icases H2 with ⟨HB, H3⟩
  ihave H4 := pair_down $$ H3; icases H4 with ⟨Hv, HG⟩
  ihave Hu := (show bigSep Finset.univ (G (F := F)) ⊢ BI.own (ER (launchOf barCells scCells talkToks)) from
    Entails.of_eq (bigSep_on0 (F := F) (BI.own (ER (launchOf barCells scCells talkToks))))) $$ HG
  imod (Rounds.fund_launch ER (rd (wcI m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := known m κ) (Φ := fun c => iprop(deal c ∗ bundle m c)) fun c _ => Ts_intro m κ c)
  isplitr
  · unfold known
    isplitr; · iapply (records_of m κ); iexact Hinv
    iapply hr; iexact Hr
  iapply pair_up
  isplitr [HB]
  · unfold deal
    iapply pair_up; isplitl [Hat]; · iapply hat $$ Hat
    iapply pair_up; isplitl [Hopen]; · iapply hopen $$ Hopen
    iapply (toks_deal (F := F)); iexact Htok
  · iexact HB

/-- The run: on every device the buffers end as the host operations and the call leave them, and every semaphore is at zero. -/
theorem run_bufs : θ_run (defs (F := F)) (onTc (τ := τ) (main (F := F))) ⟨m, fun _ => 0, ρ⟩
    (fun r => (∀ c : Dev nD, ∀ b : DevRef τ sig, b ∈ Pipeline.ucRefs τ sig → r.2.mem (c, b) = W1 m c b) ∧ r.2.sem = fun _ => 0) := by
  set_option backward.isDefEq.respectTransparency.types false in
  exact Pipeline.θ_run_regions_kit_sems (pcfgs (F := F)) adm (pdats m) () cellOf_inj EP defs₀ 𝒱₀ L lv m ρ main (segs m)
    (fun c Q => by rw [main_segs adm (pdats m) () 𝒱₀ L lv (seg0 m) (reg m) rfl c]; exact BI.Entails.refl _)
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_on0]; iexact HX)
    (T₀ := Ts m) (Tₙ := Te m)
    (hch := ⟨fun c => BI.Entails.refl _, fun c => reg_pre m c, fun c => reg_post m c⟩)
    (hinit := init m ρ)
    (QY := fun c s => (∀ b : DevRef τ sig, b ∈ Pipeline.ucRefs τ sig → s.mem (c, b) = W1 m c b) ∧ s.sem (barCell c) = 0)
    (hfin := fun c s' => by
      unfold Te StableHlo.held
      iintro ⟨⟨Hh, Hb⟩, HSI⟩
      icombine HSI Hb gives %hb
      ihave H := (pointsTo_read_all (Pipeline.ucRefs τ sig) (fun b => ((c, b) : Loc nD τ sig)) (fun b => W1 m c b) s') $$ [Hh HSI]
      · isplitl [Hh]; · iexact Hh
        iexact HSI
      icases H with ⟨%hx, HSI⟩
      imodintro
      isplitr
      · ipureintro
        exact ⟨hx, by simpa using hb⟩
      iexact HSI)
    (hQ := fun s h hs => ⟨fun c => (h c).1,
      sem_eq_zero hs fun c sm hsm => by
        obtain rfl := unscoped_eq sm hsm
        exact (h c).2⟩)

theorem mem_uc (b : Ref sig .tc) (h : b.isScoped = false) : Proc.devRef .tc b ∈ Pipeline.ucRefs τ sig := by
  unfold Pipeline.ucRefs StableHlo.tcRefs
  exact Finset.mem_filter.mpr ⟨Finset.mem_map_of_mem _ (Finset.mem_univ b), by simp [h]⟩

/-- The call's result as the call leaves it, on device `c`. -/
def resA (c : Dev nD) : Vec F S2x256x768 .f32 := (dats m 0 c).arrAt 5 cfg0.N

/-- The run, read at the arguments and the result. -/
theorem run_main : θ_run (defs (F := F)) (onTc (τ := τ) (main (F := F))) ⟨m, fun _ => 0, ρ⟩
    (fun r => (∀ c : Dev nD, r.2.mem ((c : Thread nD τ).loc main_v17) = resA m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) := by
  refine (θ_run defs _ _).mono (fun r h => ⟨fun c => ?_, h.2⟩) (run_bufs m ρ)
  have hb := h.1 c
  have hne : ∀ b : Ref sig .tc, b ≠ main_v17 → b.isScoped = false → r.2.mem (c, Proc.devRef .tc b) = V m c b := fun b h1 h2 =>
    (hb _ (mem_uc b h2)).trans ((W1_ne m c _ (fun e => h1 (Proc.devRef_injective .tc e))).trans (W0_eq m c b))
  exact ⟨(hb _ (mem_uc main_v17 rfl)).trans (W1_out m c),
    (hne main_arg0 (by decide) rfl).trans (V_main_arg0 m c), (hne main_arg1 (by decide) rfl).trans (V_main_arg1 m c),
    (hne main_arg2 (by decide) rfl).trans (V_main_arg2 m c), (hne main_arg3 (by decide) rfl).trans (V_main_arg3 m c),
    (hne main_arg4 (by decide) rfl).trans (V_main_arg4 m c)⟩

end Cert.KernelIdeal.Talk

end
-- ==== Proof.Value.Rot.lean ====
/-
# The mathematics of one head, by entries
-/
module

public import Idealize.ShloMosaic.PureOps.Ideal.Laws
public import Idealize.ShloMosaic.Lib.ValueIdx

@[expose] public section

noncomputable section

namespace Cert.KernelIdeal.Value

open Idealize.ShloMosaic
open scoped BigOperators

/-- The exponential of one scaled score. -/
def expo (q k : Fin 256 → Fin 64 → EReal) (i j : Fin 256) : EReal := Ideal.exp ((∑ e : Fin 64, q i e * k j e) * Ideal.ofBits .f32 0x3E000000#32)

/-- One head as the kernel computes it. -/
def headK (q k v : Fin 256 → Fin 64 → EReal) (i : Fin 256) (d : Fin 64) : EReal :=
  Ideal.div (∑ j : Fin 256, expo q k i j * v j d) (∑ j : Fin 256, expo q k i j)

/-- The rotation of the position on one head's row: `u · c + (partner of u, signed) · s`. -/
def rotE (u c s : Fin 64 → EReal) (d : Fin 64) : EReal :=
  u d * c d + (if d.val % 2 = 0 then -(u ⟨(d.val + 1) % 64, Nat.mod_lt _ (by decide)⟩) else u ⟨d.val - 1, by omega⟩) * s d

/-- The signed permutation that pairs each even column with the odd one after it. -/
def pmE (m n : ℕ) : EReal := if n % 2 = 0 then (if m = n + 1 then -1 else 0) else (if m + 1 = n then 1 else 0)

/-- A row times the signed permutation: the partner, with its sign. -/
theorem sum_pmE {N : ℕ} (hN : N % 2 = 0) (u : Fin N → EReal) (n : Fin N) :
    ∑ m : Fin N, u m * pmE m.val n.val
      = if h : n.val % 2 = 0 then -(u ⟨n.val + 1, by omega⟩) else u ⟨n.val - 1, by omega⟩ := by
  by_cases h : n.val % 2 = 0
  · rw [dif_pos h, Finset.sum_eq_single (⟨n.val + 1, by omega⟩ : Fin N)]
    · simp [pmE, h]
    · intro m _ hm
      have : ¬ m.val = n.val + 1 := fun e => hm (Fin.ext e)
      simp [pmE, h, this]
    · simp
  · rw [dif_neg h, Finset.sum_eq_single (⟨n.val - 1, by omega⟩ : Fin N)]
    · have : n.val - 1 + 1 = n.val := by omega
      simp [pmE, h, this]
    · intro m _ hm
      have : ¬ m.val + 1 = n.val := fun e => hm (Fin.ext (by show m.val = n.val - 1; omega))
      simp [pmE, h, this]
    · simp

/-- One head on one batch from the batch's rows and the head's columns of the three projections. -/
def ctxE (X : Fin 256 → Fin 768 → EReal) (wq wk wv : Fin 768 → Fin 64 → EReal) (CS SN : Fin 256 → Fin 64 → EReal) (i : Fin 256) (d : Fin 64) : EReal :=
  headK (fun i => rotE (fun e => ∑ k, X i k * wq k e) (CS i) (SN i)) (fun i => rotE (fun e => ∑ k, X i k * wk k e) (CS i) (SN i))
    (fun i e => ∑ k, X i k * wv k e) i d

/-- Column `e` of the head that column `n` belongs to, among `N` columns. -/
def hcol {N : ℕ} (hN : N % 64 = 0) (n : Fin N) (e : Fin 64) : Fin N := ⟨64 * (n.val / 64) + e.val, by have := e.isLt; have := n.isLt; omega⟩

/-- The place of column `n` in its head. -/
def hoff {N : ℕ} (n : Fin N) : Fin 64 := ⟨n.val % 64, Nat.mod_lt _ (by decide)⟩

theorem rot_idx {N : ℕ} (hN : N % 64 = 0) (U : Fin N → EReal) (n : Fin N) (c s : Fin 64 → EReal) :
    U n * c (hoff n) + (if h : n.val % 2 = 0 then -(U ⟨n.val + 1, by omega⟩) else U ⟨n.val - 1, by omega⟩) * s (hoff n)
      = rotE (fun e => U (hcol hN n e)) c s (hoff n) := by
  have h0 : n = hcol hN n (hoff n) := Fin.ext (by show n.val = 64 * (n.val / 64) + n.val % 64; omega)
  unfold rotE
  congr 2
  · exact congrArg U h0
  · by_cases h : n.val % 2 = 0
    · rw [dif_pos h, if_pos (by show n.val % 64 % 2 = 0; omega)]
      refine congrArg (fun t => - U t) (Fin.ext ?_)
      show n.val + 1 = 64 * (n.val / 64) + (n.val % 64 + 1) % 64
      omega
    · rw [dif_neg h, if_neg (by show ¬ n.val % 64 % 2 = 0; omega)]
      refine congrArg U (Fin.ext ?_)
      show n.val - 1 = 64 * (n.val / 64) + (n.val % 64 - 1)
      omega

/-- One column's contribution to the result: the column's context times the column of the output projection. `W` holds the
four weights one under the other. -/
def termW {N : ℕ} (hN : N % 64 = 0) (X : Fin 256 → Fin 768 → EReal) (W : Fin 3072 → Fin N → EReal) (CS SN : Fin 256 → Fin 64 → EReal)
    (i : Fin 256) (n : Fin 768) (t : Fin N) : EReal :=
  ctxE X (fun k e => W ⟨k.val, by omega⟩ (hcol hN t e)) (fun k e => W ⟨768 + k.val, by omega⟩ (hcol hN t e))
    (fun k e => W ⟨1536 + k.val, by omega⟩ (hcol hN t e)) CS SN i (hoff t) * W ⟨2304 + n.val, by omega⟩ t

/-- A half block's columns are columns of the whole block. -/
theorem termW_half (X : Fin 256 → Fin 768 → EReal) (W : Fin 3072 → Fin 256 → EReal) (CS SN : Fin 256 → Fin 64 → EReal)
    (i : Fin 256) (n : Fin 768) (b : ℕ) (hb : b % 64 = 0) (hb' : b + 128 ≤ 256) (t : Fin 128) :
    termW (N := 128) rfl X (fun r l => W r ⟨b + l.val, by omega⟩) CS SN i n t = termW (N := 256) rfl X W CS SN i n ⟨b + t.val, by omega⟩ := by
  have e1 : ∀ e : Fin 64, (⟨b + (hcol (N := 128) rfl t e).val, by have := (hcol (N := 128) rfl t e).isLt; omega⟩ : Fin 256)
      = hcol (N := 256) rfl ⟨b + t.val, by omega⟩ e := fun e => Fin.ext (by
    show b + (64 * (t.val / 64) + e.val) = 64 * ((b + t.val) / 64) + e.val; omega)
  have e2 : hoff t = hoff (⟨b + t.val, by omega⟩ : Fin 256) := Fin.ext (by show t.val % 64 = (b + t.val) % 64; omega)
  unfold termW
  simp only [e1, e2]

/-- The sum over a block's columns is the sum over its two halves. -/
theorem sum_halves (f : Fin 256 → EReal) : ∑ t, f t = (∑ l : Fin 128, f ⟨0 + l.val, by omega⟩) + ∑ l : Fin 128, f ⟨128 + l.val, by omega⟩ := by
  refine (Fin.sum_univ_add (a := 128) (b := 128) f).trans ?_
  refine congrArg₂ (· + ·) (Finset.sum_congr rfl fun l _ => congrArg f (Fin.ext ?_)) (Finset.sum_congr rfl fun l _ => congrArg f (Fin.ext ?_))
  · show l.val = 0 + l.val; omega
  · rfl

/-- A sum over 1024 columns is the sum over the four blocks of 256. -/
theorem sum_blocks (f : Fin 1024 → EReal) : ∑ t, f t = ∑ dd : Fin 4, ∑ t : Fin 256, f ⟨256 * dd.val + t.val, by omega⟩ := by
  rw [← Equiv.sum_comp (finProdFinEquiv (m := 4) (n := 256)) f, Fintype.sum_prod_type]
  refine Finset.sum_congr rfl fun a _ => Finset.sum_congr rfl fun b _ => congrArg f (Fin.ext ?_)
  show b.val + 256 * a.val = 256 * a.val + b.val
  omega

end Cert.KernelIdeal.Value

end
-- ==== Proof.Value.Head.lean ====
/-
# The kernel's values by entries, on the ideal instance
-/
module

public import proofs.«01_k».proof.Proof.KernelIdeal.Spec
public import Idealize.ShloMosaic.Lib.Pointwise
public import proofs.«01_k».proof.Proof.Value.Rot

@[expose] public section

noncomputable section

namespace Cert.KernelIdeal.Value

open Cert.KernelIdeal Cert.KernelIdeal.Gen Cert.KernelIdeal.Talk
open Idealize.ShloMosaic
open scoped BigOperators

theorem headOf_apply (q k v : FVec Ideal S256x64 .bf16) (i : Fin 256) (d : Fin 64) :
    headOf q k v (ix2 i d) = headK (fun i e => q (ix2 i e)) (fun i e => k (ix2 i e)) (fun i e => v (ix2 i e)) i d := by
  unfold headOf headK expo
  pointwise

theorem ownProj_apply (xb : FVec Ideal S512x768 .bf16) (w : FVec Ideal S3072x256 .bf16) (o : ℕ) (h : S3072x256.Slices ![o, 0] S768x256)
    (ho : o + 768 ≤ 3072) (r : Fin 512) (n : Fin 256) :
    ownProj xb w o h (ix2 r n) = ∑ k : Fin 768, xb (ix2 r k) * w (ix2 (⟨o + k.val, by omega⟩ : Fin 3072) n) := by
  unfold ownProj
  pointwise

theorem halfProj_apply (xb : FVec Ideal S512x768 .bf16) (w : FVec Ideal S3072x128 .bf16) (o : ℕ) (h : S3072x128.Slices ![o, 0] S768x128)
    (ho : o + 768 ≤ 3072) (r : Fin 512) (n : Fin 128) :
    halfProj xb w o h (ix2 r n) = ∑ k : Fin 768, xb (ix2 r k) * w (ix2 (⟨o + k.val, by omega⟩ : Fin 3072) n) := by
  unfold halfProj
  pointwise

theorem sl8_apply (A : FVec Ideal S512x256 .bf16) (b : Fin 2) (j : Fin 4) (i : Fin 256) (e : Fin 64) :
    sl8 A b j (ix2 i e) = A (ix2 (⟨256 * b.val + i.val, by omega⟩ : Fin 512) (⟨64 * j.val + e.val, by omega⟩ : Fin 256)) := by
  unfold sl8
  pointwise

theorem sl4_apply (A : FVec Ideal S512x128 .bf16) (b : Fin 2) (j : Fin 2) (i : Fin 256) (e : Fin 64) :
    sl4 A b j (ix2 i e) = A (ix2 (⟨256 * b.val + i.val, by omega⟩ : Fin 512) (⟨64 * j.val + e.val, by omega⟩ : Fin 128)) := by
  unfold sl4
  pointwise

/-- The position a row of the two batches stands for. -/
def rpos (r : Fin 512) : Fin 256 := ⟨r.val % 256, Nat.mod_lt _ (by decide)⟩
/-- The rows of the batch that row `r` belongs to. -/
def rbat (r : Fin 512) (i : Fin 256) : Fin 512 := ⟨256 * (r.val / 256) + i.val, by omega⟩

section Tables

variable (xb : FVec Ideal S512x768 .bf16) (cs sn : Vec Ideal S512x256 .f32) (pm : FVec Ideal S256x256 .bf16) (CS SN : Fin 256 → Fin 64 → EReal)
  (hcs : ∀ (r : Fin 512) (n : Fin 256), cs (ix2 r n) = CS (rpos r) (hoff n))
  (hsn : ∀ (r : Fin 512) (n : Fin 256), sn (ix2 r n) = SN (rpos r) (hoff n))
  (hpm : ∀ m n : Fin 256, pm (ix2 m n) = pmE m.val n.val)

include hcs hsn hpm in
theorem ownRot_apply (u : FVec Ideal S512x256 .f32) (r : Fin 512) (n : Fin 256) :
    ownRot cs sn pm u (ix2 r n) = rotE (fun e => u (ix2 r (hcol (N := 256) rfl n e))) (CS (rpos r)) (SN (rpos r)) (hoff n) := by
  unfold ownRot
  pointwise
  simp only [hcs, hsn, hpm, sum_pmE (N := 256) rfl]
  exact rot_idx (N := 256) rfl (fun n => u (ix2 r n)) n _ _

include hcs hsn hpm in
theorem halfRot_apply (u : FVec Ideal S512x128 .f32) (r : Fin 512) (n : Fin 128) :
    halfRot cs sn pm u (ix2 r n) = rotE (fun e => u (ix2 r (hcol (N := 128) rfl n e))) (CS (rpos r)) (SN (rpos r)) (hoff n) := by
  unfold halfRot
  pointwise
  simp only [hcs, hsn, hpm, sum_pmE (N := 128) rfl]
  exact rot_idx (N := 128) rfl (fun n => u (ix2 r n)) n _ _

theorem rbat_rpos (b : Fin 2) (i : Fin 256) : rpos (⟨256 * b.val + i.val, by omega⟩ : Fin 512) = i := Fin.ext (by
  show (256 * b.val + i.val) % 256 = i.val; omega)

theorem tile8_apply (w : Fin 2 → Fin 4 → Vec Ideal S256x64 .bf16) (r : Fin 512) (n : Fin 256) :
    tile8 w (ix2 r n) = w ⟨r.val / 256, by omega⟩ ⟨n.val / 64, by omega⟩ (ix2 (rpos r) (hoff n)) := rfl
theorem tile4_apply (w : Fin 2 → Fin 2 → Vec Ideal S256x64 .bf16) (r : Fin 512) (n : Fin 128) :
    tile4 w (ix2 r n) = w ⟨r.val / 256, by omega⟩ ⟨n.val / 64, by omega⟩ (ix2 (rpos r) (hoff n)) := rfl

theorem hcol_hcol {N : ℕ} (hN : N % 64 = 0) (n : Fin N) (e e' : Fin 64) : hcol hN (hcol hN n e) e' = hcol hN n e' := Fin.ext (by
  show 64 * ((64 * (n.val / 64) + e.val) / 64) + e'.val = 64 * (n.val / 64) + e'.val; omega)
theorem hoff_hcol {N : ℕ} (hN : N % 64 = 0) (n : Fin N) (e : Fin 64) : hoff (hcol hN n e) = e := Fin.ext (by
  show (64 * (n.val / 64) + e.val) % 64 = e.val; omega)
theorem rpos_rbat (r : Fin 512) (i : Fin 256) : rpos (rbat r i) = i := Fin.ext (by
  show (256 * (r.val / 256) + i.val) % 256 = i.val; omega)

include hcs hsn hpm in
/-- The own block's contribution: its 256 columns' contributions, added up. -/
theorem ownAcc_apply (w : FVec Ideal S3072x256 .bf16) (r : Fin 512) (n : Fin 768) :
    ownAcc xb cs sn pm w (ix2 r n)
      = ∑ t : Fin 256, termW (N := 256) rfl (fun i k => xb (ix2 (rbat r i) k)) (fun a t => w (ix2 a t)) CS SN (rpos r) n t := by
  unfold ownAcc
  pointwise
  refine Finset.sum_congr rfl fun t _ => ?_
  unfold termW ctxE
  rw [tile8_apply]
  refine congrArg₂ (· * ·) ?_ rfl
  unfold ownCtx
  rw [headOf_apply]
  congr 1
  · funext i e
    rw [sl8_apply]
    refine (ownRot_apply cs sn pm CS SN hcs hsn hpm _ (rbat r i) (hcol rfl t e)).trans ?_
    rw [rpos_rbat, hoff_hcol]
    congr 1
    funext e'
    rw [hcol_hcol, ownProj_apply _ _ _ _ (by decide)]
    simp only [Nat.zero_add]
  · funext i e
    rw [sl8_apply]
    refine (ownRot_apply cs sn pm CS SN hcs hsn hpm _ (rbat r i) (hcol rfl t e)).trans ?_
    rw [rpos_rbat, hoff_hcol]
    congr 1
    funext e'
    rw [hcol_hcol, ownProj_apply _ _ _ _ (by decide)]
  · funext i e
    rw [sl8_apply]
    exact ownProj_apply _ _ _ _ (by decide) (rbat r i) (hcol rfl t e)

include hcs hsn hpm in
/-- A half block adds its 128 columns' contributions. -/
theorem halfAcc_apply (acc : FVec Ideal S512x768 .f32) (slot : Vec Ideal S1x3072x128 .bf16) (r : Fin 512) (n : Fin 768) :
    halfAcc xb cs sn pm acc slot (ix2 r n)
      = acc (ix2 r n) + ∑ t : Fin 128, termW (N := 128) rfl (fun i k => xb (ix2 (rbat r i) k)) (fun a t => slot (ix3 0 a t)) CS SN (rpos r) n t := by
  unfold halfAcc
  have hw : ∀ (a : Fin 3072) (t : Fin 128), (shapeCast S3072x128 slot shapeCasts_S1x3072x128_S3072x128 : FVec Ideal S3072x128 .bf16) (ix2 a t) = slot (ix3 0 a t) := fun a t => by
    pointwise
  generalize (shapeCast S3072x128 slot shapeCasts_S1x3072x128_S3072x128 : FVec Ideal S3072x128 .bf16) = w at hw ⊢
  simp only [← hw]
  pointwise
  refine congrArg (acc (ix2 r n) + ·) ?_
  refine Finset.sum_congr rfl fun t _ => ?_
  unfold termW ctxE
  rw [tile4_apply]
  refine congrArg₂ (· * ·) ?_ rfl
  unfold halfCtx
  rw [headOf_apply]
  congr 1
  · funext i e
    rw [sl4_apply]
    refine (halfRot_apply cs sn pm CS SN hcs hsn hpm _ (rbat r i) (hcol rfl t e)).trans ?_
    rw [rpos_rbat, hoff_hcol]
    congr 1
    funext e'
    rw [hcol_hcol, halfProj_apply _ _ _ _ (by decide)]
    simp only [Nat.zero_add]
  · funext i e
    rw [sl4_apply]
    refine (halfRot_apply cs sn pm CS SN hcs hsn hpm _ (rbat r i) (hcol rfl t e)).trans ?_
    rw [rpos_rbat, hoff_hcol]
    congr 1
    funext e'
    rw [hcol_hcol, halfProj_apply _ _ _ _ (by decide)]
  · funext i e
    rw [sl4_apply]
    exact halfProj_apply _ _ _ _ (by decide) (rbat r i) (hcol rfl t e)

end Tables

end Cert.KernelIdeal.Value
end
-- ==== Proof.Value.Out.lean ====
/-
# What a device writes: the sum over all columns of all devices
-/
module

public import proofs.«01_k».proof.Proof.Value.Head

@[expose] public section

noncomputable section

namespace Cert.KernelIdeal.Value

open Cert.KernelIdeal Cert.KernelIdeal.Gen Cert.KernelIdeal.Talk
open Idealize.ShloMosaic
open scoped BigOperators

/-- The row of a batch among the rows of the two batches. -/
def brow (b : Fin 2) (i : Fin 256) : Fin 512 := ⟨256 * b.val + i.val, by omega⟩
theorem rpos_brow (b : Fin 2) (i : Fin 256) : rpos (brow b i) = i := Fin.ext (by show (256 * b.val + i.val) % 256 = i.val; omega)
theorem rbat_brow (b : Fin 2) (i j : Fin 256) : rbat (brow b i) j = brow b j := Fin.ext (by
  show 256 * ((256 * b.val + i.val) / 256) + j.val = 256 * b.val + j.val; omega)

theorem pay1_apply (v : FVec Ideal S512x768 .f32) (b : Fin 2) (i : Fin 256) (n : Fin 768) : k0_pay1 v (ix3 b i n) = v (ix2 (brow b i) n) := by
  unfold k0_pay1 brow
  pointwise
  exact congrArg (fun r => v (ix2 r n)) (Fin.ext (by show b.val * 256 + i.val = 256 * b.val + i.val; omega))
theorem pay2_apply (x : Vec Ideal S2x256x768 .f32) (b : Fin 2) (i : Fin 256) (n : Fin 768) : k0_pay2 x (ix2 (brow b i) n) = x (ix3 b i n) := by
  unfold k0_pay2 brow
  pointwise
theorem pay3_apply (p : Vec Ideal S256x256 .bf16) (a b : Fin 256) : k0_pay3 p (ix2 a b) = p (ix2 a b) := by
  unfold k0_pay3
  pointwise
theorem pay4_apply (p : Vec Ideal S3072x256 .bf16) (a : Fin 3072) (b : Fin 256) : k0_pay4 p (ix2 a b) = p (ix2 a b) := by
  unfold k0_pay4
  pointwise

/-- The halves that one device meets, in the order it meets them, are all halves of all devices. -/
theorem ring_sum (A B : Dev nD → EReal) (c : Dev nD) :
    ((((((A c + B c) + A (srcDev true 0 c)) + B (srcDev false 0 c)) + A (srcDev true 1 c)) + B (srcDev false 1 c)) + A (srcDev true 2 c)) + B (srcDev false 2 c)
      = ∑ d, (A d + B d) := by
  have e : ∀ c : Fin 4, (srcDev true 0 c = c + 3 ∧ srcDev true 1 c = c + 2 ∧ srcDev true 2 c = c + 1)
      ∧ (srcDev false 0 c = c + 1 ∧ srcDev false 1 c = c + 2 ∧ srcDev false 2 c = c + 3) := by decide
  obtain ⟨⟨e1, e2, e3⟩, e4, e5, e6⟩ := e c
  rw [e1, e2, e3, e4, e5, e6]
  refine Eq.trans ?_ (Fin.sum_univ_four (fun d : Fin 4 => A d + B d)).symm
  clear e1 e2 e3 e4 e5 e6 e
  change Fin 4 → EReal at A B
  change Fin 4 at c
  fin_cases c
  · show ((((((A 0 + B 0) + A 3) + B 1) + A 2) + B 2) + A 1) + B 3 = _; abel
  · show ((((((A 1 + B 1) + A 0) + B 2) + A 3) + B 3) + A 2) + B 0 = _; abel
  · show ((((((A 2 + B 2) + A 1) + B 3) + A 0) + B 0) + A 3) + B 1 = _; abel
  · show ((((((A 3 + B 3) + A 2) + B 0) + A 1) + B 1) + A 0) + B 2 = _; abel

variable (wc : Dev nD → Vec Ideal S3072x256 .bf16) (x : Vec Ideal S2x256x768 .f32) (cs sn : Vec Ideal S512x256 .f32) (pm : Vec Ideal S256x256 .bf16)
  (CS SN : Fin 256 → Fin 64 → EReal)
  (hcs : ∀ (r : Fin 512) (n : Fin 256), cs (ix2 r n) = CS (rpos r) (hoff n))
  (hsn : ∀ (r : Fin 512) (n : Fin 256), sn (ix2 r n) = SN (rpos r) (hoff n))
  (hpm : ∀ m n : Fin 256, pm (ix2 m n) = pmE m.val n.val)

/-- One column of one device's block, at one result entry. -/
def colTerm (b : Fin 2) (i : Fin 256) (n : Fin 768) (d : Dev nD) (t : Fin 256) : EReal :=
  termW (N := 256) rfl (fun i k => x (ix3 b i k)) (fun a t => wc d (ix2 a t)) CS SN i n t

include hcs hsn hpm in
theorem half_apply (dir : Bool) (u : Fin 3) (c : Dev nD) (acc : FVec Ideal S512x768 .f32) (b : Fin 2) (i : Fin 256) (n : Fin 768) :
    halfAcc (k0_pay2 x) cs sn (k0_pay3 pm) acc (slotV wc dir u c) (ix2 (brow b i) n)
      = acc (ix2 (brow b i) n) + ∑ l : Fin 128, colTerm wc x CS SN b i n (srcDev dir u.val c) ⟨Talk.col dir + l.val, by cases dir <;> (simp only [Talk.col]; simp; omega)⟩ := by
  rw [halfAcc_apply _ cs sn _ CS SN hcs hsn (fun m n => (pay3_apply pm m n).trans (hpm m n))]
  refine congrArg (acc (ix2 (brow b i) n) + ·) (Finset.sum_congr rfl fun l _ => ?_)
  simp only [rbat_brow, pay2_apply, rpos_brow]
  unfold colTerm
  exact termW_half (fun i k => x (ix3 b i k)) (fun a t => wc (srcDev dir u.val c) (ix2 a t)) CS SN i n (Talk.col dir) (by cases dir <;> rfl) (by cases dir <;> decide) l

include hcs hsn hpm in
/-- **What device `c` writes** at row `i` of batch `b` and column `n`: the contributions of all columns of all devices. -/
theorem outV_apply (c : Dev nD) (b : Fin 2) (i : Fin 256) (n : Fin 768) :
    outV wc c x cs sn pm (ix3 b i n) = ∑ d : Dev nD, ∑ t : Fin 256, colTerm wc x CS SN b i n d t := by
  unfold outV
  simp only
  rw [pay1_apply]
  simp only [half_apply wc x cs sn pm CS SN hcs hsn hpm]
  rw [ownAcc_apply _ cs sn _ CS SN hcs hsn (fun m n => (pay3_apply pm m n).trans (hpm m n))]
  simp only [rbat_brow, pay2_apply, pay4_apply, rpos_brow]
  have e := ring_sum (fun d => ∑ l : Fin 128, colTerm wc x CS SN b i n d ⟨0 + l.val, by omega⟩)
    (fun d => ∑ l : Fin 128, colTerm wc x CS SN b i n d ⟨128 + l.val, by omega⟩) c
  refine Eq.trans ?_ (e.trans (Finset.sum_congr rfl fun d _ => (sum_halves _).symm))
  rw [← sum_halves (fun t => colTerm wc x CS SN b i n c t)]
  rfl

end Cert.KernelIdeal.Value
end
-- ==== Proof.Value.Tables.Words.lean ====
/-
# The words of the tables
-/
module

public import proofs.«01_k».proof.KernelIdeal
public import proofs.«01_k».proof.ReferenceIdeal

@[expose] public section

namespace Cert.Tables

/-- The word of the signed permutation in row `m` and column `n`: `-1` below an even column's diagonal place, `1` above an
odd one's, `0` elsewhere. -/
def pmW (m n : ℕ) : BitVec 32 := if n % 2 = 0 then (if m = n + 1 then 0xBF800000#32 else 0#32) else (if m + 1 = n then 0x3F800000#32 else 0#32)

/-- The exponent of the word is not all ones. -/
def expOk (b : BitVec 32) : Bool := ! Nat.beq (Nat.mod (Nat.div b.toNat 8388608) 256) 255

/-- A test that holds. -/
abbrev T (b : Bool) : Prop := b = true
/-- The tests of one word: that it is a number, and that it is the permutation's in row `r`, in the lower or the upper half of
the columns. -/
abbrev ok (_ : ℕ) (w : BitVec 32) : Bool := expOk w
abbrev lo (r x : ℕ) (w : BitVec 32) : Bool := w == pmW r x
abbrev hi (r x : ℕ) (w : BitVec 32) : Bool := w == pmW r (128 + x)
/-- The word is the permutation's in row `r` and column `i % 128`, or `128 + i % 128`. -/
abbrev A (r i : ℕ) (w : BitVec 32) : Prop := T (lo r (i % 128) w)
abbrev B (r i : ℕ) (w : BitVec 32) : Prop := T (hi r (i % 128) w)
theorem md (i : ℕ) : i % 128 < 128 := Nat.mod_lt _ (by decide)

/-- Both programs hold the same two tables of the positions. -/
theorem lit0_eq : Cert.KernelIdeal.lit0 = Cert.ReferenceIdeal.lit0 := by
  unfold Cert.KernelIdeal.lit0 Cert.ReferenceIdeal.lit0
  rfl
theorem lit1_eq : Cert.KernelIdeal.lit1 = Cert.ReferenceIdeal.lit1 := by
  unfold Cert.KernelIdeal.lit1 Cert.ReferenceIdeal.lit1
  rfl

end Cert.Tables
-- ==== Proof.Value.Tables.Arms.lean ====
/-
# Reading a table of constants

A table is printed as matches of 128 arms on the digits of the index. What holds of every arm holds of the match.
-/
module

public import proofs.«01_k».proof.KernelIdeal

@[expose] public section

namespace Cert.Tables

/-- A relation between the digit and the word that holds of each of the 128 arms holds of the match at any digit. -/
theorem arms {Q : ℕ → BitVec 32 → Prop} {x : ℕ} (hx : x < 128) {
    a0 a1 a2 a3 a4 a5 a6 a7 a8 a9 a10 a11 a12 a13 a14 a15 a16 a17 a18 a19 a20 a21 a22 a23 a24 a25 a26 a27 a28 a29 a30 a31 a32 a33 a34 a35 a36 a37 a38
    a39 a40 a41 a42 a43 a44 a45 a46 a47 a48 a49 a50 a51 a52 a53 a54 a55 a56 a57 a58 a59 a60 a61 a62 a63 a64 a65 a66 a67 a68 a69 a70 a71 a72 a73 a74
    a75 a76 a77 a78 a79 a80 a81 a82 a83 a84 a85 a86 a87 a88 a89 a90 a91 a92 a93 a94 a95 a96 a97 a98 a99 a100 a101 a102 a103 a104 a105 a106 a107 a108
    a109 a110 a111 a112 a113 a114 a115 a116 a117 a118 a119 a120 a121 a122 a123 a124 a125 a126 a127 z : BitVec 32} (h :
    Q 0 a0 ∧ Q 1 a1 ∧ Q 2 a2 ∧ Q 3 a3 ∧ Q 4 a4 ∧ Q 5 a5 ∧ Q 6 a6 ∧ Q 7 a7 ∧ Q 8 a8 ∧ Q 9 a9 ∧ Q 10 a10 ∧ Q 11 a11 ∧ Q 12 a12 ∧ Q 13 a13 ∧ Q 14 a14 ∧
    Q 15 a15 ∧ Q 16 a16 ∧ Q 17 a17 ∧ Q 18 a18 ∧ Q 19 a19 ∧ Q 20 a20 ∧ Q 21 a21 ∧ Q 22 a22 ∧ Q 23 a23 ∧ Q 24 a24 ∧ Q 25 a25 ∧ Q 26 a26 ∧ Q 27 a27 ∧
    Q 28 a28 ∧ Q 29 a29 ∧ Q 30 a30 ∧ Q 31 a31 ∧ Q 32 a32 ∧ Q 33 a33 ∧ Q 34 a34 ∧ Q 35 a35 ∧ Q 36 a36 ∧ Q 37 a37 ∧ Q 38 a38 ∧ Q 39 a39 ∧ Q 40 a40 ∧
    Q 41 a41 ∧ Q 42 a42 ∧ Q 43 a43 ∧ Q 44 a44 ∧ Q 45 a45 ∧ Q 46 a46 ∧ Q 47 a47 ∧ Q 48 a48 ∧ Q 49 a49 ∧ Q 50 a50 ∧ Q 51 a51 ∧ Q 52 a52 ∧ Q 53 a53 ∧
    Q 54 a54 ∧ Q 55 a55 ∧ Q 56 a56 ∧ Q 57 a57 ∧ Q 58 a58 ∧ Q 59 a59 ∧ Q 60 a60 ∧ Q 61 a61 ∧ Q 62 a62 ∧ Q 63 a63 ∧ Q 64 a64 ∧ Q 65 a65 ∧ Q 66 a66 ∧
    Q 67 a67 ∧ Q 68 a68 ∧ Q 69 a69 ∧ Q 70 a70 ∧ Q 71 a71 ∧ Q 72 a72 ∧ Q 73 a73 ∧ Q 74 a74 ∧ Q 75 a75 ∧ Q 76 a76 ∧ Q 77 a77 ∧ Q 78 a78 ∧ Q 79 a79 ∧
    Q 80 a80 ∧ Q 81 a81 ∧ Q 82 a82 ∧ Q 83 a83 ∧ Q 84 a84 ∧ Q 85 a85 ∧ Q 86 a86 ∧ Q 87 a87 ∧ Q 88 a88 ∧ Q 89 a89 ∧ Q 90 a90 ∧ Q 91 a91 ∧ Q 92 a92 ∧
    Q 93 a93 ∧ Q 94 a94 ∧ Q 95 a95 ∧ Q 96 a96 ∧ Q 97 a97 ∧ Q 98 a98 ∧ Q 99 a99 ∧ Q 100 a100 ∧ Q 101 a101 ∧ Q 102 a102 ∧ Q 103 a103 ∧ Q 104 a104 ∧
    Q 105 a105 ∧ Q 106 a106 ∧ Q 107 a107 ∧ Q 108 a108 ∧ Q 109 a109 ∧ Q 110 a110 ∧ Q 111 a111 ∧ Q 112 a112 ∧ Q 113 a113 ∧ Q 114 a114 ∧ Q 115 a115 ∧
    Q 116 a116 ∧ Q 117 a117 ∧ Q 118 a118 ∧ Q 119 a119 ∧ Q 120 a120 ∧ Q 121 a121 ∧ Q 122 a122 ∧ Q 123 a123 ∧ Q 124 a124 ∧ Q 125 a125 ∧ Q 126 a126 ∧
    Q 127 a127) :
    Q x (Cert.KernelIdeal.lit0t0_0.match_1 (fun _ => BitVec 32) x
    (fun _ => a0) (fun _ => a1) (fun _ => a2) (fun _ => a3) (fun _ => a4) (fun _ => a5) (fun _ => a6) (fun _ => a7) (fun _ => a8) (fun _ => a9)
    (fun _ => a10) (fun _ => a11) (fun _ => a12) (fun _ => a13) (fun _ => a14) (fun _ => a15) (fun _ => a16) (fun _ => a17) (fun _ => a18)
    (fun _ => a19) (fun _ => a20) (fun _ => a21) (fun _ => a22) (fun _ => a23) (fun _ => a24) (fun _ => a25) (fun _ => a26) (fun _ => a27)
    (fun _ => a28) (fun _ => a29) (fun _ => a30) (fun _ => a31) (fun _ => a32) (fun _ => a33) (fun _ => a34) (fun _ => a35) (fun _ => a36)
    (fun _ => a37) (fun _ => a38) (fun _ => a39) (fun _ => a40) (fun _ => a41) (fun _ => a42) (fun _ => a43) (fun _ => a44) (fun _ => a45)
    (fun _ => a46) (fun _ => a47) (fun _ => a48) (fun _ => a49) (fun _ => a50) (fun _ => a51) (fun _ => a52) (fun _ => a53) (fun _ => a54)
    (fun _ => a55) (fun _ => a56) (fun _ => a57) (fun _ => a58) (fun _ => a59) (fun _ => a60) (fun _ => a61) (fun _ => a62) (fun _ => a63)
    (fun _ => a64) (fun _ => a65) (fun _ => a66) (fun _ => a67) (fun _ => a68) (fun _ => a69) (fun _ => a70) (fun _ => a71) (fun _ => a72)
    (fun _ => a73) (fun _ => a74) (fun _ => a75) (fun _ => a76) (fun _ => a77) (fun _ => a78) (fun _ => a79) (fun _ => a80) (fun _ => a81)
    (fun _ => a82) (fun _ => a83) (fun _ => a84) (fun _ => a85) (fun _ => a86) (fun _ => a87) (fun _ => a88) (fun _ => a89) (fun _ => a90)
    (fun _ => a91) (fun _ => a92) (fun _ => a93) (fun _ => a94) (fun _ => a95) (fun _ => a96) (fun _ => a97) (fun _ => a98) (fun _ => a99)
    (fun _ => a100) (fun _ => a101) (fun _ => a102) (fun _ => a103) (fun _ => a104) (fun _ => a105) (fun _ => a106) (fun _ => a107) (fun _ => a108)
    (fun _ => a109) (fun _ => a110) (fun _ => a111) (fun _ => a112) (fun _ => a113) (fun _ => a114) (fun _ => a115) (fun _ => a116) (fun _ => a117)
    (fun _ => a118) (fun _ => a119) (fun _ => a120) (fun _ => a121) (fun _ => a122) (fun _ => a123) (fun _ => a124) (fun _ => a125) (fun _ => a126)
    (fun _ => a127) (fun _ => z)) :=
  let ⟨
    h0, h1, h2, h3, h4, h5, h6, h7, h8, h9, h10, h11, h12, h13, h14, h15, h16, h17, h18, h19, h20, h21, h22, h23, h24, h25, h26, h27, h28, h29, h30,
    h31, h32, h33, h34, h35, h36, h37, h38, h39, h40, h41, h42, h43, h44, h45, h46, h47, h48, h49, h50, h51, h52, h53, h54, h55, h56, h57, h58, h59,
    h60, h61, h62, h63, h64, h65, h66, h67, h68, h69, h70, h71, h72, h73, h74, h75, h76, h77, h78, h79, h80, h81, h82, h83, h84, h85, h86, h87, h88,
    h89, h90, h91, h92, h93, h94, h95, h96, h97, h98, h99, h100, h101, h102, h103, h104, h105, h106, h107, h108, h109, h110, h111, h112, h113, h114,
    h115, h116, h117, h118, h119, h120, h121, h122, h123, h124, h125, h126, h127⟩ := h
  match x, hx with
  | 0, _ => h0 | 1, _ => h1 | 2, _ => h2 | 3, _ => h3 | 4, _ => h4 | 5, _ => h5 | 6, _ => h6 | 7, _ => h7 | 8, _ => h8 | 9, _ => h9 | 10, _ => h10
  | 11, _ => h11 | 12, _ => h12 | 13, _ => h13 | 14, _ => h14 | 15, _ => h15 | 16, _ => h16 | 17, _ => h17 | 18, _ => h18 | 19, _ => h19
  | 20, _ => h20 | 21, _ => h21 | 22, _ => h22 | 23, _ => h23 | 24, _ => h24 | 25, _ => h25 | 26, _ => h26 | 27, _ => h27 | 28, _ => h28
  | 29, _ => h29 | 30, _ => h30 | 31, _ => h31 | 32, _ => h32 | 33, _ => h33 | 34, _ => h34 | 35, _ => h35 | 36, _ => h36 | 37, _ => h37
  | 38, _ => h38 | 39, _ => h39 | 40, _ => h40 | 41, _ => h41 | 42, _ => h42 | 43, _ => h43 | 44, _ => h44 | 45, _ => h45 | 46, _ => h46
  | 47, _ => h47 | 48, _ => h48 | 49, _ => h49 | 50, _ => h50 | 51, _ => h51 | 52, _ => h52 | 53, _ => h53 | 54, _ => h54 | 55, _ => h55
  | 56, _ => h56 | 57, _ => h57 | 58, _ => h58 | 59, _ => h59 | 60, _ => h60 | 61, _ => h61 | 62, _ => h62 | 63, _ => h63 | 64, _ => h64
  | 65, _ => h65 | 66, _ => h66 | 67, _ => h67 | 68, _ => h68 | 69, _ => h69 | 70, _ => h70 | 71, _ => h71 | 72, _ => h72 | 73, _ => h73
  | 74, _ => h74 | 75, _ => h75 | 76, _ => h76 | 77, _ => h77 | 78, _ => h78 | 79, _ => h79 | 80, _ => h80 | 81, _ => h81 | 82, _ => h82
  | 83, _ => h83 | 84, _ => h84 | 85, _ => h85 | 86, _ => h86 | 87, _ => h87 | 88, _ => h88 | 89, _ => h89 | 90, _ => h90 | 91, _ => h91
  | 92, _ => h92 | 93, _ => h93 | 94, _ => h94 | 95, _ => h95 | 96, _ => h96 | 97, _ => h97 | 98, _ => h98 | 99, _ => h99 | 100, _ => h100
  | 101, _ => h101 | 102, _ => h102 | 103, _ => h103 | 104, _ => h104 | 105, _ => h105 | 106, _ => h106 | 107, _ => h107 | 108, _ => h108
  | 109, _ => h109 | 110, _ => h110 | 111, _ => h111 | 112, _ => h112 | 113, _ => h113 | 114, _ => h114 | 115, _ => h115 | 116, _ => h116
  | 117, _ => h117 | 118, _ => h118 | 119, _ => h119 | 120, _ => h120 | 121, _ => h121 | 122, _ => h122 | 123, _ => h123 | 124, _ => h124
  | 125, _ => h125 | 126, _ => h126 | 127, _ => h127
  | x + 128, hx => absurd hx (by omega)

/-- The same with a test that computes. -/
theorem armsB (q : ℕ → BitVec 32 → Bool) {x : ℕ} (hx : x < 128) {
    a0 a1 a2 a3 a4 a5 a6 a7 a8 a9 a10 a11 a12 a13 a14 a15 a16 a17 a18 a19 a20 a21 a22 a23 a24 a25 a26 a27 a28 a29 a30 a31 a32 a33 a34 a35 a36 a37 a38
    a39 a40 a41 a42 a43 a44 a45 a46 a47 a48 a49 a50 a51 a52 a53 a54 a55 a56 a57 a58 a59 a60 a61 a62 a63 a64 a65 a66 a67 a68 a69 a70 a71 a72 a73 a74
    a75 a76 a77 a78 a79 a80 a81 a82 a83 a84 a85 a86 a87 a88 a89 a90 a91 a92 a93 a94 a95 a96 a97 a98 a99 a100 a101 a102 a103 a104 a105 a106 a107 a108
    a109 a110 a111 a112 a113 a114 a115 a116 a117 a118 a119 a120 a121 a122 a123 a124 a125 a126 a127 z : BitVec 32} (h : (
    (q 0 a0 && (q 1 a1 && (q 2 a2 && (q 3 a3 && (q 4 a4 && (q 5 a5 && (q 6 a6 && (q 7 a7 && (q 8 a8 && (q 9 a9 && (q 10 a10 && (q 11 a11 && (q 12 a12
    && (q 13 a13 && (q 14 a14 && (q 15 a15 && (q 16 a16 && (q 17 a17 && (q 18 a18 && (q 19 a19 && (q 20 a20 && (q 21 a21 && (q 22 a22 && (q 23 a23 &&
    (q 24 a24 && (q 25 a25 && (q 26 a26 && (q 27 a27 && (q 28 a28 && (q 29 a29 && (q 30 a30 && (q 31 a31 && (q 32 a32 && (q 33 a33 && (q 34 a34 &&
    (q 35 a35 && (q 36 a36 && (q 37 a37 && (q 38 a38 && (q 39 a39 && (q 40 a40 && (q 41 a41 && (q 42 a42 && (q 43 a43 && (q 44 a44 && (q 45 a45 &&
    (q 46 a46 && (q 47 a47 && (q 48 a48 && (q 49 a49 && (q 50 a50 && (q 51 a51 && (q 52 a52 && (q 53 a53 && (q 54 a54 && (q 55 a55 && (q 56 a56 &&
    (q 57 a57 && (q 58 a58 && (q 59 a59 && (q 60 a60 && (q 61 a61 && (q 62 a62 && (q 63 a63 && (q 64 a64 && (q 65 a65 && (q 66 a66 && (q 67 a67 &&
    (q 68 a68 && (q 69 a69 && (q 70 a70 && (q 71 a71 && (q 72 a72 && (q 73 a73 && (q 74 a74 && (q 75 a75 && (q 76 a76 && (q 77 a77 && (q 78 a78 &&
    (q 79 a79 && (q 80 a80 && (q 81 a81 && (q 82 a82 && (q 83 a83 && (q 84 a84 && (q 85 a85 && (q 86 a86 && (q 87 a87 && (q 88 a88 && (q 89 a89 &&
    (q 90 a90 && (q 91 a91 && (q 92 a92 && (q 93 a93 && (q 94 a94 && (q 95 a95 && (q 96 a96 && (q 97 a97 && (q 98 a98 && (q 99 a99 && (q 100 a100 &&
    (q 101 a101 && (q 102 a102 && (q 103 a103 && (q 104 a104 && (q 105 a105 && (q 106 a106 && (q 107 a107 && (q 108 a108 && (q 109 a109 &&
    (q 110 a110 && (q 111 a111 && (q 112 a112 && (q 113 a113 && (q 114 a114 && (q 115 a115 && (q 116 a116 && (q 117 a117 && (q 118 a118 &&
    (q 119 a119 && (q 120 a120 && (q 121 a121 && (q 122 a122 && (q 123 a123 && (q 124 a124 && (q 125 a125 && (q 126 a126 &&
    q 127 a127)))))))))))))))))))))))))))))))))))))))))))))))))))))))))))))))))))))))))))))))))))))))))))))))))))))))))))))))))))))))))))))))) = true := by decide +kernel) :
    q x (Cert.KernelIdeal.lit0t0_0.match_1 (fun _ => BitVec 32) x
    (fun _ => a0) (fun _ => a1) (fun _ => a2) (fun _ => a3) (fun _ => a4) (fun _ => a5) (fun _ => a6) (fun _ => a7) (fun _ => a8) (fun _ => a9)
    (fun _ => a10) (fun _ => a11) (fun _ => a12) (fun _ => a13) (fun _ => a14) (fun _ => a15) (fun _ => a16) (fun _ => a17) (fun _ => a18)
    (fun _ => a19) (fun _ => a20) (fun _ => a21) (fun _ => a22) (fun _ => a23) (fun _ => a24) (fun _ => a25) (fun _ => a26) (fun _ => a27)
    (fun _ => a28) (fun _ => a29) (fun _ => a30) (fun _ => a31) (fun _ => a32) (fun _ => a33) (fun _ => a34) (fun _ => a35) (fun _ => a36)
    (fun _ => a37) (fun _ => a38) (fun _ => a39) (fun _ => a40) (fun _ => a41) (fun _ => a42) (fun _ => a43) (fun _ => a44) (fun _ => a45)
    (fun _ => a46) (fun _ => a47) (fun _ => a48) (fun _ => a49) (fun _ => a50) (fun _ => a51) (fun _ => a52) (fun _ => a53) (fun _ => a54)
    (fun _ => a55) (fun _ => a56) (fun _ => a57) (fun _ => a58) (fun _ => a59) (fun _ => a60) (fun _ => a61) (fun _ => a62) (fun _ => a63)
    (fun _ => a64) (fun _ => a65) (fun _ => a66) (fun _ => a67) (fun _ => a68) (fun _ => a69) (fun _ => a70) (fun _ => a71) (fun _ => a72)
    (fun _ => a73) (fun _ => a74) (fun _ => a75) (fun _ => a76) (fun _ => a77) (fun _ => a78) (fun _ => a79) (fun _ => a80) (fun _ => a81)
    (fun _ => a82) (fun _ => a83) (fun _ => a84) (fun _ => a85) (fun _ => a86) (fun _ => a87) (fun _ => a88) (fun _ => a89) (fun _ => a90)
    (fun _ => a91) (fun _ => a92) (fun _ => a93) (fun _ => a94) (fun _ => a95) (fun _ => a96) (fun _ => a97) (fun _ => a98) (fun _ => a99)
    (fun _ => a100) (fun _ => a101) (fun _ => a102) (fun _ => a103) (fun _ => a104) (fun _ => a105) (fun _ => a106) (fun _ => a107) (fun _ => a108)
    (fun _ => a109) (fun _ => a110) (fun _ => a111) (fun _ => a112) (fun _ => a113) (fun _ => a114) (fun _ => a115) (fun _ => a116) (fun _ => a117)
    (fun _ => a118) (fun _ => a119) (fun _ => a120) (fun _ => a121) (fun _ => a122) (fun _ => a123) (fun _ => a124) (fun _ => a125) (fun _ => a126)
    (fun _ => a127) (fun _ => z)) = true :=
  arms (Q := fun x w => q x w = true) hx (by simpa only [Bool.and_eq_true] using h)

end Cert.Tables
-- ==== Proof.Value.Tables.Perm.lean ====
/-
# The table of the signed permutation
-/
module

public import proofs.«01_k».proof.Proof.Value.Tables.Arms
public import proofs.«01_k».proof.Proof.Value.Tables.Words

@[expose] public section

namespace Cert.Tables

open Cert.KernelIdeal

/-- The column of a word in the lower or the upper half of a row, as the digits give it. -/
theorem e {w : BitVec 32} {r j : ℕ} (h : (w == pmW r j) = true) : w = pmW r (0 * 128 + j) := by
  rw [Nat.zero_mul, Nat.zero_add]; exact eq_of_beq h
theorem f {w : BitVec 32} {r j : ℕ} (h : (w == pmW r (128 + j)) = true) : w = pmW r (1 * 128 + j) := by
  rw [Nat.one_mul]; exact eq_of_beq h

/- The 512 matches of the table, two a row. -/

theorem q0 (i) : A 0 i (lit2t0_0 i) := armsB (lo 0) (md i)
theorem q1 (i) : B 0 i (lit2t0_1 i) := armsB (hi 0) (md i)
theorem q2 (i) : A 1 i (lit2t0_2 i) := armsB (lo 1) (md i)
theorem q3 (i) : B 1 i (lit2t0_3 i) := armsB (hi 1) (md i)
theorem q4 (i) : A 2 i (lit2t0_4 i) := armsB (lo 2) (md i)
theorem q5 (i) : B 2 i (lit2t0_5 i) := armsB (hi 2) (md i)
theorem q6 (i) : A 3 i (lit2t0_6 i) := armsB (lo 3) (md i)
theorem q7 (i) : B 3 i (lit2t0_7 i) := armsB (hi 3) (md i)
theorem q8 (i) : A 4 i (lit2t0_8 i) := armsB (lo 4) (md i)
theorem q9 (i) : B 4 i (lit2t0_9 i) := armsB (hi 4) (md i)
theorem q10 (i) : A 5 i (lit2t0_10 i) := armsB (lo 5) (md i)
theorem q11 (i) : B 5 i (lit2t0_11 i) := armsB (hi 5) (md i)
theorem q12 (i) : A 6 i (lit2t0_12 i) := armsB (lo 6) (md i)
theorem q13 (i) : B 6 i (lit2t0_13 i) := armsB (hi 6) (md i)
theorem q14 (i) : A 7 i (lit2t0_14 i) := armsB (lo 7) (md i)
theorem q15 (i) : B 7 i (lit2t0_15 i) := armsB (hi 7) (md i)
theorem q16 (i) : A 8 i (lit2t0_16 i) := armsB (lo 8) (md i)
theorem q17 (i) : B 8 i (lit2t0_17 i) := armsB (hi 8) (md i)
theorem q18 (i) : A 9 i (lit2t0_18 i) := armsB (lo 9) (md i)
theorem q19 (i) : B 9 i (lit2t0_19 i) := armsB (hi 9) (md i)
theorem q20 (i) : A 10 i (lit2t0_20 i) := armsB (lo 10) (md i)
theorem q21 (i) : B 10 i (lit2t0_21 i) := armsB (hi 10) (md i)
theorem q22 (i) : A 11 i (lit2t0_22 i) := armsB (lo 11) (md i)
theorem q23 (i) : B 11 i (lit2t0_23 i) := armsB (hi 11) (md i)
theorem q24 (i) : A 12 i (lit2t0_24 i) := armsB (lo 12) (md i)
theorem q25 (i) : B 12 i (lit2t0_25 i) := armsB (hi 12) (md i)
theorem q26 (i) : A 13 i (lit2t0_26 i) := armsB (lo 13) (md i)
theorem q27 (i) : B 13 i (lit2t0_27 i) := armsB (hi 13) (md i)
theorem q28 (i) : A 14 i (lit2t0_28 i) := armsB (lo 14) (md i)
theorem q29 (i) : B 14 i (lit2t0_29 i) := armsB (hi 14) (md i)
theorem q30 (i) : A 15 i (lit2t0_30 i) := armsB (lo 15) (md i)
theorem q31 (i) : B 15 i (lit2t0_31 i) := armsB (hi 15) (md i)
theorem q32 (i) : A 16 i (lit2t0_32 i) := armsB (lo 16) (md i)
theorem q33 (i) : B 16 i (lit2t0_33 i) := armsB (hi 16) (md i)
theorem q34 (i) : A 17 i (lit2t0_34 i) := armsB (lo 17) (md i)
theorem q35 (i) : B 17 i (lit2t0_35 i) := armsB (hi 17) (md i)
theorem q36 (i) : A 18 i (lit2t0_36 i) := armsB (lo 18) (md i)
theorem q37 (i) : B 18 i (lit2t0_37 i) := armsB (hi 18) (md i)
theorem q38 (i) : A 19 i (lit2t0_38 i) := armsB (lo 19) (md i)
theorem q39 (i) : B 19 i (lit2t0_39 i) := armsB (hi 19) (md i)
theorem q40 (i) : A 20 i (lit2t0_40 i) := armsB (lo 20) (md i)
theorem q41 (i) : B 20 i (lit2t0_41 i) := armsB (hi 20) (md i)
theorem q42 (i) : A 21 i (lit2t0_42 i) := armsB (lo 21) (md i)
theorem q43 (i) : B 21 i (lit2t0_43 i) := armsB (hi 21) (md i)
theorem q44 (i) : A 22 i (lit2t0_44 i) := armsB (lo 22) (md i)
theorem q45 (i) : B 22 i (lit2t0_45 i) := armsB (hi 22) (md i)
theorem q46 (i) : A 23 i (lit2t0_46 i) := armsB (lo 23) (md i)
theorem q47 (i) : B 23 i (lit2t0_47 i) := armsB (hi 23) (md i)
theorem q48 (i) : A 24 i (lit2t0_48 i) := armsB (lo 24) (md i)
theorem q49 (i) : B 24 i (lit2t0_49 i) := armsB (hi 24) (md i)
theorem q50 (i) : A 25 i (lit2t0_50 i) := armsB (lo 25) (md i)
theorem q51 (i) : B 25 i (lit2t0_51 i) := armsB (hi 25) (md i)
theorem q52 (i) : A 26 i (lit2t0_52 i) := armsB (lo 26) (md i)
theorem q53 (i) : B 26 i (lit2t0_53 i) := armsB (hi 26) (md i)
theorem q54 (i) : A 27 i (lit2t0_54 i) := armsB (lo 27) (md i)
theorem q55 (i) : B 27 i (lit2t0_55 i) := armsB (hi 27) (md i)
theorem q56 (i) : A 28 i (lit2t0_56 i) := armsB (lo 28) (md i)
theorem q57 (i) : B 28 i (lit2t0_57 i) := armsB (hi 28) (md i)
theorem q58 (i) : A 29 i (lit2t0_58 i) := armsB (lo 29) (md i)
theorem q59 (i) : B 29 i (lit2t0_59 i) := armsB (hi 29) (md i)
theorem q60 (i) : A 30 i (lit2t0_60 i) := armsB (lo 30) (md i)
theorem q61 (i) : B 30 i (lit2t0_61 i) := armsB (hi 30) (md i)
theorem q62 (i) : A 31 i (lit2t0_62 i) := armsB (lo 31) (md i)
theorem q63 (i) : B 31 i (lit2t0_63 i) := armsB (hi 31) (md i)
theorem q64 (i) : A 32 i (lit2t0_64 i) := armsB (lo 32) (md i)
theorem q65 (i) : B 32 i (lit2t0_65 i) := armsB (hi 32) (md i)
theorem q66 (i) : A 33 i (lit2t0_66 i) := armsB (lo 33) (md i)
theorem q67 (i) : B 33 i (lit2t0_67 i) := armsB (hi 33) (md i)
theorem q68 (i) : A 34 i (lit2t0_68 i) := armsB (lo 34) (md i)
theorem q69 (i) : B 34 i (lit2t0_69 i) := armsB (hi 34) (md i)
theorem q70 (i) : A 35 i (lit2t0_70 i) := armsB (lo 35) (md i)
theorem q71 (i) : B 35 i (lit2t0_71 i) := armsB (hi 35) (md i)
theorem q72 (i) : A 36 i (lit2t0_72 i) := armsB (lo 36) (md i)
theorem q73 (i) : B 36 i (lit2t0_73 i) := armsB (hi 36) (md i)
theorem q74 (i) : A 37 i (lit2t0_74 i) := armsB (lo 37) (md i)
theorem q75 (i) : B 37 i (lit2t0_75 i) := armsB (hi 37) (md i)
theorem q76 (i) : A 38 i (lit2t0_76 i) := armsB (lo 38) (md i)
theorem q77 (i) : B 38 i (lit2t0_77 i) := armsB (hi 38) (md i)
theorem q78 (i) : A 39 i (lit2t0_78 i) := armsB (lo 39) (md i)
theorem q79 (i) : B 39 i (lit2t0_79 i) := armsB (hi 39) (md i)
theorem q80 (i) : A 40 i (lit2t0_80 i) := armsB (lo 40) (md i)
theorem q81 (i) : B 40 i (lit2t0_81 i) := armsB (hi 40) (md i)
theorem q82 (i) : A 41 i (lit2t0_82 i) := armsB (lo 41) (md i)
theorem q83 (i) : B 41 i (lit2t0_83 i) := armsB (hi 41) (md i)
theorem q84 (i) : A 42 i (lit2t0_84 i) := armsB (lo 42) (md i)
theorem q85 (i) : B 42 i (lit2t0_85 i) := armsB (hi 42) (md i)
theorem q86 (i) : A 43 i (lit2t0_86 i) := armsB (lo 43) (md i)
theorem q87 (i) : B 43 i (lit2t0_87 i) := armsB (hi 43) (md i)
theorem q88 (i) : A 44 i (lit2t0_88 i) := armsB (lo 44) (md i)
theorem q89 (i) : B 44 i (lit2t0_89 i) := armsB (hi 44) (md i)
theorem q90 (i) : A 45 i (lit2t0_90 i) := armsB (lo 45) (md i)
theorem q91 (i) : B 45 i (lit2t0_91 i) := armsB (hi 45) (md i)
theorem q92 (i) : A 46 i (lit2t0_92 i) := armsB (lo 46) (md i)
theorem q93 (i) : B 46 i (lit2t0_93 i) := armsB (hi 46) (md i)
theorem q94 (i) : A 47 i (lit2t0_94 i) := armsB (lo 47) (md i)
theorem q95 (i) : B 47 i (lit2t0_95 i) := armsB (hi 47) (md i)
theorem q96 (i) : A 48 i (lit2t0_96 i) := armsB (lo 48) (md i)
theorem q97 (i) : B 48 i (lit2t0_97 i) := armsB (hi 48) (md i)
theorem q98 (i) : A 49 i (lit2t0_98 i) := armsB (lo 49) (md i)
theorem q99 (i) : B 49 i (lit2t0_99 i) := armsB (hi 49) (md i)
theorem q100 (i) : A 50 i (lit2t0_100 i) := armsB (lo 50) (md i)
theorem q101 (i) : B 50 i (lit2t0_101 i) := armsB (hi 50) (md i)
theorem q102 (i) : A 51 i (lit2t0_102 i) := armsB (lo 51) (md i)
theorem q103 (i) : B 51 i (lit2t0_103 i) := armsB (hi 51) (md i)
theorem q104 (i) : A 52 i (lit2t0_104 i) := armsB (lo 52) (md i)
theorem q105 (i) : B 52 i (lit2t0_105 i) := armsB (hi 52) (md i)
theorem q106 (i) : A 53 i (lit2t0_106 i) := armsB (lo 53) (md i)
theorem q107 (i) : B 53 i (lit2t0_107 i) := armsB (hi 53) (md i)
theorem q108 (i) : A 54 i (lit2t0_108 i) := armsB (lo 54) (md i)
theorem q109 (i) : B 54 i (lit2t0_109 i) := armsB (hi 54) (md i)
theorem q110 (i) : A 55 i (lit2t0_110 i) := armsB (lo 55) (md i)
theorem q111 (i) : B 55 i (lit2t0_111 i) := armsB (hi 55) (md i)
theorem q112 (i) : A 56 i (lit2t0_112 i) := armsB (lo 56) (md i)
theorem q113 (i) : B 56 i (lit2t0_113 i) := armsB (hi 56) (md i)
theorem q114 (i) : A 57 i (lit2t0_114 i) := armsB (lo 57) (md i)
theorem q115 (i) : B 57 i (lit2t0_115 i) := armsB (hi 57) (md i)
theorem q116 (i) : A 58 i (lit2t0_116 i) := armsB (lo 58) (md i)
theorem q117 (i) : B 58 i (lit2t0_117 i) := armsB (hi 58) (md i)
theorem q118 (i) : A 59 i (lit2t0_118 i) := armsB (lo 59) (md i)
theorem q119 (i) : B 59 i (lit2t0_119 i) := armsB (hi 59) (md i)
theorem q120 (i) : A 60 i (lit2t0_120 i) := armsB (lo 60) (md i)
theorem q121 (i) : B 60 i (lit2t0_121 i) := armsB (hi 60) (md i)
theorem q122 (i) : A 61 i (lit2t0_122 i) := armsB (lo 61) (md i)
theorem q123 (i) : B 61 i (lit2t0_123 i) := armsB (hi 61) (md i)
theorem q124 (i) : A 62 i (lit2t0_124 i) := armsB (lo 62) (md i)
theorem q125 (i) : B 62 i (lit2t0_125 i) := armsB (hi 62) (md i)
theorem q126 (i) : A 63 i (lit2t0_126 i) := armsB (lo 63) (md i)
theorem q127 (i) : B 63 i (lit2t0_127 i) := armsB (hi 63) (md i)
theorem q128 (i) : A 64 i (lit2t0_128 i) := armsB (lo 64) (md i)
theorem q129 (i) : B 64 i (lit2t0_129 i) := armsB (hi 64) (md i)
theorem q130 (i) : A 65 i (lit2t0_130 i) := armsB (lo 65) (md i)
theorem q131 (i) : B 65 i (lit2t0_131 i) := armsB (hi 65) (md i)
theorem q132 (i) : A 66 i (lit2t0_132 i) := armsB (lo 66) (md i)
theorem q133 (i) : B 66 i (lit2t0_133 i) := armsB (hi 66) (md i)
theorem q134 (i) : A 67 i (lit2t0_134 i) := armsB (lo 67) (md i)
theorem q135 (i) : B 67 i (lit2t0_135 i) := armsB (hi 67) (md i)
theorem q136 (i) : A 68 i (lit2t0_136 i) := armsB (lo 68) (md i)
theorem q137 (i) : B 68 i (lit2t0_137 i) := armsB (hi 68) (md i)
theorem q138 (i) : A 69 i (lit2t0_138 i) := armsB (lo 69) (md i)
theorem q139 (i) : B 69 i (lit2t0_139 i) := armsB (hi 69) (md i)
theorem q140 (i) : A 70 i (lit2t0_140 i) := armsB (lo 70) (md i)
theorem q141 (i) : B 70 i (lit2t0_141 i) := armsB (hi 70) (md i)
theorem q142 (i) : A 71 i (lit2t0_142 i) := armsB (lo 71) (md i)
theorem q143 (i) : B 71 i (lit2t0_143 i) := armsB (hi 71) (md i)
theorem q144 (i) : A 72 i (lit2t0_144 i) := armsB (lo 72) (md i)
theorem q145 (i) : B 72 i (lit2t0_145 i) := armsB (hi 72) (md i)
theorem q146 (i) : A 73 i (lit2t0_146 i) := armsB (lo 73) (md i)
theorem q147 (i) : B 73 i (lit2t0_147 i) := armsB (hi 73) (md i)
theorem q148 (i) : A 74 i (lit2t0_148 i) := armsB (lo 74) (md i)
theorem q149 (i) : B 74 i (lit2t0_149 i) := armsB (hi 74) (md i)
theorem q150 (i) : A 75 i (lit2t0_150 i) := armsB (lo 75) (md i)
theorem q151 (i) : B 75 i (lit2t0_151 i) := armsB (hi 75) (md i)
theorem q152 (i) : A 76 i (lit2t0_152 i) := armsB (lo 76) (md i)
theorem q153 (i) : B 76 i (lit2t0_153 i) := armsB (hi 76) (md i)
theorem q154 (i) : A 77 i (lit2t0_154 i) := armsB (lo 77) (md i)
theorem q155 (i) : B 77 i (lit2t0_155 i) := armsB (hi 77) (md i)
theorem q156 (i) : A 78 i (lit2t0_156 i) := armsB (lo 78) (md i)
theorem q157 (i) : B 78 i (lit2t0_157 i) := armsB (hi 78) (md i)
theorem q158 (i) : A 79 i (lit2t0_158 i) := armsB (lo 79) (md i)
theorem q159 (i) : B 79 i (lit2t0_159 i) := armsB (hi 79) (md i)
theorem q160 (i) : A 80 i (lit2t0_160 i) := armsB (lo 80) (md i)
theorem q161 (i) : B 80 i (lit2t0_161 i) := armsB (hi 80) (md i)
theorem q162 (i) : A 81 i (lit2t0_162 i) := armsB (lo 81) (md i)
theorem q163 (i) : B 81 i (lit2t0_163 i) := armsB (hi 81) (md i)
theorem q164 (i) : A 82 i (lit2t0_164 i) := armsB (lo 82) (md i)
theorem q165 (i) : B 82 i (lit2t0_165 i) := armsB (hi 82) (md i)
theorem q166 (i) : A 83 i (lit2t0_166 i) := armsB (lo 83) (md i)
theorem q167 (i) : B 83 i (lit2t0_167 i) := armsB (hi 83) (md i)
theorem q168 (i) : A 84 i (lit2t0_168 i) := armsB (lo 84) (md i)
theorem q169 (i) : B 84 i (lit2t0_169 i) := armsB (hi 84) (md i)
theorem q170 (i) : A 85 i (lit2t0_170 i) := armsB (lo 85) (md i)
theorem q171 (i) : B 85 i (lit2t0_171 i) := armsB (hi 85) (md i)
theorem q172 (i) : A 86 i (lit2t0_172 i) := armsB (lo 86) (md i)
theorem q173 (i) : B 86 i (lit2t0_173 i) := armsB (hi 86) (md i)
theorem q174 (i) : A 87 i (lit2t0_174 i) := armsB (lo 87) (md i)
theorem q175 (i) : B 87 i (lit2t0_175 i) := armsB (hi 87) (md i)
theorem q176 (i) : A 88 i (lit2t0_176 i) := armsB (lo 88) (md i)
theorem q177 (i) : B 88 i (lit2t0_177 i) := armsB (hi 88) (md i)
theorem q178 (i) : A 89 i (lit2t0_178 i) := armsB (lo 89) (md i)
theorem q179 (i) : B 89 i (lit2t0_179 i) := armsB (hi 89) (md i)
theorem q180 (i) : A 90 i (lit2t0_180 i) := armsB (lo 90) (md i)
theorem q181 (i) : B 90 i (lit2t0_181 i) := armsB (hi 90) (md i)
theorem q182 (i) : A 91 i (lit2t0_182 i) := armsB (lo 91) (md i)
theorem q183 (i) : B 91 i (lit2t0_183 i) := armsB (hi 91) (md i)
theorem q184 (i) : A 92 i (lit2t0_184 i) := armsB (lo 92) (md i)
theorem q185 (i) : B 92 i (lit2t0_185 i) := armsB (hi 92) (md i)
theorem q186 (i) : A 93 i (lit2t0_186 i) := armsB (lo 93) (md i)
theorem q187 (i) : B 93 i (lit2t0_187 i) := armsB (hi 93) (md i)
theorem q188 (i) : A 94 i (lit2t0_188 i) := armsB (lo 94) (md i)
theorem q189 (i) : B 94 i (lit2t0_189 i) := armsB (hi 94) (md i)
theorem q190 (i) : A 95 i (lit2t0_190 i) := armsB (lo 95) (md i)
theorem q191 (i) : B 95 i (lit2t0_191 i) := armsB (hi 95) (md i)
theorem q192 (i) : A 96 i (lit2t0_192 i) := armsB (lo 96) (md i)
theorem q193 (i) : B 96 i (lit2t0_193 i) := armsB (hi 96) (md i)
theorem q194 (i) : A 97 i (lit2t0_194 i) := armsB (lo 97) (md i)
theorem q195 (i) : B 97 i (lit2t0_195 i) := armsB (hi 97) (md i)
theorem q196 (i) : A 98 i (lit2t0_196 i) := armsB (lo 98) (md i)
theorem q197 (i) : B 98 i (lit2t0_197 i) := armsB (hi 98) (md i)
theorem q198 (i) : A 99 i (lit2t0_198 i) := armsB (lo 99) (md i)
theorem q199 (i) : B 99 i (lit2t0_199 i) := armsB (hi 99) (md i)
theorem q200 (i) : A 100 i (lit2t0_200 i) := armsB (lo 100) (md i)
theorem q201 (i) : B 100 i (lit2t0_201 i) := armsB (hi 100) (md i)
theorem q202 (i) : A 101 i (lit2t0_202 i) := armsB (lo 101) (md i)
theorem q203 (i) : B 101 i (lit2t0_203 i) := armsB (hi 101) (md i)
theorem q204 (i) : A 102 i (lit2t0_204 i) := armsB (lo 102) (md i)
theorem q205 (i) : B 102 i (lit2t0_205 i) := armsB (hi 102) (md i)
theorem q206 (i) : A 103 i (lit2t0_206 i) := armsB (lo 103) (md i)
theorem q207 (i) : B 103 i (lit2t0_207 i) := armsB (hi 103) (md i)
theorem q208 (i) : A 104 i (lit2t0_208 i) := armsB (lo 104) (md i)
theorem q209 (i) : B 104 i (lit2t0_209 i) := armsB (hi 104) (md i)
theorem q210 (i) : A 105 i (lit2t0_210 i) := armsB (lo 105) (md i)
theorem q211 (i) : B 105 i (lit2t0_211 i) := armsB (hi 105) (md i)
theorem q212 (i) : A 106 i (lit2t0_212 i) := armsB (lo 106) (md i)
theorem q213 (i) : B 106 i (lit2t0_213 i) := armsB (hi 106) (md i)
theorem q214 (i) : A 107 i (lit2t0_214 i) := armsB (lo 107) (md i)
theorem q215 (i) : B 107 i (lit2t0_215 i) := armsB (hi 107) (md i)
theorem q216 (i) : A 108 i (lit2t0_216 i) := armsB (lo 108) (md i)
theorem q217 (i) : B 108 i (lit2t0_217 i) := armsB (hi 108) (md i)
theorem q218 (i) : A 109 i (lit2t0_218 i) := armsB (lo 109) (md i)
theorem q219 (i) : B 109 i (lit2t0_219 i) := armsB (hi 109) (md i)
theorem q220 (i) : A 110 i (lit2t0_220 i) := armsB (lo 110) (md i)
theorem q221 (i) : B 110 i (lit2t0_221 i) := armsB (hi 110) (md i)
theorem q222 (i) : A 111 i (lit2t0_222 i) := armsB (lo 111) (md i)
theorem q223 (i) : B 111 i (lit2t0_223 i) := armsB (hi 111) (md i)
theorem q224 (i) : A 112 i (lit2t0_224 i) := armsB (lo 112) (md i)
theorem q225 (i) : B 112 i (lit2t0_225 i) := armsB (hi 112) (md i)
theorem q226 (i) : A 113 i (lit2t0_226 i) := armsB (lo 113) (md i)
theorem q227 (i) : B 113 i (lit2t0_227 i) := armsB (hi 113) (md i)
theorem q228 (i) : A 114 i (lit2t0_228 i) := armsB (lo 114) (md i)
theorem q229 (i) : B 114 i (lit2t0_229 i) := armsB (hi 114) (md i)
theorem q230 (i) : A 115 i (lit2t0_230 i) := armsB (lo 115) (md i)
theorem q231 (i) : B 115 i (lit2t0_231 i) := armsB (hi 115) (md i)
theorem q232 (i) : A 116 i (lit2t0_232 i) := armsB (lo 116) (md i)
theorem q233 (i) : B 116 i (lit2t0_233 i) := armsB (hi 116) (md i)
theorem q234 (i) : A 117 i (lit2t0_234 i) := armsB (lo 117) (md i)
theorem q235 (i) : B 117 i (lit2t0_235 i) := armsB (hi 117) (md i)
theorem q236 (i) : A 118 i (lit2t0_236 i) := armsB (lo 118) (md i)
theorem q237 (i) : B 118 i (lit2t0_237 i) := armsB (hi 118) (md i)
theorem q238 (i) : A 119 i (lit2t0_238 i) := armsB (lo 119) (md i)
theorem q239 (i) : B 119 i (lit2t0_239 i) := armsB (hi 119) (md i)
theorem q240 (i) : A 120 i (lit2t0_240 i) := armsB (lo 120) (md i)
theorem q241 (i) : B 120 i (lit2t0_241 i) := armsB (hi 120) (md i)
theorem q242 (i) : A 121 i (lit2t0_242 i) := armsB (lo 121) (md i)
theorem q243 (i) : B 121 i (lit2t0_243 i) := armsB (hi 121) (md i)
theorem q244 (i) : A 122 i (lit2t0_244 i) := armsB (lo 122) (md i)
theorem q245 (i) : B 122 i (lit2t0_245 i) := armsB (hi 122) (md i)
theorem q246 (i) : A 123 i (lit2t0_246 i) := armsB (lo 123) (md i)
theorem q247 (i) : B 123 i (lit2t0_247 i) := armsB (hi 123) (md i)
theorem q248 (i) : A 124 i (lit2t0_248 i) := armsB (lo 124) (md i)
theorem q249 (i) : B 124 i (lit2t0_249 i) := armsB (hi 124) (md i)
theorem q250 (i) : A 125 i (lit2t0_250 i) := armsB (lo 125) (md i)
theorem q251 (i) : B 125 i (lit2t0_251 i) := armsB (hi 125) (md i)
theorem q252 (i) : A 126 i (lit2t0_252 i) := armsB (lo 126) (md i)
theorem q253 (i) : B 126 i (lit2t0_253 i) := armsB (hi 126) (md i)
theorem q254 (i) : A 127 i (lit2t0_254 i) := armsB (lo 127) (md i)
theorem q255 (i) : B 127 i (lit2t0_255 i) := armsB (hi 127) (md i)
theorem q256 (i) : A 128 i (lit2t0_256 i) := armsB (lo 128) (md i)
theorem q257 (i) : B 128 i (lit2t0_257 i) := armsB (hi 128) (md i)
theorem q258 (i) : A 129 i (lit2t0_258 i) := armsB (lo 129) (md i)
theorem q259 (i) : B 129 i (lit2t0_259 i) := armsB (hi 129) (md i)
theorem q260 (i) : A 130 i (lit2t0_260 i) := armsB (lo 130) (md i)
theorem q261 (i) : B 130 i (lit2t0_261 i) := armsB (hi 130) (md i)
theorem q262 (i) : A 131 i (lit2t0_262 i) := armsB (lo 131) (md i)
theorem q263 (i) : B 131 i (lit2t0_263 i) := armsB (hi 131) (md i)
theorem q264 (i) : A 132 i (lit2t0_264 i) := armsB (lo 132) (md i)
theorem q265 (i) : B 132 i (lit2t0_265 i) := armsB (hi 132) (md i)
theorem q266 (i) : A 133 i (lit2t0_266 i) := armsB (lo 133) (md i)
theorem q267 (i) : B 133 i (lit2t0_267 i) := armsB (hi 133) (md i)
theorem q268 (i) : A 134 i (lit2t0_268 i) := armsB (lo 134) (md i)
theorem q269 (i) : B 134 i (lit2t0_269 i) := armsB (hi 134) (md i)
theorem q270 (i) : A 135 i (lit2t0_270 i) := armsB (lo 135) (md i)
theorem q271 (i) : B 135 i (lit2t0_271 i) := armsB (hi 135) (md i)
theorem q272 (i) : A 136 i (lit2t0_272 i) := armsB (lo 136) (md i)
theorem q273 (i) : B 136 i (lit2t0_273 i) := armsB (hi 136) (md i)
theorem q274 (i) : A 137 i (lit2t0_274 i) := armsB (lo 137) (md i)
theorem q275 (i) : B 137 i (lit2t0_275 i) := armsB (hi 137) (md i)
theorem q276 (i) : A 138 i (lit2t0_276 i) := armsB (lo 138) (md i)
theorem q277 (i) : B 138 i (lit2t0_277 i) := armsB (hi 138) (md i)
theorem q278 (i) : A 139 i (lit2t0_278 i) := armsB (lo 139) (md i)
theorem q279 (i) : B 139 i (lit2t0_279 i) := armsB (hi 139) (md i)
theorem q280 (i) : A 140 i (lit2t0_280 i) := armsB (lo 140) (md i)
theorem q281 (i) : B 140 i (lit2t0_281 i) := armsB (hi 140) (md i)
theorem q282 (i) : A 141 i (lit2t0_282 i) := armsB (lo 141) (md i)
theorem q283 (i) : B 141 i (lit2t0_283 i) := armsB (hi 141) (md i)
theorem q284 (i) : A 142 i (lit2t0_284 i) := armsB (lo 142) (md i)
theorem q285 (i) : B 142 i (lit2t0_285 i) := armsB (hi 142) (md i)
theorem q286 (i) : A 143 i (lit2t0_286 i) := armsB (lo 143) (md i)
theorem q287 (i) : B 143 i (lit2t0_287 i) := armsB (hi 143) (md i)
theorem q288 (i) : A 144 i (lit2t0_288 i) := armsB (lo 144) (md i)
theorem q289 (i) : B 144 i (lit2t0_289 i) := armsB (hi 144) (md i)
theorem q290 (i) : A 145 i (lit2t0_290 i) := armsB (lo 145) (md i)
theorem q291 (i) : B 145 i (lit2t0_291 i) := armsB (hi 145) (md i)
theorem q292 (i) : A 146 i (lit2t0_292 i) := armsB (lo 146) (md i)
theorem q293 (i) : B 146 i (lit2t0_293 i) := armsB (hi 146) (md i)
theorem q294 (i) : A 147 i (lit2t0_294 i) := armsB (lo 147) (md i)
theorem q295 (i) : B 147 i (lit2t0_295 i) := armsB (hi 147) (md i)
theorem q296 (i) : A 148 i (lit2t0_296 i) := armsB (lo 148) (md i)
theorem q297 (i) : B 148 i (lit2t0_297 i) := armsB (hi 148) (md i)
theorem q298 (i) : A 149 i (lit2t0_298 i) := armsB (lo 149) (md i)
theorem q299 (i) : B 149 i (lit2t0_299 i) := armsB (hi 149) (md i)
theorem q300 (i) : A 150 i (lit2t0_300 i) := armsB (lo 150) (md i)
theorem q301 (i) : B 150 i (lit2t0_301 i) := armsB (hi 150) (md i)
theorem q302 (i) : A 151 i (lit2t0_302 i) := armsB (lo 151) (md i)
theorem q303 (i) : B 151 i (lit2t0_303 i) := armsB (hi 151) (md i)
theorem q304 (i) : A 152 i (lit2t0_304 i) := armsB (lo 152) (md i)
theorem q305 (i) : B 152 i (lit2t0_305 i) := armsB (hi 152) (md i)
theorem q306 (i) : A 153 i (lit2t0_306 i) := armsB (lo 153) (md i)
theorem q307 (i) : B 153 i (lit2t0_307 i) := armsB (hi 153) (md i)
theorem q308 (i) : A 154 i (lit2t0_308 i) := armsB (lo 154) (md i)
theorem q309 (i) : B 154 i (lit2t0_309 i) := armsB (hi 154) (md i)
theorem q310 (i) : A 155 i (lit2t0_310 i) := armsB (lo 155) (md i)
theorem q311 (i) : B 155 i (lit2t0_311 i) := armsB (hi 155) (md i)
theorem q312 (i) : A 156 i (lit2t0_312 i) := armsB (lo 156) (md i)
theorem q313 (i) : B 156 i (lit2t0_313 i) := armsB (hi 156) (md i)
theorem q314 (i) : A 157 i (lit2t0_314 i) := armsB (lo 157) (md i)
theorem q315 (i) : B 157 i (lit2t0_315 i) := armsB (hi 157) (md i)
theorem q316 (i) : A 158 i (lit2t0_316 i) := armsB (lo 158) (md i)
theorem q317 (i) : B 158 i (lit2t0_317 i) := armsB (hi 158) (md i)
theorem q318 (i) : A 159 i (lit2t0_318 i) := armsB (lo 159) (md i)
theorem q319 (i) : B 159 i (lit2t0_319 i) := armsB (hi 159) (md i)
theorem q320 (i) : A 160 i (lit2t0_320 i) := armsB (lo 160) (md i)
theorem q321 (i) : B 160 i (lit2t0_321 i) := armsB (hi 160) (md i)
theorem q322 (i) : A 161 i (lit2t0_322 i) := armsB (lo 161) (md i)
theorem q323 (i) : B 161 i (lit2t0_323 i) := armsB (hi 161) (md i)
theorem q324 (i) : A 162 i (lit2t0_324 i) := armsB (lo 162) (md i)
theorem q325 (i) : B 162 i (lit2t0_325 i) := armsB (hi 162) (md i)
theorem q326 (i) : A 163 i (lit2t0_326 i) := armsB (lo 163) (md i)
theorem q327 (i) : B 163 i (lit2t0_327 i) := armsB (hi 163) (md i)
theorem q328 (i) : A 164 i (lit2t0_328 i) := armsB (lo 164) (md i)
theorem q329 (i) : B 164 i (lit2t0_329 i) := armsB (hi 164) (md i)
theorem q330 (i) : A 165 i (lit2t0_330 i) := armsB (lo 165) (md i)
theorem q331 (i) : B 165 i (lit2t0_331 i) := armsB (hi 165) (md i)
theorem q332 (i) : A 166 i (lit2t0_332 i) := armsB (lo 166) (md i)
theorem q333 (i) : B 166 i (lit2t0_333 i) := armsB (hi 166) (md i)
theorem q334 (i) : A 167 i (lit2t0_334 i) := armsB (lo 167) (md i)
theorem q335 (i) : B 167 i (lit2t0_335 i) := armsB (hi 167) (md i)
theorem q336 (i) : A 168 i (lit2t0_336 i) := armsB (lo 168) (md i)
theorem q337 (i) : B 168 i (lit2t0_337 i) := armsB (hi 168) (md i)
theorem q338 (i) : A 169 i (lit2t0_338 i) := armsB (lo 169) (md i)
theorem q339 (i) : B 169 i (lit2t0_339 i) := armsB (hi 169) (md i)
theorem q340 (i) : A 170 i (lit2t0_340 i) := armsB (lo 170) (md i)
theorem q341 (i) : B 170 i (lit2t0_341 i) := armsB (hi 170) (md i)
theorem q342 (i) : A 171 i (lit2t0_342 i) := armsB (lo 171) (md i)
theorem q343 (i) : B 171 i (lit2t0_343 i) := armsB (hi 171) (md i)
theorem q344 (i) : A 172 i (lit2t0_344 i) := armsB (lo 172) (md i)
theorem q345 (i) : B 172 i (lit2t0_345 i) := armsB (hi 172) (md i)
theorem q346 (i) : A 173 i (lit2t0_346 i) := armsB (lo 173) (md i)
theorem q347 (i) : B 173 i (lit2t0_347 i) := armsB (hi 173) (md i)
theorem q348 (i) : A 174 i (lit2t0_348 i) := armsB (lo 174) (md i)
theorem q349 (i) : B 174 i (lit2t0_349 i) := armsB (hi 174) (md i)
theorem q350 (i) : A 175 i (lit2t0_350 i) := armsB (lo 175) (md i)
theorem q351 (i) : B 175 i (lit2t0_351 i) := armsB (hi 175) (md i)
theorem q352 (i) : A 176 i (lit2t0_352 i) := armsB (lo 176) (md i)
theorem q353 (i) : B 176 i (lit2t0_353 i) := armsB (hi 176) (md i)
theorem q354 (i) : A 177 i (lit2t0_354 i) := armsB (lo 177) (md i)
theorem q355 (i) : B 177 i (lit2t0_355 i) := armsB (hi 177) (md i)
theorem q356 (i) : A 178 i (lit2t0_356 i) := armsB (lo 178) (md i)
theorem q357 (i) : B 178 i (lit2t0_357 i) := armsB (hi 178) (md i)
theorem q358 (i) : A 179 i (lit2t0_358 i) := armsB (lo 179) (md i)
theorem q359 (i) : B 179 i (lit2t0_359 i) := armsB (hi 179) (md i)
theorem q360 (i) : A 180 i (lit2t0_360 i) := armsB (lo 180) (md i)
theorem q361 (i) : B 180 i (lit2t0_361 i) := armsB (hi 180) (md i)
theorem q362 (i) : A 181 i (lit2t0_362 i) := armsB (lo 181) (md i)
theorem q363 (i) : B 181 i (lit2t0_363 i) := armsB (hi 181) (md i)
theorem q364 (i) : A 182 i (lit2t0_364 i) := armsB (lo 182) (md i)
theorem q365 (i) : B 182 i (lit2t0_365 i) := armsB (hi 182) (md i)
theorem q366 (i) : A 183 i (lit2t0_366 i) := armsB (lo 183) (md i)
theorem q367 (i) : B 183 i (lit2t0_367 i) := armsB (hi 183) (md i)
theorem q368 (i) : A 184 i (lit2t0_368 i) := armsB (lo 184) (md i)
theorem q369 (i) : B 184 i (lit2t0_369 i) := armsB (hi 184) (md i)
theorem q370 (i) : A 185 i (lit2t0_370 i) := armsB (lo 185) (md i)
theorem q371 (i) : B 185 i (lit2t0_371 i) := armsB (hi 185) (md i)
theorem q372 (i) : A 186 i (lit2t0_372 i) := armsB (lo 186) (md i)
theorem q373 (i) : B 186 i (lit2t0_373 i) := armsB (hi 186) (md i)
theorem q374 (i) : A 187 i (lit2t0_374 i) := armsB (lo 187) (md i)
theorem q375 (i) : B 187 i (lit2t0_375 i) := armsB (hi 187) (md i)
theorem q376 (i) : A 188 i (lit2t0_376 i) := armsB (lo 188) (md i)
theorem q377 (i) : B 188 i (lit2t0_377 i) := armsB (hi 188) (md i)
theorem q378 (i) : A 189 i (lit2t0_378 i) := armsB (lo 189) (md i)
theorem q379 (i) : B 189 i (lit2t0_379 i) := armsB (hi 189) (md i)
theorem q380 (i) : A 190 i (lit2t0_380 i) := armsB (lo 190) (md i)
theorem q381 (i) : B 190 i (lit2t0_381 i) := armsB (hi 190) (md i)
theorem q382 (i) : A 191 i (lit2t0_382 i) := armsB (lo 191) (md i)
theorem q383 (i) : B 191 i (lit2t0_383 i) := armsB (hi 191) (md i)
theorem q384 (i) : A 192 i (lit2t0_384 i) := armsB (lo 192) (md i)
theorem q385 (i) : B 192 i (lit2t0_385 i) := armsB (hi 192) (md i)
theorem q386 (i) : A 193 i (lit2t0_386 i) := armsB (lo 193) (md i)
theorem q387 (i) : B 193 i (lit2t0_387 i) := armsB (hi 193) (md i)
theorem q388 (i) : A 194 i (lit2t0_388 i) := armsB (lo 194) (md i)
theorem q389 (i) : B 194 i (lit2t0_389 i) := armsB (hi 194) (md i)
theorem q390 (i) : A 195 i (lit2t0_390 i) := armsB (lo 195) (md i)
theorem q391 (i) : B 195 i (lit2t0_391 i) := armsB (hi 195) (md i)
theorem q392 (i) : A 196 i (lit2t0_392 i) := armsB (lo 196) (md i)
theorem q393 (i) : B 196 i (lit2t0_393 i) := armsB (hi 196) (md i)
theorem q394 (i) : A 197 i (lit2t0_394 i) := armsB (lo 197) (md i)
theorem q395 (i) : B 197 i (lit2t0_395 i) := armsB (hi 197) (md i)
theorem q396 (i) : A 198 i (lit2t0_396 i) := armsB (lo 198) (md i)
theorem q397 (i) : B 198 i (lit2t0_397 i) := armsB (hi 198) (md i)
theorem q398 (i) : A 199 i (lit2t0_398 i) := armsB (lo 199) (md i)
theorem q399 (i) : B 199 i (lit2t0_399 i) := armsB (hi 199) (md i)
theorem q400 (i) : A 200 i (lit2t0_400 i) := armsB (lo 200) (md i)
theorem q401 (i) : B 200 i (lit2t0_401 i) := armsB (hi 200) (md i)
theorem q402 (i) : A 201 i (lit2t0_402 i) := armsB (lo 201) (md i)
theorem q403 (i) : B 201 i (lit2t0_403 i) := armsB (hi 201) (md i)
theorem q404 (i) : A 202 i (lit2t0_404 i) := armsB (lo 202) (md i)
theorem q405 (i) : B 202 i (lit2t0_405 i) := armsB (hi 202) (md i)
theorem q406 (i) : A 203 i (lit2t0_406 i) := armsB (lo 203) (md i)
theorem q407 (i) : B 203 i (lit2t0_407 i) := armsB (hi 203) (md i)
theorem q408 (i) : A 204 i (lit2t0_408 i) := armsB (lo 204) (md i)
theorem q409 (i) : B 204 i (lit2t0_409 i) := armsB (hi 204) (md i)
theorem q410 (i) : A 205 i (lit2t0_410 i) := armsB (lo 205) (md i)
theorem q411 (i) : B 205 i (lit2t0_411 i) := armsB (hi 205) (md i)
theorem q412 (i) : A 206 i (lit2t0_412 i) := armsB (lo 206) (md i)
theorem q413 (i) : B 206 i (lit2t0_413 i) := armsB (hi 206) (md i)
theorem q414 (i) : A 207 i (lit2t0_414 i) := armsB (lo 207) (md i)
theorem q415 (i) : B 207 i (lit2t0_415 i) := armsB (hi 207) (md i)
theorem q416 (i) : A 208 i (lit2t0_416 i) := armsB (lo 208) (md i)
theorem q417 (i) : B 208 i (lit2t0_417 i) := armsB (hi 208) (md i)
theorem q418 (i) : A 209 i (lit2t0_418 i) := armsB (lo 209) (md i)
theorem q419 (i) : B 209 i (lit2t0_419 i) := armsB (hi 209) (md i)
theorem q420 (i) : A 210 i (lit2t0_420 i) := armsB (lo 210) (md i)
theorem q421 (i) : B 210 i (lit2t0_421 i) := armsB (hi 210) (md i)
theorem q422 (i) : A 211 i (lit2t0_422 i) := armsB (lo 211) (md i)
theorem q423 (i) : B 211 i (lit2t0_423 i) := armsB (hi 211) (md i)
theorem q424 (i) : A 212 i (lit2t0_424 i) := armsB (lo 212) (md i)
theorem q425 (i) : B 212 i (lit2t0_425 i) := armsB (hi 212) (md i)
theorem q426 (i) : A 213 i (lit2t0_426 i) := armsB (lo 213) (md i)
theorem q427 (i) : B 213 i (lit2t0_427 i) := armsB (hi 213) (md i)
theorem q428 (i) : A 214 i (lit2t0_428 i) := armsB (lo 214) (md i)
theorem q429 (i) : B 214 i (lit2t0_429 i) := armsB (hi 214) (md i)
theorem q430 (i) : A 215 i (lit2t0_430 i) := armsB (lo 215) (md i)
theorem q431 (i) : B 215 i (lit2t0_431 i) := armsB (hi 215) (md i)
theorem q432 (i) : A 216 i (lit2t0_432 i) := armsB (lo 216) (md i)
theorem q433 (i) : B 216 i (lit2t0_433 i) := armsB (hi 216) (md i)
theorem q434 (i) : A 217 i (lit2t0_434 i) := armsB (lo 217) (md i)
theorem q435 (i) : B 217 i (lit2t0_435 i) := armsB (hi 217) (md i)
theorem q436 (i) : A 218 i (lit2t0_436 i) := armsB (lo 218) (md i)
theorem q437 (i) : B 218 i (lit2t0_437 i) := armsB (hi 218) (md i)
theorem q438 (i) : A 219 i (lit2t0_438 i) := armsB (lo 219) (md i)
theorem q439 (i) : B 219 i (lit2t0_439 i) := armsB (hi 219) (md i)
theorem q440 (i) : A 220 i (lit2t0_440 i) := armsB (lo 220) (md i)
theorem q441 (i) : B 220 i (lit2t0_441 i) := armsB (hi 220) (md i)
theorem q442 (i) : A 221 i (lit2t0_442 i) := armsB (lo 221) (md i)
theorem q443 (i) : B 221 i (lit2t0_443 i) := armsB (hi 221) (md i)
theorem q444 (i) : A 222 i (lit2t0_444 i) := armsB (lo 222) (md i)
theorem q445 (i) : B 222 i (lit2t0_445 i) := armsB (hi 222) (md i)
theorem q446 (i) : A 223 i (lit2t0_446 i) := armsB (lo 223) (md i)
theorem q447 (i) : B 223 i (lit2t0_447 i) := armsB (hi 223) (md i)
theorem q448 (i) : A 224 i (lit2t0_448 i) := armsB (lo 224) (md i)
theorem q449 (i) : B 224 i (lit2t0_449 i) := armsB (hi 224) (md i)
theorem q450 (i) : A 225 i (lit2t0_450 i) := armsB (lo 225) (md i)
theorem q451 (i) : B 225 i (lit2t0_451 i) := armsB (hi 225) (md i)
theorem q452 (i) : A 226 i (lit2t0_452 i) := armsB (lo 226) (md i)
theorem q453 (i) : B 226 i (lit2t0_453 i) := armsB (hi 226) (md i)
theorem q454 (i) : A 227 i (lit2t0_454 i) := armsB (lo 227) (md i)
theorem q455 (i) : B 227 i (lit2t0_455 i) := armsB (hi 227) (md i)
theorem q456 (i) : A 228 i (lit2t0_456 i) := armsB (lo 228) (md i)
theorem q457 (i) : B 228 i (lit2t0_457 i) := armsB (hi 228) (md i)
theorem q458 (i) : A 229 i (lit2t0_458 i) := armsB (lo 229) (md i)
theorem q459 (i) : B 229 i (lit2t0_459 i) := armsB (hi 229) (md i)
theorem q460 (i) : A 230 i (lit2t0_460 i) := armsB (lo 230) (md i)
theorem q461 (i) : B 230 i (lit2t0_461 i) := armsB (hi 230) (md i)
theorem q462 (i) : A 231 i (lit2t0_462 i) := armsB (lo 231) (md i)
theorem q463 (i) : B 231 i (lit2t0_463 i) := armsB (hi 231) (md i)
theorem q464 (i) : A 232 i (lit2t0_464 i) := armsB (lo 232) (md i)
theorem q465 (i) : B 232 i (lit2t0_465 i) := armsB (hi 232) (md i)
theorem q466 (i) : A 233 i (lit2t0_466 i) := armsB (lo 233) (md i)
theorem q467 (i) : B 233 i (lit2t0_467 i) := armsB (hi 233) (md i)
theorem q468 (i) : A 234 i (lit2t0_468 i) := armsB (lo 234) (md i)
theorem q469 (i) : B 234 i (lit2t0_469 i) := armsB (hi 234) (md i)
theorem q470 (i) : A 235 i (lit2t0_470 i) := armsB (lo 235) (md i)
theorem q471 (i) : B 235 i (lit2t0_471 i) := armsB (hi 235) (md i)
theorem q472 (i) : A 236 i (lit2t0_472 i) := armsB (lo 236) (md i)
theorem q473 (i) : B 236 i (lit2t0_473 i) := armsB (hi 236) (md i)
theorem q474 (i) : A 237 i (lit2t0_474 i) := armsB (lo 237) (md i)
theorem q475 (i) : B 237 i (lit2t0_475 i) := armsB (hi 237) (md i)
theorem q476 (i) : A 238 i (lit2t0_476 i) := armsB (lo 238) (md i)
theorem q477 (i) : B 238 i (lit2t0_477 i) := armsB (hi 238) (md i)
theorem q478 (i) : A 239 i (lit2t0_478 i) := armsB (lo 239) (md i)
theorem q479 (i) : B 239 i (lit2t0_479 i) := armsB (hi 239) (md i)
theorem q480 (i) : A 240 i (lit2t0_480 i) := armsB (lo 240) (md i)
theorem q481 (i) : B 240 i (lit2t0_481 i) := armsB (hi 240) (md i)
theorem q482 (i) : A 241 i (lit2t0_482 i) := armsB (lo 241) (md i)
theorem q483 (i) : B 241 i (lit2t0_483 i) := armsB (hi 241) (md i)
theorem q484 (i) : A 242 i (lit2t0_484 i) := armsB (lo 242) (md i)
theorem q485 (i) : B 242 i (lit2t0_485 i) := armsB (hi 242) (md i)
theorem q486 (i) : A 243 i (lit2t0_486 i) := armsB (lo 243) (md i)
theorem q487 (i) : B 243 i (lit2t0_487 i) := armsB (hi 243) (md i)
theorem q488 (i) : A 244 i (lit2t0_488 i) := armsB (lo 244) (md i)
theorem q489 (i) : B 244 i (lit2t0_489 i) := armsB (hi 244) (md i)
theorem q490 (i) : A 245 i (lit2t0_490 i) := armsB (lo 245) (md i)
theorem q491 (i) : B 245 i (lit2t0_491 i) := armsB (hi 245) (md i)
theorem q492 (i) : A 246 i (lit2t0_492 i) := armsB (lo 246) (md i)
theorem q493 (i) : B 246 i (lit2t0_493 i) := armsB (hi 246) (md i)
theorem q494 (i) : A 247 i (lit2t0_494 i) := armsB (lo 247) (md i)
theorem q495 (i) : B 247 i (lit2t0_495 i) := armsB (hi 247) (md i)
theorem q496 (i) : A 248 i (lit2t0_496 i) := armsB (lo 248) (md i)
theorem q497 (i) : B 248 i (lit2t0_497 i) := armsB (hi 248) (md i)
theorem q498 (i) : A 249 i (lit2t0_498 i) := armsB (lo 249) (md i)
theorem q499 (i) : B 249 i (lit2t0_499 i) := armsB (hi 249) (md i)
theorem q500 (i) : A 250 i (lit2t0_500 i) := armsB (lo 250) (md i)
theorem q501 (i) : B 250 i (lit2t0_501 i) := armsB (hi 250) (md i)
theorem q502 (i) : A 251 i (lit2t0_502 i) := armsB (lo 251) (md i)
theorem q503 (i) : B 251 i (lit2t0_503 i) := armsB (hi 251) (md i)
theorem q504 (i) : A 252 i (lit2t0_504 i) := armsB (lo 252) (md i)
theorem q505 (i) : B 252 i (lit2t0_505 i) := armsB (hi 252) (md i)
theorem q506 (i) : A 253 i (lit2t0_506 i) := armsB (lo 253) (md i)
theorem q507 (i) : B 253 i (lit2t0_507 i) := armsB (hi 253) (md i)
theorem q508 (i) : A 254 i (lit2t0_508 i) := armsB (lo 254) (md i)
theorem q509 (i) : B 254 i (lit2t0_509 i) := armsB (hi 254) (md i)
theorem q510 (i) : A 255 i (lit2t0_510 i) := armsB (lo 255) (md i)
theorem q511 (i) : B 255 i (lit2t0_511 i) := armsB (hi 255) (md i)

/-- Elements 0 to 16383 of the permutation's table. -/
theorem pm1_0 (i : ℕ) : lit2t1_0 i = pmW (0 + i / 128 % 128 / 2) (i / 128 % 128 % 2 * 128 + i % 128) :=
  arms (Q := fun x w => w = pmW (0 + x / 2) (x % 2 * 128 + i % 128)) (x := i / 128 % 128) (Nat.mod_lt _ (by decide)) ⟨
    e (q0 i), f (q1 i), e (q2 i), f (q3 i), e (q4 i), f (q5 i), e (q6 i), f (q7 i), e (q8 i), f (q9 i), e (q10 i), f (q11 i), e (q12 i), f (q13 i),
    e (q14 i), f (q15 i), e (q16 i), f (q17 i), e (q18 i), f (q19 i), e (q20 i), f (q21 i), e (q22 i), f (q23 i), e (q24 i), f (q25 i), e (q26 i),
    f (q27 i), e (q28 i), f (q29 i), e (q30 i), f (q31 i), e (q32 i), f (q33 i), e (q34 i), f (q35 i), e (q36 i), f (q37 i), e (q38 i), f (q39 i),
    e (q40 i), f (q41 i), e (q42 i), f (q43 i), e (q44 i), f (q45 i), e (q46 i), f (q47 i), e (q48 i), f (q49 i), e (q50 i), f (q51 i), e (q52 i),
    f (q53 i), e (q54 i), f (q55 i), e (q56 i), f (q57 i), e (q58 i), f (q59 i), e (q60 i), f (q61 i), e (q62 i), f (q63 i), e (q64 i), f (q65 i),
    e (q66 i), f (q67 i), e (q68 i), f (q69 i), e (q70 i), f (q71 i), e (q72 i), f (q73 i), e (q74 i), f (q75 i), e (q76 i), f (q77 i), e (q78 i),
    f (q79 i), e (q80 i), f (q81 i), e (q82 i), f (q83 i), e (q84 i), f (q85 i), e (q86 i), f (q87 i), e (q88 i), f (q89 i), e (q90 i), f (q91 i),
    e (q92 i), f (q93 i), e (q94 i), f (q95 i), e (q96 i), f (q97 i), e (q98 i), f (q99 i), e (q100 i), f (q101 i), e (q102 i), f (q103 i),
    e (q104 i), f (q105 i), e (q106 i), f (q107 i), e (q108 i), f (q109 i), e (q110 i), f (q111 i), e (q112 i), f (q113 i), e (q114 i), f (q115 i),
    e (q116 i), f (q117 i), e (q118 i), f (q119 i), e (q120 i), f (q121 i), e (q122 i), f (q123 i), e (q124 i), f (q125 i), e (q126 i), f (q127 i)⟩

/-- Elements 16384 to 32767 of the permutation's table. -/
theorem pm1_1 (i : ℕ) : lit2t1_1 i = pmW (64 + i / 128 % 128 / 2) (i / 128 % 128 % 2 * 128 + i % 128) :=
  arms (Q := fun x w => w = pmW (64 + x / 2) (x % 2 * 128 + i % 128)) (x := i / 128 % 128) (Nat.mod_lt _ (by decide)) ⟨
    e (q128 i), f (q129 i), e (q130 i), f (q131 i), e (q132 i), f (q133 i), e (q134 i), f (q135 i), e (q136 i), f (q137 i), e (q138 i), f (q139 i),
    e (q140 i), f (q141 i), e (q142 i), f (q143 i), e (q144 i), f (q145 i), e (q146 i), f (q147 i), e (q148 i), f (q149 i), e (q150 i), f (q151 i),
    e (q152 i), f (q153 i), e (q154 i), f (q155 i), e (q156 i), f (q157 i), e (q158 i), f (q159 i), e (q160 i), f (q161 i), e (q162 i), f (q163 i),
    e (q164 i), f (q165 i), e (q166 i), f (q167 i), e (q168 i), f (q169 i), e (q170 i), f (q171 i), e (q172 i), f (q173 i), e (q174 i), f (q175 i),
    e (q176 i), f (q177 i), e (q178 i), f (q179 i), e (q180 i), f (q181 i), e (q182 i), f (q183 i), e (q184 i), f (q185 i), e (q186 i), f (q187 i),
    e (q188 i), f (q189 i), e (q190 i), f (q191 i), e (q192 i), f (q193 i), e (q194 i), f (q195 i), e (q196 i), f (q197 i), e (q198 i), f (q199 i),
    e (q200 i), f (q201 i), e (q202 i), f (q203 i), e (q204 i), f (q205 i), e (q206 i), f (q207 i), e (q208 i), f (q209 i), e (q210 i), f (q211 i),
    e (q212 i), f (q213 i), e (q214 i), f (q215 i), e (q216 i), f (q217 i), e (q218 i), f (q219 i), e (q220 i), f (q221 i), e (q222 i), f (q223 i),
    e (q224 i), f (q225 i), e (q226 i), f (q227 i), e (q228 i), f (q229 i), e (q230 i), f (q231 i), e (q232 i), f (q233 i), e (q234 i), f (q235 i),
    e (q236 i), f (q237 i), e (q238 i), f (q239 i), e (q240 i), f (q241 i), e (q242 i), f (q243 i), e (q244 i), f (q245 i), e (q246 i), f (q247 i),
    e (q248 i), f (q249 i), e (q250 i), f (q251 i), e (q252 i), f (q253 i), e (q254 i), f (q255 i)⟩

/-- Elements 32768 to 49151 of the permutation's table. -/
theorem pm1_2 (i : ℕ) : lit2t1_2 i = pmW (128 + i / 128 % 128 / 2) (i / 128 % 128 % 2 * 128 + i % 128) :=
  arms (Q := fun x w => w = pmW (128 + x / 2) (x % 2 * 128 + i % 128)) (x := i / 128 % 128) (Nat.mod_lt _ (by decide)) ⟨
    e (q256 i), f (q257 i), e (q258 i), f (q259 i), e (q260 i), f (q261 i), e (q262 i), f (q263 i), e (q264 i), f (q265 i), e (q266 i), f (q267 i),
    e (q268 i), f (q269 i), e (q270 i), f (q271 i), e (q272 i), f (q273 i), e (q274 i), f (q275 i), e (q276 i), f (q277 i), e (q278 i), f (q279 i),
    e (q280 i), f (q281 i), e (q282 i), f (q283 i), e (q284 i), f (q285 i), e (q286 i), f (q287 i), e (q288 i), f (q289 i), e (q290 i), f (q291 i),
    e (q292 i), f (q293 i), e (q294 i), f (q295 i), e (q296 i), f (q297 i), e (q298 i), f (q299 i), e (q300 i), f (q301 i), e (q302 i), f (q303 i),
    e (q304 i), f (q305 i), e (q306 i), f (q307 i), e (q308 i), f (q309 i), e (q310 i), f (q311 i), e (q312 i), f (q313 i), e (q314 i), f (q315 i),
    e (q316 i), f (q317 i), e (q318 i), f (q319 i), e (q320 i), f (q321 i), e (q322 i), f (q323 i), e (q324 i), f (q325 i), e (q326 i), f (q327 i),
    e (q328 i), f (q329 i), e (q330 i), f (q331 i), e (q332 i), f (q333 i), e (q334 i), f (q335 i), e (q336 i), f (q337 i), e (q338 i), f (q339 i),
    e (q340 i), f (q341 i), e (q342 i), f (q343 i), e (q344 i), f (q345 i), e (q346 i), f (q347 i), e (q348 i), f (q349 i), e (q350 i), f (q351 i),
    e (q352 i), f (q353 i), e (q354 i), f (q355 i), e (q356 i), f (q357 i), e (q358 i), f (q359 i), e (q360 i), f (q361 i), e (q362 i), f (q363 i),
    e (q364 i), f (q365 i), e (q366 i), f (q367 i), e (q368 i), f (q369 i), e (q370 i), f (q371 i), e (q372 i), f (q373 i), e (q374 i), f (q375 i),
    e (q376 i), f (q377 i), e (q378 i), f (q379 i), e (q380 i), f (q381 i), e (q382 i), f (q383 i)⟩

/-- Elements 49152 to 65535 of the permutation's table. -/
theorem pm1_3 (i : ℕ) : lit2t1_3 i = pmW (192 + i / 128 % 128 / 2) (i / 128 % 128 % 2 * 128 + i % 128) :=
  arms (Q := fun x w => w = pmW (192 + x / 2) (x % 2 * 128 + i % 128)) (x := i / 128 % 128) (Nat.mod_lt _ (by decide)) ⟨
    e (q384 i), f (q385 i), e (q386 i), f (q387 i), e (q388 i), f (q389 i), e (q390 i), f (q391 i), e (q392 i), f (q393 i), e (q394 i), f (q395 i),
    e (q396 i), f (q397 i), e (q398 i), f (q399 i), e (q400 i), f (q401 i), e (q402 i), f (q403 i), e (q404 i), f (q405 i), e (q406 i), f (q407 i),
    e (q408 i), f (q409 i), e (q410 i), f (q411 i), e (q412 i), f (q413 i), e (q414 i), f (q415 i), e (q416 i), f (q417 i), e (q418 i), f (q419 i),
    e (q420 i), f (q421 i), e (q422 i), f (q423 i), e (q424 i), f (q425 i), e (q426 i), f (q427 i), e (q428 i), f (q429 i), e (q430 i), f (q431 i),
    e (q432 i), f (q433 i), e (q434 i), f (q435 i), e (q436 i), f (q437 i), e (q438 i), f (q439 i), e (q440 i), f (q441 i), e (q442 i), f (q443 i),
    e (q444 i), f (q445 i), e (q446 i), f (q447 i), e (q448 i), f (q449 i), e (q450 i), f (q451 i), e (q452 i), f (q453 i), e (q454 i), f (q455 i),
    e (q456 i), f (q457 i), e (q458 i), f (q459 i), e (q460 i), f (q461 i), e (q462 i), f (q463 i), e (q464 i), f (q465 i), e (q466 i), f (q467 i),
    e (q468 i), f (q469 i), e (q470 i), f (q471 i), e (q472 i), f (q473 i), e (q474 i), f (q475 i), e (q476 i), f (q477 i), e (q478 i), f (q479 i),
    e (q480 i), f (q481 i), e (q482 i), f (q483 i), e (q484 i), f (q485 i), e (q486 i), f (q487 i), e (q488 i), f (q489 i), e (q490 i), f (q491 i),
    e (q492 i), f (q493 i), e (q494 i), f (q495 i), e (q496 i), f (q497 i), e (q498 i), f (q499 i), e (q500 i), f (q501 i), e (q502 i), f (q503 i),
    e (q504 i), f (q505 i), e (q506 i), f (q507 i), e (q508 i), f (q509 i), e (q510 i), f (q511 i)⟩

/-- The permutation's table holds the permutation's words. -/
theorem perm_eq (r c : ℕ) (hr : r < 256) (hc : c < 256) : lit2t (256 * r + c) = pmW r c := by
  have e1 : (256 * r + c) / 128 % 128 / 2 = r % 64 := by omega
  have e2 : (256 * r + c) / 128 % 128 % 2 * 128 + (256 * r + c) % 128 = c := by omega
  have e3 : (256 * r + c) / 16384 = r / 64 := by omega
  unfold lit2t
  rw [e3]
  have hq : r / 64 = 0 ∨ r / 64 = 1 ∨ r / 64 = 2 ∨ r / 64 = 3 := by omega
  rcases hq with h | h | h | h <;> rw [h]
  · exact (pm1_0 _).trans (by rw [e1, e2]; congr 1; omega)
  · exact (pm1_1 _).trans (by rw [e1, e2]; congr 1; omega)
  · exact (pm1_2 _).trans (by rw [e1, e2]; congr 1; omega)
  · exact (pm1_3 _).trans (by rw [e1, e2]; congr 1; omega)

end Cert.Tables
-- ==== Proof.Value.Entry.lean ====
/-
# What the call finds and what it leaves, by entries

The staged operands are the arguments and the tables that the host computed: the four weights one under the other (the last
transposed), the tables of cosines and sines repeated for the heads and the batches, and the signed permutation.
-/
module

public import proofs.«01_k».proof.Proof.KernelIdeal.Launch
public import Idealize.ShloMosaic.Lib.Pipeline.ValueKit.Geometry
public import proofs.«01_k».proof.Proof.Value.Out
public import proofs.«01_k».proof.Proof.Value.Tables.Words
public import proofs.«01_k».proof.Proof.Value.Tables.Perm

@[expose] public section

noncomputable section

namespace Cert.KernelIdeal.Value

open Cert.KernelIdeal Cert.KernelIdeal.Gen Cert.KernelIdeal.Talk
open Idealize.ShloMosaic Idealize.ShloMosaic.TcCoe Idealize.ShloMosaic.StableHlo
open Idealize.SL.Sem
open Idealize.ShloMosaic.Pipeline
open scoped BigOperators

section Generic

variable {F : FTy → Type} [FloatOps F]

/-- The table of cosines, of sines, and the signed permutation, as the program holds them. -/
def cosK : FVec F S256x64 .f32 := fun i => FloatOps.ofBits .f32 (lit0 (S256x64.rowMajor i))
def sinK : FVec F S256x64 .f32 := fun i => FloatOps.ofBits .f32 (lit1 (S256x64.rowMajor i))
def permK : FVec F S256x256 .f32 := fun i => FloatOps.ofBits .f32 (lit2 (S256x256.rowMajor i))

/-- The four weights of a device one under the other. -/
def catK (wq wk wv : FVec F S768x256 .f32) (wo : FVec F S256x768 .f32) : FVec F S3072x256 .bf16 :=
  truncf .bf16 (concatenate S3072x256 0 [⟨S768x256, wq⟩, ⟨S768x256, wk⟩, ⟨S768x256, wv⟩,
    ⟨S768x256, transpose S768x256 [1, 0] wo transposes_S256x768_S768x256_1_0⟩] concatenates_S768x256_S768x256_S768x256_S768x256_S3072x256_d0) bitsLt_bf16_f32

/-- A table repeated for the four heads and the two batches. -/
def tileK (T : FVec F S256x64 .f32) : FVec F S512x256 .f32 :=
  shapeCast _ (broadcastInDim S2x256x1x256 ![0, 1, 2, 3] bcast_S1x256x1x256_S2x256x1x256_0_1_2_3
    (shapeCast _ (shapeCast S256x256 (broadcastInDim S1x256x4x64 ![0, 1, 2, 3] bcast_S1x256x1x64_S1x256x4x64_0_1_2_3
      (shapeCast _ T shapeCasts_S256x64_S1x256x1x64)) shapeCasts_S1x256x4x64_S256x256) shapeCasts_S256x256_S1x256x1x256)) shapeCasts_S2x256x1x256_S512x256

variable (m : (ℓ : Loc nD τ sig) → Buf (Elt F) ℓ) (c : Dev nD)

theorem V_v3 : V m c main_v3 = catK (m ((c : Thread nD τ).loc main_arg1)) (m ((c : Thread nD τ).loc main_arg2)) (m ((c : Thread nD τ).loc main_arg3))
    (m ((c : Thread nD τ).loc main_arg4)) := by
  unfold V catK
  after_results_simp
  rfl

theorem V_v9 : V m c main_v9 = tileK cosK := by
  unfold V tileK cosK
  after_results_simp
  rfl

theorem V_v15 : V m c main_v15 = tileK sinK := by
  unfold V tileK sinK
  after_results_simp
  rfl

theorem V_v16 : V m c main_v16 = truncf .bf16 (permK (F := F)) bitsLt_bf16_f32 := by
  unfold V permK
  after_results_simp
  rfl

theorem xI_eq : xI m c = m ((c : Thread nD τ).loc main_arg0) := by
  unfold xI iblk
  refine Eq.trans ?_ (V_main_arg0 m c)
  generalize V m c main_arg0 = A
  funext j
  exact congrArg A (funext fun a => Fin.ext ((win0 0).rect_emb_val_of_index_zero t0_0 a (by revert a; decide) j))
theorem wcI_eq : wcI m c = V m c main_v3 := by
  unfold wcI iblk
  generalize V m c main_v3 = A
  funext j
  exact congrArg A (funext fun a => Fin.ext ((win0 1).rect_emb_val_of_index_zero t0_0 a (by revert a; decide) j))
theorem csI_eq : csI m c = V m c main_v9 := by
  unfold csI iblk
  generalize V m c main_v9 = A
  funext j
  exact congrArg A (funext fun a => Fin.ext ((win0 2).rect_emb_val_of_index_zero t0_0 a (by revert a; decide) j))
theorem snI_eq : snI m c = V m c main_v15 := by
  unfold snI iblk
  generalize V m c main_v15 = A
  funext j
  exact congrArg A (funext fun a => Fin.ext ((win0 3).rect_emb_val_of_index_zero t0_0 a (by revert a; decide) j))
theorem pmI_eq : pmI m c = V m c main_v16 := by
  unfold pmI iblk
  generalize V m c main_v16 = A
  funext j
  exact congrArg A (funext fun a => Fin.ext ((win0 4).rect_emb_val_of_index_zero t0_0 a (by revert a; decide) j))

/-- The call leaves what the body leaves. -/
theorem resA_eq : resA m c = outI m c := by
  unfold resA
  refine (dats m 0 c).arrAt_eq_of_after_last 5 t0_0 (by decide +kernel) _ fun j => ?_
  dsimp only [dats]
  generalize outI m c = A
  exact congrArg A (funext fun a => Fin.ext rfl)

end Generic

/-! ## The operands at an index, over the extended reals -/

section Cat
variable (wq wk wv : FVec Ideal S768x256 .f32) (wo : FVec Ideal S256x768 .f32) (k : Fin 768) (t : Fin 256)

theorem catK_apply (a : Fin 3072) : catK wq wk wv wo (ix2 a t)
    = if h : a.val < 768 then wq (ix2 (⟨a.val, h⟩ : Fin 768) t)
      else if h : a.val - 768 < 768 then wk (ix2 (⟨a.val - 768, h⟩ : Fin 768) t)
      else if h : a.val - 768 - 768 < 768 then wv (ix2 (⟨a.val - 768 - 768, h⟩ : Fin 768) t)
      else wo (ix2 t (⟨a.val - 768 - 768 - 768, by omega⟩ : Fin 768)) := by
  unfold catK
  pointwise

theorem catK_q : catK wq wk wv wo (ix2 (⟨k.val, by omega⟩ : Fin 3072) t) = wq (ix2 k t) := by
  rw [catK_apply, dif_pos k.isLt]
theorem catK_k : catK wq wk wv wo (ix2 (⟨768 + k.val, by omega⟩ : Fin 3072) t) = wk (ix2 k t) := by
  rw [catK_apply, dif_neg (show ¬ 768 + k.val < 768 by omega), dif_pos (show 768 + k.val - 768 < 768 by omega)]
  exact congrArg (fun r => wk (ix2 r t)) (Fin.ext (show 768 + k.val - 768 = k.val by omega))
theorem catK_v : catK wq wk wv wo (ix2 (⟨1536 + k.val, by omega⟩ : Fin 3072) t) = wv (ix2 k t) := by
  rw [catK_apply, dif_neg (show ¬ 1536 + k.val < 768 by omega), dif_neg (show ¬ 1536 + k.val - 768 < 768 by omega),
    dif_pos (show 1536 + k.val - 768 - 768 < 768 by omega)]
  exact congrArg (fun r => wv (ix2 r t)) (Fin.ext (show 1536 + k.val - 768 - 768 = k.val by omega))
theorem catK_o : catK wq wk wv wo (ix2 (⟨2304 + k.val, by omega⟩ : Fin 3072) t) = wo (ix2 t k) := by
  rw [catK_apply, dif_neg (show ¬ 2304 + k.val < 768 by omega), dif_neg (show ¬ 2304 + k.val - 768 < 768 by omega),
    dif_neg (show ¬ 2304 + k.val - 768 - 768 < 768 by omega)]
  exact congrArg (fun r => wo (ix2 t r)) (Fin.ext (show 2304 + k.val - 768 - 768 - 768 = k.val by omega))

end Cat

theorem tileK_apply (T : FVec Ideal S256x64 .f32) (r : Fin 512) (n : Fin 256) : tileK T (ix2 r n) = T (ix2 (rpos r) (hoff n)) := by
  unfold tileK
  pointwise
  rfl

theorem pmW_val (r c : ℕ) : Ideal.ofBits .f32 (Cert.Tables.pmW r c) = pmE r c := by
  unfold Cert.Tables.pmW pmE
  have h1 : Ideal.ofBits .f32 0xBF800000#32 = -1 := by
    simp [Ideal.ofBits, Ideal.ieee]
    rw [← EReal.coe_mul]; norm_num
  have h2 : Ideal.ofBits .f32 0x3F800000#32 = 1 := by
    simp [Ideal.ofBits, Ideal.ieee]
    rw [← EReal.coe_mul]; norm_num
  have h3 : Ideal.ofBits .f32 0x00000000#32 = 0 := by simp [Ideal.ofBits, Ideal.ieee]
  split_ifs <;> assumption

theorem permK_apply (a b : Fin 256) : (truncf .bf16 (permK (F := Ideal)) bitsLt_bf16_f32 : FVec Ideal S256x256 .bf16) (ix2 a b) = pmE a.val b.val := by
  have e : S256x256.rowMajor (ix2 a b) = (⟨256 * a.val + b.val, by omega⟩ : Fin 65536) := by
    apply Fin.ext
    refine (Shape.rowMajor_val_two (d := ![256, 256]) (ix2 a b)).trans ?_
    show a.val * 256 + b.val = 256 * a.val + b.val
    omega
  refine Eq.trans (b := Ideal.ofBits .f32 (lit2 (S256x256.rowMajor (ix2 a b)))) rfl ?_
  rw [e]
  exact (congrArg (Ideal.ofBits .f32) (Cert.Tables.perm_eq a.val b.val a.isLt b.isLt)).trans (pmW_val _ _)

end Cert.KernelIdeal.Value
end
-- ==== Proof.Value.Kern.lean ====
/-
# The kernel at an entry, by the arguments of the devices
-/
module

public import proofs.«01_k».proof.Proof.Value.Entry

@[expose] public section

noncomputable section

namespace Cert.KernelIdeal.Value

open Cert.KernelIdeal Cert.KernelIdeal.Gen Cert.KernelIdeal.Talk
open Idealize.ShloMosaic Idealize.ShloMosaic.TcCoe
open scoped BigOperators

/-- One column's contribution to an entry, from a device's own blocks: `x` the batches, the weights those of the column's device. -/
def colK (x : FVec Ideal S2x256x768 .f32) (wq wk wv : FVec Ideal S768x256 .f32) (wo : FVec Ideal S256x768 .f32)
    (b : Fin 2) (i : Fin 256) (n : Fin 768) (t : Fin 256) : EReal :=
  ctxE (fun i k => x (ix3 b i k)) (fun k e => wq (ix2 k (hcol rfl t e))) (fun k e => wk (ix2 k (hcol rfl t e)))
    (fun k e => wv (ix2 k (hcol rfl t e))) (fun i e => cosK (F := Ideal) (ix2 i e)) (fun i e => sinK (F := Ideal) (ix2 i e)) i (hoff t) * wo (ix2 t n)

variable (m : (ℓ : Loc nD τ sig) → Buf (Elt Ideal) ℓ) (c : Dev nD)

/-- **What the kernel leaves** on device `c` in row `i` of batch `b` and column `n`. -/
theorem resA_apply (b : Fin 2) (i : Fin 256) (n : Fin 768) :
    (resA m c : FVec Ideal S2x256x768 .f32) (ix3 b i n) = ∑ d : Dev nD, ∑ t : Fin 256, colK (m ((c : Thread nD τ).loc main_arg0)) (m ((d : Thread nD τ).loc main_arg1))
      (m ((d : Thread nD τ).loc main_arg2)) (m ((d : Thread nD τ).loc main_arg3)) (m ((d : Thread nD τ).loc main_arg4)) b i n t := by
  rw [resA_eq]
  unfold outI
  rw [xI_eq, csI_eq, snI_eq, pmI_eq, V_v9, V_v15, V_v16]
  refine (outV_apply (wcI m) _ _ _ _ (fun i e => cosK (F := Ideal) (ix2 i e)) (fun i e => sinK (F := Ideal) (ix2 i e))
    (fun r n => tileK_apply cosK r n) (fun r n => tileK_apply sinK r n) permK_apply c b i n).trans ?_
  refine Finset.sum_congr rfl fun d _ => Finset.sum_congr rfl fun t _ => ?_
  unfold colTerm termW colK
  rw [wcI_eq, V_v3]
  simp only [catK_q, catK_k, catK_v, catK_o]

end Cert.KernelIdeal.Value
end
-- ==== Proof.Value.Soft.lean ====
/-
# The softmax over the extended reals

The kernel sums the exponentials of the scores and divides the weighted sum of the values by them; the reference first
subtracts the row's greatest score and divides each weight. Where the scores are real the two agree, whatever the values.
-/
module

public import Idealize.ShloMosaic.PureOps.Ideal.Laws

@[expose] public section

noncomputable section

namespace Cert.Softmax

open Idealize.ShloMosaic
open scoped BigOperators

/-- The extended real is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.neg {x : EReal} : IsReal x → IsReal (-x)
  | ⟨a, ha⟩ => ⟨-a, by rw [ha, EReal.coe_neg]⟩
theorem IsReal.sum {ι : Type} (s : Finset ι) (f : ι → EReal) (h : ∀ i, IsReal (f i)) : IsReal (∑ i ∈ s, f i) := by
  classical
  induction s using Finset.induction_on with
  | empty => rw [Finset.sum_empty]; exact .zero
  | insert a s ha ih => rw [Finset.sum_insert ha]; exact (h a).add ih

/-- An extended real whose absolute value lies below `+∞` is a real number. -/
theorem isReal_of_abs {x : EReal} (h : max x (-x) < ⊤) : IsReal x := by
  induction x with
  | bot => simp at h
  | top => simp at h
  | coe r => exact .coe r

/-- A sum of reals, read among the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A real factor that is not negative goes under a sum of extended reals. -/
theorem sum_mul_coe {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

theorem div_coe (x : EReal) {c : ℝ} (hc : c ≠ 0) : Ideal.div x (c : EReal) = x * ((c⁻¹ : ℝ) : EReal) := by
  unfold Ideal.div
  rw [if_neg (by exact_mod_cast hc), EReal.coe_inv]

/-- The greatest of finitely many reals (at least one) above `-∞` is a real number. -/
theorem isReal_fold_max {n : ℕ} (hn : 0 < n) (s : Fin n → EReal) (h : ∀ j, IsReal (s j)) : IsReal (Finset.univ.fold max ⊥ s) := by
  have h1 : Finset.univ.fold max ⊥ s < ⊤ := by
    rw [Finset.fold_max_lt]
    exact ⟨bot_lt_top, fun j _ => by obtain ⟨r, hr⟩ := h j; rw [hr]; exact EReal.coe_lt_top r⟩
  have h2 : ⊥ < Finset.univ.fold max ⊥ s := by
    rw [Finset.lt_fold_max]
    exact .inr ⟨⟨0, hn⟩, Finset.mem_univ _, by obtain ⟨r, hr⟩ := h ⟨0, hn⟩; rw [hr]; exact EReal.bot_lt_coe r⟩
  exact ⟨_, (EReal.coe_toReal h1.ne h2.ne').symm⟩

/-- **The two softmaxes agree** on real scores: the shifted and separately divided weights give the quotient of the two sums. -/
theorem softmax {n : ℕ} (hn : 0 < n) (s v : Fin n → EReal) (h : ∀ j, IsReal (s j)) :
    ∑ j, v j * Ideal.div (Ideal.exp (s j - Finset.univ.fold max ⊥ s)) (∑ j, Ideal.exp (s j - Finset.univ.fold max ⊥ s))
      = Ideal.div (∑ j, Ideal.exp (s j) * v j) (∑ j, Ideal.exp (s j)) := by
  obtain ⟨μ, hμ⟩ := isReal_fold_max hn s h
  rw [hμ]
  choose σ hσ using h
  obtain rfl : s = fun j => (σ j : EReal) := funext hσ
  haveI : Nonempty (Fin n) := ⟨⟨0, hn⟩⟩
  have e1 : ∀ j, Ideal.exp ((σ j : EReal) - (μ : EReal)) = ((Real.exp (σ j - μ) : ℝ) : EReal) := fun j => by
    rw [← EReal.coe_sub]; rfl
  have e2 : ∀ j, Ideal.exp (σ j : EReal) = ((Real.exp (σ j) : ℝ) : EReal) := fun j => rfl
  simp only [e1, e2, sum_coe]
  have p1 : 0 < ∑ j, Real.exp (σ j - μ) := Finset.sum_pos (fun j _ => Real.exp_pos _) Finset.univ_nonempty
  have p2 : 0 < ∑ j, Real.exp (σ j) := Finset.sum_pos (fun j _ => Real.exp_pos _) Finset.univ_nonempty
  have e3 : ∑ j, Real.exp (σ j - μ) = Real.exp (-μ) * ∑ j, Real.exp (σ j) := by
    rw [Finset.mul_sum]; exact Finset.sum_congr rfl fun j _ => by rw [← Real.exp_add]; congr 1; ring
  simp only [div_coe _ p1.ne', div_coe _ p2.ne']
  rw [sum_mul_coe _ _ (inv_nonneg.mpr p2.le)]
  refine Finset.sum_congr rfl fun j _ => ?_
  have e4 : Real.exp (σ j - μ) * (∑ j, Real.exp (σ j - μ))⁻¹ = Real.exp (σ j) * (∑ j, Real.exp (σ j))⁻¹ := by
    rw [e3, sub_eq_add_neg, Real.exp_add]
    have := Real.exp_pos (-μ)
    field_simp
  rw [← EReal.coe_mul, e4, EReal.coe_mul, ← mul_assoc, mul_comm (v j)]

/-- A binary32 word whose exponent bits are not all ones is a real number. -/
theorem isReal_ofBits (b : BitVec 32) (h : (b.extractLsb' 23 8).toNat ≠ 255) : IsReal (Ideal.ofBits .f32 b) := by
  show IsReal (Ideal.ieee 8 23 b)
  unfold Ideal.ieee
  simp only
  rw [if_neg (by simpa using h)]
  split
  · exact .coe _
  · exact .coe _

end Cert.Softmax

end
-- ==== Proof.Value.Ref.lean ====
/-
# The reference's result by entries

The reference's long term is cut into named stages (projection, rotation, scores, softmax, output), and each is read at an
index. With real scores its softmax is the quotient that the kernel forms.
-/
module

public import proofs.«01_k».proof.Proof.Gen.ReferenceIdeal.Run
public import Idealize.ShloMosaic.Lib.Pointwise
public import proofs.«01_k».proof.Proof.Value.Rot
public import proofs.«01_k».proof.Proof.Value.Soft

@[expose] public section

noncomputable section

namespace Cert.ReferenceIdeal.Entries

open Cert.ReferenceIdeal Cert.ReferenceIdeal.Gen
open Cert.KernelIdeal.Value (expo headK rotE ctxE)
open Idealize.ShloMosaic
open scoped BigOperators

variable {F : FTy → Type} [FloatOps F]

/-- A projection, split into heads. -/
def projR (x : FVec F S8x256x768 .f32) (w : FVec F S768x1024 .f32) : FVec F S8x256x16x64 .f32 :=
  shapeCast _ (Host.dotGeneral dot_S8x256x768_S768x1024_S8x256x1024_2_0_01_1_n_n none x w) shapeCasts_S8x256x1024_S8x256x16x64

/-- A table of the positions, for every batch and head. -/
def tabR (T : FVec F S256x64 .f32) : FVec F S8x256x16x64 .f32 :=
  broadcastInDim S8x256x16x64 ![0, 1, 2, 3] bcast_S1x256x1x64_S8x256x16x64_0_1_2_3 (broadcastInDim S1x256x1x64 ![1, 3] bcast_S256x64_S1x256x1x64_1_3 T)

/-- Each even column's partner is the odd one after it, negated; each odd column's the even one before it. -/
def swapR (u : FVec F S8x256x16x64 .f32) : FVec F S8x256x16x64 .f32 :=
  shapeCast _ (concatenate S8x256x16x32x2 4
    [⟨S8x256x16x32x1, (broadcastInDim S8x256x16x32x1 ![0, 1, 2, 3] bcast_S8x256x16x32_S8x256x16x32x1_0_1_2_3 (Host.negf (shapeCast _ (extractStridedSlice S8x256x16x32x1 ![0, 0, 0, 0, 1] (shapeCast _ u shapeCasts_S8x256x16x64_S8x256x16x32x2) slices_S8x256x16x32x2_S8x256x16x32x1_0_0_0_0_1) shapeCasts_S8x256x16x32x1_S8x256x16x32)))⟩,
     ⟨S8x256x16x32x1, (broadcastInDim S8x256x16x32x1 ![0, 1, 2, 3] bcast_S8x256x16x32_S8x256x16x32x1_0_1_2_3 (shapeCast _ (extractStridedSlice S8x256x16x32x1 ![0, 0, 0, 0, 0] (shapeCast _ u shapeCasts_S8x256x16x64_S8x256x16x32x2) slices_S8x256x16x32x2_S8x256x16x32x1_0_0_0_0_0) shapeCasts_S8x256x16x32x1_S8x256x16x32))⟩]
    concatenates_S8x256x16x32x1_S8x256x16x32x1_S8x256x16x32x2_d4) shapeCasts_S8x256x16x32x2_S8x256x16x64

/-- The rotation of the position. -/
def rotR (C S : FVec F S256x64 .f32) (u : FVec F S8x256x16x64 .f32) : FVec F S8x256x16x64 .f32 := addf (mulf u (tabR C)) (mulf (swapR u) (tabR S))

/-- The scaled scores. -/
def scoreR (q k : FVec F S8x256x16x64 .f32) : FVec F S8x16x256x256 .f32 :=
  mulf (Host.dotGeneral dot_S8x256x16x64_S8x256x16x64_S8x16x256x256_3_3_1_1_02_02 none q k) (broadcastInDim S8x16x256x256 ![] bcast_S_S8x16x256x256 (constant S_ .f32 0x3E000000#32))

/-- A row's value, for every column of the row. -/
def rowR (v : FVec F S8x16x256 .f32) : FVec F S8x16x256x256 .f32 :=
  broadcastInDim S8x16x256x256 ![0, 1, 2, 3] bcast_S8x16x256x1_S8x16x256x256_0_1_2_3 (broadcastInDim S8x16x256x1 ![0, 1, 2] bcast_S8x16x256_S8x16x256x1_0_1_2 v)

/-- The exponentials of the scores less their row's greatest. -/
def exR (s : FVec F S8x16x256x256 .f32) : FVec F S8x16x256x256 .f32 :=
  Host.exp (subf s (rowR (Host.reduce FloatOps.maximumf s (constant S_ .f32 0xFF800000#32) reducesTo_S8x16x256x256_S8x16x256_d3 h_S_)))

/-- Each exponential over its row's sum. -/
def softR (e : FVec F S8x16x256x256 .f32) : FVec F S8x16x256x256 .f32 :=
  Host.divf e (rowR (Host.reduceAdd e (constant S_ .f32 0x00000000#32) reducesTo_S8x16x256x256_S8x16x256_d3 h_S_))

/-- The contexts, put side by side, times the output projection. -/
def lastR (v : FVec F S8x256x16x64 .f32) (w : FVec F S8x16x256x256 .f32) (wo : FVec F S1024x768 .f32) : FVec F S8x256x768 .f32 :=
  Host.dotGeneral dot_S8x256x1024_S1024x768_S8x256x768_2_0_01_1_n_n none (shapeCast _ (transpose S8x256x16x64 [0, 3, 1, 2] (Host.dotGeneral dot_S8x256x16x64_S8x16x256x256_S8x16x64x256_1_3_3_2_02_01 none v w) transposes_S8x16x64x256_S8x256x16x64_0_3_1_2) shapeCasts_S8x256x16x64_S8x256x1024) wo

/-- The whole reference. -/
def outR (C S : FVec F S256x64 .f32) (x : FVec F S8x256x768 .f32) (wq wk wv : FVec F S768x1024 .f32) (wo : FVec F S1024x768 .f32) : FVec F S8x256x768 .f32 :=
  lastR (projR x wv) (softR (exR (scoreR (rotR C S (projR x wq)) (rotR C S (projR x wk))))) wo

/-- The table of cosines and that of sines. -/
def cosR : FVec F S256x64 .f32 := fun i => FloatOps.ofBits .f32 (lit0 (S256x64.rowMajor i))
def sinR : FVec F S256x64 .f32 := fun i => FloatOps.ofBits .f32 (lit1 (S256x64.rowMajor i))

/-- The reference's result is the stages one after the other. -/
theorem res_eq (m : (ℓ : Loc nD τ sig) → Buf (Elt F) ℓ) (c : Dev nD) :
    Cert.ReferenceIdeal.Value.res_main_v55 m c = outR cosR sinR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v55 outR lastR softR exR scoreR rotR rowR swapR tabR projR cosR sinR
  rfl

/-! ## The stages at an index, over the extended reals -/

theorem projR_apply (x : FVec Ideal S8x256x768 .f32) (w : FVec Ideal S768x1024 .f32) (b : Fin 8) (i : Fin 256) (h : Fin 16) (d : Fin 64) :
    projR x w (ix4 b i h d) = ∑ k : Fin 768, x (ix3 b i k) * w (ix2 k ⟨64 * h.val + d.val, by omega⟩) := by
  unfold projR
  pointwise
  exact Finset.sum_congr rfl fun k _ => congrArg (fun t => x (ix3 b i k) * w (ix2 k t)) (Fin.ext (by show h.val * 64 + d.val = 64 * h.val + d.val; omega))

theorem tabR_apply (T : FVec Ideal S256x64 .f32) (b : Fin 8) (i : Fin 256) (h : Fin 16) (d : Fin 64) : tabR T (ix4 b i h d) = T (ix2 i d) := by
  unfold tabR
  pointwise

theorem swapR_apply (u : FVec Ideal S8x256x16x64 .f32) (b : Fin 8) (i : Fin 256) (h : Fin 16) (d : Fin 64) :
    swapR u (ix4 b i h d) = if d.val % 2 = 0 then -(u (ix4 b i h ⟨(d.val + 1) % 64, Nat.mod_lt _ (by decide)⟩)) else u (ix4 b i h ⟨d.val - 1, by omega⟩) := by
  unfold swapR
  pointwise
  by_cases hd : d.val % 2 = 0
  · rw [dif_pos (by omega), if_pos hd]
    exact congrArg (fun t => -(u (ix4 b i h t))) (Fin.ext (by show d.val / 2 * 2 + 1 = (d.val + 1) % 64; omega))
  · rw [dif_neg (by omega), if_neg hd]
    exact congrArg (fun t => u (ix4 b i h t)) (Fin.ext (by show d.val / 2 * 2 = d.val - 1; omega))

theorem rotR_apply (C S : FVec Ideal S256x64 .f32) (u : FVec Ideal S8x256x16x64 .f32) (b : Fin 8) (i : Fin 256) (h : Fin 16) (d : Fin 64) :
    rotR C S u (ix4 b i h d) = rotE (fun e => u (ix4 b i h e)) (fun e => C (ix2 i e)) (fun e => S (ix2 i e)) d := by
  unfold rotE
  refine Eq.trans (b := u (ix4 b i h d) * tabR C (ix4 b i h d) + swapR u (ix4 b i h d) * tabR S (ix4 b i h d)) rfl ?_
  rw [swapR_apply, tabR_apply, tabR_apply]

theorem scoreR_apply (q k : FVec Ideal S8x256x16x64 .f32) (b : Fin 8) (h : Fin 16) (i j : Fin 256) :
    scoreR q k (ix4 b h i j) = (∑ e : Fin 64, q (ix4 b i h e) * k (ix4 b j h e)) * Ideal.ofBits .f32 0x3E000000#32 := by
  unfold scoreR
  pointwise

theorem exR_apply (s : FVec Ideal S8x16x256x256 .f32) (b : Fin 8) (h : Fin 16) (i j : Fin 256) :
    exR s (ix4 b h i j) = Ideal.exp (s (ix4 b h i j) - Finset.univ.fold max ⊥ fun j => s (ix4 b h i j)) := by
  unfold exR rowR
  pointwise
  rw [show Ideal.ofBits .f32 0xFF800000#32 = ⊥ from by simp [Ideal.ofBits, Ideal.ieee]]

theorem softR_apply (e : FVec Ideal S8x16x256x256 .f32) (b : Fin 8) (h : Fin 16) (i j : Fin 256) :
    softR e (ix4 b h i j) = Ideal.div (e (ix4 b h i j)) (∑ j, e (ix4 b h i j)) := by
  unfold softR rowR
  pointwise

theorem lastR_apply (v : FVec Ideal S8x256x16x64 .f32) (w : FVec Ideal S8x16x256x256 .f32) (wo : FVec Ideal S1024x768 .f32) (b : Fin 8) (i : Fin 256) (n : Fin 768) :
    lastR v w wo (ix3 b i n) = ∑ t : Fin 1024, (∑ j : Fin 256, v (ix4 b j ⟨t.val / 64, by omega⟩ ⟨t.val % 64, by omega⟩) * w (ix4 b ⟨t.val / 64, by omega⟩ i j)) * wo (ix2 t n) := by
  unfold lastR
  pointwise

end Cert.ReferenceIdeal.Entries
end
-- ==== Proof.Value.RefSum.lean ====
/-
# The reference at an entry

For real arguments the quotient of each exponential by its row's sum may be taken after the sum over the keys, and the greatest
score of a row leaves the quotient: the reference's entry is the sum over all columns of a column's context times the output
projection.
-/
module

public import proofs.«01_k».proof.Proof.Value.Ref

@[expose] public section

noncomputable section

namespace Cert.ReferenceIdeal.Entries

open Cert.ReferenceIdeal Cert.KernelIdeal.Value Cert.Softmax
open Idealize.ShloMosaic
open scoped BigOperators

/-- The rotation of real numbers by real numbers is real. -/
theorem isReal_rotE {u c s : Fin 64 → EReal} (hu : ∀ e, IsReal (u e)) (hc : ∀ e, IsReal (c e)) (hs : ∀ e, IsReal (s e)) (d : Fin 64) :
    IsReal (rotE u c s d) := by
  unfold rotE
  refine ((hu d).mul (hc d)).add (IsReal.mul ?_ (hs d))
  split_ifs
  · exact (hu _).neg
  · exact hu _

variable (C S : FVec Ideal S256x64 .f32) (x : FVec Ideal S8x256x768 .f32) (wq wk wv : FVec Ideal S768x1024 .f32) (wo : FVec Ideal S1024x768 .f32)

/-- One column's contribution to an entry of the result. -/
def colR (b : Fin 8) (i : Fin 256) (n : Fin 768) (t : Fin 1024) : EReal :=
  ctxE (fun i k => x (ix3 b i k)) (fun k e => wq (ix2 k (hcol rfl t e))) (fun k e => wk (ix2 k (hcol rfl t e)))
    (fun k e => wv (ix2 k (hcol rfl t e))) (fun i e => C (ix2 i e)) (fun i e => S (ix2 i e)) i (hoff t) * wo (ix2 t n)

variable (hC : ∀ i e, IsReal (C (ix2 i e))) (hS : ∀ i e, IsReal (S (ix2 i e))) (hx : ∀ b i k, IsReal (x (ix3 b i k)))
  (hq : ∀ k t, IsReal (wq (ix2 k t))) (hk : ∀ k t, IsReal (wk (ix2 k t)))

include hx in
theorem isReal_projR (w : FVec Ideal S768x1024 .f32) (hw : ∀ k t, IsReal (w (ix2 k t))) (b : Fin 8) (i : Fin 256) (h : Fin 16) (d : Fin 64) :
    IsReal (projR x w (ix4 b i h d)) := by
  rw [projR_apply]
  exact IsReal.sum _ _ fun k => (hx b i k).mul (hw k _)

include hC hS hx hq hk in
/-- The scores of real arguments are real. -/
theorem isReal_score (b : Fin 8) (h : Fin 16) (i j : Fin 256) :
    IsReal (scoreR (rotR C S (projR x wq)) (rotR C S (projR x wk)) (ix4 b h i j)) := by
  rw [scoreR_apply]
  refine (IsReal.sum _ _ fun e => ?_).mul (isReal_ofBits _ (by decide))
  rw [rotR_apply, rotR_apply]
  exact (isReal_rotE (fun e => isReal_projR x hx wq hq b i h e) (hC i) (hS i) e).mul
    (isReal_rotE (fun e => isReal_projR x hx wk hk b j h e) (hC j) (hS j) e)

include hC hS hx hq hk in
/-- **The reference's entry** in row `i` of batch `b` and column `n`. -/
theorem outR_apply (b : Fin 8) (i : Fin 256) (n : Fin 768) :
    outR C S x wq wk wv wo (ix3 b i n) = ∑ t : Fin 1024, colR C S x wq wk wv wo b i n t := by
  unfold outR
  rw [lastR_apply]
  refine Finset.sum_congr rfl fun t _ => congrArg (· * wo (ix2 t n)) ?_
  simp only [softR_apply, exR_apply]
  refine (softmax (by decide) (fun j => scoreR (rotR C S (projR x wq)) (rotR C S (projR x wk)) (ix4 b ⟨t.val / 64, by omega⟩ i j)) _
    fun j => isReal_score C S x wq wk hC hS hx hq hk b _ i j).trans ?_
  simp only [scoreR_apply, rotR_apply, projR_apply]
  rfl

end Cert.ReferenceIdeal.Entries
end
-- ==== Proof.Value.Tables.Cos.lean ====
/-
# The table of cosines holds numbers
-/
module

public import proofs.«01_k».proof.Proof.Value.Tables.Arms
public import proofs.«01_k».proof.Proof.Value.Tables.Words

@[expose] public section

namespace Cert.Tables

open Cert.KernelIdeal

/- The 128 matches of the table. -/

theorem c0 (i) : T (expOk (lit0t0_0 i)) := armsB ok (md i)
theorem c1 (i) : T (expOk (lit0t0_1 i)) := armsB ok (md i)
theorem c2 (i) : T (expOk (lit0t0_2 i)) := armsB ok (md i)
theorem c3 (i) : T (expOk (lit0t0_3 i)) := armsB ok (md i)
theorem c4 (i) : T (expOk (lit0t0_4 i)) := armsB ok (md i)
theorem c5 (i) : T (expOk (lit0t0_5 i)) := armsB ok (md i)
theorem c6 (i) : T (expOk (lit0t0_6 i)) := armsB ok (md i)
theorem c7 (i) : T (expOk (lit0t0_7 i)) := armsB ok (md i)
theorem c8 (i) : T (expOk (lit0t0_8 i)) := armsB ok (md i)
theorem c9 (i) : T (expOk (lit0t0_9 i)) := armsB ok (md i)
theorem c10 (i) : T (expOk (lit0t0_10 i)) := armsB ok (md i)
theorem c11 (i) : T (expOk (lit0t0_11 i)) := armsB ok (md i)
theorem c12 (i) : T (expOk (lit0t0_12 i)) := armsB ok (md i)
theorem c13 (i) : T (expOk (lit0t0_13 i)) := armsB ok (md i)
theorem c14 (i) : T (expOk (lit0t0_14 i)) := armsB ok (md i)
theorem c15 (i) : T (expOk (lit0t0_15 i)) := armsB ok (md i)
theorem c16 (i) : T (expOk (lit0t0_16 i)) := armsB ok (md i)
theorem c17 (i) : T (expOk (lit0t0_17 i)) := armsB ok (md i)
theorem c18 (i) : T (expOk (lit0t0_18 i)) := armsB ok (md i)
theorem c19 (i) : T (expOk (lit0t0_19 i)) := armsB ok (md i)
theorem c20 (i) : T (expOk (lit0t0_20 i)) := armsB ok (md i)
theorem c21 (i) : T (expOk (lit0t0_21 i)) := armsB ok (md i)
theorem c22 (i) : T (expOk (lit0t0_22 i)) := armsB ok (md i)
theorem c23 (i) : T (expOk (lit0t0_23 i)) := armsB ok (md i)
theorem c24 (i) : T (expOk (lit0t0_24 i)) := armsB ok (md i)
theorem c25 (i) : T (expOk (lit0t0_25 i)) := armsB ok (md i)
theorem c26 (i) : T (expOk (lit0t0_26 i)) := armsB ok (md i)
theorem c27 (i) : T (expOk (lit0t0_27 i)) := armsB ok (md i)
theorem c28 (i) : T (expOk (lit0t0_28 i)) := armsB ok (md i)
theorem c29 (i) : T (expOk (lit0t0_29 i)) := armsB ok (md i)
theorem c30 (i) : T (expOk (lit0t0_30 i)) := armsB ok (md i)
theorem c31 (i) : T (expOk (lit0t0_31 i)) := armsB ok (md i)
theorem c32 (i) : T (expOk (lit0t0_32 i)) := armsB ok (md i)
theorem c33 (i) : T (expOk (lit0t0_33 i)) := armsB ok (md i)
theorem c34 (i) : T (expOk (lit0t0_34 i)) := armsB ok (md i)
theorem c35 (i) : T (expOk (lit0t0_35 i)) := armsB ok (md i)
theorem c36 (i) : T (expOk (lit0t0_36 i)) := armsB ok (md i)
theorem c37 (i) : T (expOk (lit0t0_37 i)) := armsB ok (md i)
theorem c38 (i) : T (expOk (lit0t0_38 i)) := armsB ok (md i)
theorem c39 (i) : T (expOk (lit0t0_39 i)) := armsB ok (md i)
theorem c40 (i) : T (expOk (lit0t0_40 i)) := armsB ok (md i)
theorem c41 (i) : T (expOk (lit0t0_41 i)) := armsB ok (md i)
theorem c42 (i) : T (expOk (lit0t0_42 i)) := armsB ok (md i)
theorem c43 (i) : T (expOk (lit0t0_43 i)) := armsB ok (md i)
theorem c44 (i) : T (expOk (lit0t0_44 i)) := armsB ok (md i)
theorem c45 (i) : T (expOk (lit0t0_45 i)) := armsB ok (md i)
theorem c46 (i) : T (expOk (lit0t0_46 i)) := armsB ok (md i)
theorem c47 (i) : T (expOk (lit0t0_47 i)) := armsB ok (md i)
theorem c48 (i) : T (expOk (lit0t0_48 i)) := armsB ok (md i)
theorem c49 (i) : T (expOk (lit0t0_49 i)) := armsB ok (md i)
theorem c50 (i) : T (expOk (lit0t0_50 i)) := armsB ok (md i)
theorem c51 (i) : T (expOk (lit0t0_51 i)) := armsB ok (md i)
theorem c52 (i) : T (expOk (lit0t0_52 i)) := armsB ok (md i)
theorem c53 (i) : T (expOk (lit0t0_53 i)) := armsB ok (md i)
theorem c54 (i) : T (expOk (lit0t0_54 i)) := armsB ok (md i)
theorem c55 (i) : T (expOk (lit0t0_55 i)) := armsB ok (md i)
theorem c56 (i) : T (expOk (lit0t0_56 i)) := armsB ok (md i)
theorem c57 (i) : T (expOk (lit0t0_57 i)) := armsB ok (md i)
theorem c58 (i) : T (expOk (lit0t0_58 i)) := armsB ok (md i)
theorem c59 (i) : T (expOk (lit0t0_59 i)) := armsB ok (md i)
theorem c60 (i) : T (expOk (lit0t0_60 i)) := armsB ok (md i)
theorem c61 (i) : T (expOk (lit0t0_61 i)) := armsB ok (md i)
theorem c62 (i) : T (expOk (lit0t0_62 i)) := armsB ok (md i)
theorem c63 (i) : T (expOk (lit0t0_63 i)) := armsB ok (md i)
theorem c64 (i) : T (expOk (lit0t0_64 i)) := armsB ok (md i)
theorem c65 (i) : T (expOk (lit0t0_65 i)) := armsB ok (md i)
theorem c66 (i) : T (expOk (lit0t0_66 i)) := armsB ok (md i)
theorem c67 (i) : T (expOk (lit0t0_67 i)) := armsB ok (md i)
theorem c68 (i) : T (expOk (lit0t0_68 i)) := armsB ok (md i)
theorem c69 (i) : T (expOk (lit0t0_69 i)) := armsB ok (md i)
theorem c70 (i) : T (expOk (lit0t0_70 i)) := armsB ok (md i)
theorem c71 (i) : T (expOk (lit0t0_71 i)) := armsB ok (md i)
theorem c72 (i) : T (expOk (lit0t0_72 i)) := armsB ok (md i)
theorem c73 (i) : T (expOk (lit0t0_73 i)) := armsB ok (md i)
theorem c74 (i) : T (expOk (lit0t0_74 i)) := armsB ok (md i)
theorem c75 (i) : T (expOk (lit0t0_75 i)) := armsB ok (md i)
theorem c76 (i) : T (expOk (lit0t0_76 i)) := armsB ok (md i)
theorem c77 (i) : T (expOk (lit0t0_77 i)) := armsB ok (md i)
theorem c78 (i) : T (expOk (lit0t0_78 i)) := armsB ok (md i)
theorem c79 (i) : T (expOk (lit0t0_79 i)) := armsB ok (md i)
theorem c80 (i) : T (expOk (lit0t0_80 i)) := armsB ok (md i)
theorem c81 (i) : T (expOk (lit0t0_81 i)) := armsB ok (md i)
theorem c82 (i) : T (expOk (lit0t0_82 i)) := armsB ok (md i)
theorem c83 (i) : T (expOk (lit0t0_83 i)) := armsB ok (md i)
theorem c84 (i) : T (expOk (lit0t0_84 i)) := armsB ok (md i)
theorem c85 (i) : T (expOk (lit0t0_85 i)) := armsB ok (md i)
theorem c86 (i) : T (expOk (lit0t0_86 i)) := armsB ok (md i)
theorem c87 (i) : T (expOk (lit0t0_87 i)) := armsB ok (md i)
theorem c88 (i) : T (expOk (lit0t0_88 i)) := armsB ok (md i)
theorem c89 (i) : T (expOk (lit0t0_89 i)) := armsB ok (md i)
theorem c90 (i) : T (expOk (lit0t0_90 i)) := armsB ok (md i)
theorem c91 (i) : T (expOk (lit0t0_91 i)) := armsB ok (md i)
theorem c92 (i) : T (expOk (lit0t0_92 i)) := armsB ok (md i)
theorem c93 (i) : T (expOk (lit0t0_93 i)) := armsB ok (md i)
theorem c94 (i) : T (expOk (lit0t0_94 i)) := armsB ok (md i)
theorem c95 (i) : T (expOk (lit0t0_95 i)) := armsB ok (md i)
theorem c96 (i) : T (expOk (lit0t0_96 i)) := armsB ok (md i)
theorem c97 (i) : T (expOk (lit0t0_97 i)) := armsB ok (md i)
theorem c98 (i) : T (expOk (lit0t0_98 i)) := armsB ok (md i)
theorem c99 (i) : T (expOk (lit0t0_99 i)) := armsB ok (md i)
theorem c100 (i) : T (expOk (lit0t0_100 i)) := armsB ok (md i)
theorem c101 (i) : T (expOk (lit0t0_101 i)) := armsB ok (md i)
theorem c102 (i) : T (expOk (lit0t0_102 i)) := armsB ok (md i)
theorem c103 (i) : T (expOk (lit0t0_103 i)) := armsB ok (md i)
theorem c104 (i) : T (expOk (lit0t0_104 i)) := armsB ok (md i)
theorem c105 (i) : T (expOk (lit0t0_105 i)) := armsB ok (md i)
theorem c106 (i) : T (expOk (lit0t0_106 i)) := armsB ok (md i)
theorem c107 (i) : T (expOk (lit0t0_107 i)) := armsB ok (md i)
theorem c108 (i) : T (expOk (lit0t0_108 i)) := armsB ok (md i)
theorem c109 (i) : T (expOk (lit0t0_109 i)) := armsB ok (md i)
theorem c110 (i) : T (expOk (lit0t0_110 i)) := armsB ok (md i)
theorem c111 (i) : T (expOk (lit0t0_111 i)) := armsB ok (md i)
theorem c112 (i) : T (expOk (lit0t0_112 i)) := armsB ok (md i)
theorem c113 (i) : T (expOk (lit0t0_113 i)) := armsB ok (md i)
theorem c114 (i) : T (expOk (lit0t0_114 i)) := armsB ok (md i)
theorem c115 (i) : T (expOk (lit0t0_115 i)) := armsB ok (md i)
theorem c116 (i) : T (expOk (lit0t0_116 i)) := armsB ok (md i)
theorem c117 (i) : T (expOk (lit0t0_117 i)) := armsB ok (md i)
theorem c118 (i) : T (expOk (lit0t0_118 i)) := armsB ok (md i)
theorem c119 (i) : T (expOk (lit0t0_119 i)) := armsB ok (md i)
theorem c120 (i) : T (expOk (lit0t0_120 i)) := armsB ok (md i)
theorem c121 (i) : T (expOk (lit0t0_121 i)) := armsB ok (md i)
theorem c122 (i) : T (expOk (lit0t0_122 i)) := armsB ok (md i)
theorem c123 (i) : T (expOk (lit0t0_123 i)) := armsB ok (md i)
theorem c124 (i) : T (expOk (lit0t0_124 i)) := armsB ok (md i)
theorem c125 (i) : T (expOk (lit0t0_125 i)) := armsB ok (md i)
theorem c126 (i) : T (expOk (lit0t0_126 i)) := armsB ok (md i)
theorem c127 (i) : T (expOk (lit0t0_127 i)) := armsB ok (md i)

/-- No word of the table of cosines is an infinity or no number. -/
theorem cos_ok (i : Fin 16384) : expOk (lit0 i) = true :=
  arms (Q := fun _ w => expOk w = true) (x := i.val / 128) (by omega) ⟨
    c0 i, c1 i, c2 i, c3 i, c4 i, c5 i, c6 i, c7 i, c8 i, c9 i, c10 i, c11 i, c12 i, c13 i, c14 i, c15 i, c16 i, c17 i, c18 i, c19 i, c20 i, c21 i,
    c22 i, c23 i, c24 i, c25 i, c26 i, c27 i, c28 i, c29 i, c30 i, c31 i, c32 i, c33 i, c34 i, c35 i, c36 i, c37 i, c38 i, c39 i, c40 i, c41 i,
    c42 i, c43 i, c44 i, c45 i, c46 i, c47 i, c48 i, c49 i, c50 i, c51 i, c52 i, c53 i, c54 i, c55 i, c56 i, c57 i, c58 i, c59 i, c60 i, c61 i,
    c62 i, c63 i, c64 i, c65 i, c66 i, c67 i, c68 i, c69 i, c70 i, c71 i, c72 i, c73 i, c74 i, c75 i, c76 i, c77 i, c78 i, c79 i, c80 i, c81 i,
    c82 i, c83 i, c84 i, c85 i, c86 i, c87 i, c88 i, c89 i, c90 i, c91 i, c92 i, c93 i, c94 i, c95 i, c96 i, c97 i, c98 i, c99 i, c100 i, c101 i,
    c102 i, c103 i, c104 i, c105 i, c106 i, c107 i, c108 i, c109 i, c110 i, c111 i, c112 i, c113 i, c114 i, c115 i, c116 i, c117 i, c118 i, c119 i,
    c120 i, c121 i, c122 i, c123 i, c124 i, c125 i, c126 i, c127 i⟩

end Cert.Tables
-- ==== Proof.Value.Tables.Sin.lean ====
/-
# The table of sines holds numbers
-/
module

public import proofs.«01_k».proof.Proof.Value.Tables.Arms
public import proofs.«01_k».proof.Proof.Value.Tables.Words

@[expose] public section

namespace Cert.Tables

open Cert.KernelIdeal

/- The 128 matches of the table. -/

theorem s0 (i) : T (expOk (lit1t0_0 i)) := armsB ok (md i)
theorem s1 (i) : T (expOk (lit1t0_1 i)) := armsB ok (md i)
theorem s2 (i) : T (expOk (lit1t0_2 i)) := armsB ok (md i)
theorem s3 (i) : T (expOk (lit1t0_3 i)) := armsB ok (md i)
theorem s4 (i) : T (expOk (lit1t0_4 i)) := armsB ok (md i)
theorem s5 (i) : T (expOk (lit1t0_5 i)) := armsB ok (md i)
theorem s6 (i) : T (expOk (lit1t0_6 i)) := armsB ok (md i)
theorem s7 (i) : T (expOk (lit1t0_7 i)) := armsB ok (md i)
theorem s8 (i) : T (expOk (lit1t0_8 i)) := armsB ok (md i)
theorem s9 (i) : T (expOk (lit1t0_9 i)) := armsB ok (md i)
theorem s10 (i) : T (expOk (lit1t0_10 i)) := armsB ok (md i)
theorem s11 (i) : T (expOk (lit1t0_11 i)) := armsB ok (md i)
theorem s12 (i) : T (expOk (lit1t0_12 i)) := armsB ok (md i)
theorem s13 (i) : T (expOk (lit1t0_13 i)) := armsB ok (md i)
theorem s14 (i) : T (expOk (lit1t0_14 i)) := armsB ok (md i)
theorem s15 (i) : T (expOk (lit1t0_15 i)) := armsB ok (md i)
theorem s16 (i) : T (expOk (lit1t0_16 i)) := armsB ok (md i)
theorem s17 (i) : T (expOk (lit1t0_17 i)) := armsB ok (md i)
theorem s18 (i) : T (expOk (lit1t0_18 i)) := armsB ok (md i)
theorem s19 (i) : T (expOk (lit1t0_19 i)) := armsB ok (md i)
theorem s20 (i) : T (expOk (lit1t0_20 i)) := armsB ok (md i)
theorem s21 (i) : T (expOk (lit1t0_21 i)) := armsB ok (md i)
theorem s22 (i) : T (expOk (lit1t0_22 i)) := armsB ok (md i)
theorem s23 (i) : T (expOk (lit1t0_23 i)) := armsB ok (md i)
theorem s24 (i) : T (expOk (lit1t0_24 i)) := armsB ok (md i)
theorem s25 (i) : T (expOk (lit1t0_25 i)) := armsB ok (md i)
theorem s26 (i) : T (expOk (lit1t0_26 i)) := armsB ok (md i)
theorem s27 (i) : T (expOk (lit1t0_27 i)) := armsB ok (md i)
theorem s28 (i) : T (expOk (lit1t0_28 i)) := armsB ok (md i)
theorem s29 (i) : T (expOk (lit1t0_29 i)) := armsB ok (md i)
theorem s30 (i) : T (expOk (lit1t0_30 i)) := armsB ok (md i)
theorem s31 (i) : T (expOk (lit1t0_31 i)) := armsB ok (md i)
theorem s32 (i) : T (expOk (lit1t0_32 i)) := armsB ok (md i)
theorem s33 (i) : T (expOk (lit1t0_33 i)) := armsB ok (md i)
theorem s34 (i) : T (expOk (lit1t0_34 i)) := armsB ok (md i)
theorem s35 (i) : T (expOk (lit1t0_35 i)) := armsB ok (md i)
theorem s36 (i) : T (expOk (lit1t0_36 i)) := armsB ok (md i)
theorem s37 (i) : T (expOk (lit1t0_37 i)) := armsB ok (md i)
theorem s38 (i) : T (expOk (lit1t0_38 i)) := armsB ok (md i)
theorem s39 (i) : T (expOk (lit1t0_39 i)) := armsB ok (md i)
theorem s40 (i) : T (expOk (lit1t0_40 i)) := armsB ok (md i)
theorem s41 (i) : T (expOk (lit1t0_41 i)) := armsB ok (md i)
theorem s42 (i) : T (expOk (lit1t0_42 i)) := armsB ok (md i)
theorem s43 (i) : T (expOk (lit1t0_43 i)) := armsB ok (md i)
theorem s44 (i) : T (expOk (lit1t0_44 i)) := armsB ok (md i)
theorem s45 (i) : T (expOk (lit1t0_45 i)) := armsB ok (md i)
theorem s46 (i) : T (expOk (lit1t0_46 i)) := armsB ok (md i)
theorem s47 (i) : T (expOk (lit1t0_47 i)) := armsB ok (md i)
theorem s48 (i) : T (expOk (lit1t0_48 i)) := armsB ok (md i)
theorem s49 (i) : T (expOk (lit1t0_49 i)) := armsB ok (md i)
theorem s50 (i) : T (expOk (lit1t0_50 i)) := armsB ok (md i)
theorem s51 (i) : T (expOk (lit1t0_51 i)) := armsB ok (md i)
theorem s52 (i) : T (expOk (lit1t0_52 i)) := armsB ok (md i)
theorem s53 (i) : T (expOk (lit1t0_53 i)) := armsB ok (md i)
theorem s54 (i) : T (expOk (lit1t0_54 i)) := armsB ok (md i)
theorem s55 (i) : T (expOk (lit1t0_55 i)) := armsB ok (md i)
theorem s56 (i) : T (expOk (lit1t0_56 i)) := armsB ok (md i)
theorem s57 (i) : T (expOk (lit1t0_57 i)) := armsB ok (md i)
theorem s58 (i) : T (expOk (lit1t0_58 i)) := armsB ok (md i)
theorem s59 (i) : T (expOk (lit1t0_59 i)) := armsB ok (md i)
theorem s60 (i) : T (expOk (lit1t0_60 i)) := armsB ok (md i)
theorem s61 (i) : T (expOk (lit1t0_61 i)) := armsB ok (md i)
theorem s62 (i) : T (expOk (lit1t0_62 i)) := armsB ok (md i)
theorem s63 (i) : T (expOk (lit1t0_63 i)) := armsB ok (md i)
theorem s64 (i) : T (expOk (lit1t0_64 i)) := armsB ok (md i)
theorem s65 (i) : T (expOk (lit1t0_65 i)) := armsB ok (md i)
theorem s66 (i) : T (expOk (lit1t0_66 i)) := armsB ok (md i)
theorem s67 (i) : T (expOk (lit1t0_67 i)) := armsB ok (md i)
theorem s68 (i) : T (expOk (lit1t0_68 i)) := armsB ok (md i)
theorem s69 (i) : T (expOk (lit1t0_69 i)) := armsB ok (md i)
theorem s70 (i) : T (expOk (lit1t0_70 i)) := armsB ok (md i)
theorem s71 (i) : T (expOk (lit1t0_71 i)) := armsB ok (md i)
theorem s72 (i) : T (expOk (lit1t0_72 i)) := armsB ok (md i)
theorem s73 (i) : T (expOk (lit1t0_73 i)) := armsB ok (md i)
theorem s74 (i) : T (expOk (lit1t0_74 i)) := armsB ok (md i)
theorem s75 (i) : T (expOk (lit1t0_75 i)) := armsB ok (md i)
theorem s76 (i) : T (expOk (lit1t0_76 i)) := armsB ok (md i)
theorem s77 (i) : T (expOk (lit1t0_77 i)) := armsB ok (md i)
theorem s78 (i) : T (expOk (lit1t0_78 i)) := armsB ok (md i)
theorem s79 (i) : T (expOk (lit1t0_79 i)) := armsB ok (md i)
theorem s80 (i) : T (expOk (lit1t0_80 i)) := armsB ok (md i)
theorem s81 (i) : T (expOk (lit1t0_81 i)) := armsB ok (md i)
theorem s82 (i) : T (expOk (lit1t0_82 i)) := armsB ok (md i)
theorem s83 (i) : T (expOk (lit1t0_83 i)) := armsB ok (md i)
theorem s84 (i) : T (expOk (lit1t0_84 i)) := armsB ok (md i)
theorem s85 (i) : T (expOk (lit1t0_85 i)) := armsB ok (md i)
theorem s86 (i) : T (expOk (lit1t0_86 i)) := armsB ok (md i)
theorem s87 (i) : T (expOk (lit1t0_87 i)) := armsB ok (md i)
theorem s88 (i) : T (expOk (lit1t0_88 i)) := armsB ok (md i)
theorem s89 (i) : T (expOk (lit1t0_89 i)) := armsB ok (md i)
theorem s90 (i) : T (expOk (lit1t0_90 i)) := armsB ok (md i)
theorem s91 (i) : T (expOk (lit1t0_91 i)) := armsB ok (md i)
theorem s92 (i) : T (expOk (lit1t0_92 i)) := armsB ok (md i)
theorem s93 (i) : T (expOk (lit1t0_93 i)) := armsB ok (md i)
theorem s94 (i) : T (expOk (lit1t0_94 i)) := armsB ok (md i)
theorem s95 (i) : T (expOk (lit1t0_95 i)) := armsB ok (md i)
theorem s96 (i) : T (expOk (lit1t0_96 i)) := armsB ok (md i)
theorem s97 (i) : T (expOk (lit1t0_97 i)) := armsB ok (md i)
theorem s98 (i) : T (expOk (lit1t0_98 i)) := armsB ok (md i)
theorem s99 (i) : T (expOk (lit1t0_99 i)) := armsB ok (md i)
theorem s100 (i) : T (expOk (lit1t0_100 i)) := armsB ok (md i)
theorem s101 (i) : T (expOk (lit1t0_101 i)) := armsB ok (md i)
theorem s102 (i) : T (expOk (lit1t0_102 i)) := armsB ok (md i)
theorem s103 (i) : T (expOk (lit1t0_103 i)) := armsB ok (md i)
theorem s104 (i) : T (expOk (lit1t0_104 i)) := armsB ok (md i)
theorem s105 (i) : T (expOk (lit1t0_105 i)) := armsB ok (md i)
theorem s106 (i) : T (expOk (lit1t0_106 i)) := armsB ok (md i)
theorem s107 (i) : T (expOk (lit1t0_107 i)) := armsB ok (md i)
theorem s108 (i) : T (expOk (lit1t0_108 i)) := armsB ok (md i)
theorem s109 (i) : T (expOk (lit1t0_109 i)) := armsB ok (md i)
theorem s110 (i) : T (expOk (lit1t0_110 i)) := armsB ok (md i)
theorem s111 (i) : T (expOk (lit1t0_111 i)) := armsB ok (md i)
theorem s112 (i) : T (expOk (lit1t0_112 i)) := armsB ok (md i)
theorem s113 (i) : T (expOk (lit1t0_113 i)) := armsB ok (md i)
theorem s114 (i) : T (expOk (lit1t0_114 i)) := armsB ok (md i)
theorem s115 (i) : T (expOk (lit1t0_115 i)) := armsB ok (md i)
theorem s116 (i) : T (expOk (lit1t0_116 i)) := armsB ok (md i)
theorem s117 (i) : T (expOk (lit1t0_117 i)) := armsB ok (md i)
theorem s118 (i) : T (expOk (lit1t0_118 i)) := armsB ok (md i)
theorem s119 (i) : T (expOk (lit1t0_119 i)) := armsB ok (md i)
theorem s120 (i) : T (expOk (lit1t0_120 i)) := armsB ok (md i)
theorem s121 (i) : T (expOk (lit1t0_121 i)) := armsB ok (md i)
theorem s122 (i) : T (expOk (lit1t0_122 i)) := armsB ok (md i)
theorem s123 (i) : T (expOk (lit1t0_123 i)) := armsB ok (md i)
theorem s124 (i) : T (expOk (lit1t0_124 i)) := armsB ok (md i)
theorem s125 (i) : T (expOk (lit1t0_125 i)) := armsB ok (md i)
theorem s126 (i) : T (expOk (lit1t0_126 i)) := armsB ok (md i)
theorem s127 (i) : T (expOk (lit1t0_127 i)) := armsB ok (md i)

/-- No word of the table of sines is an infinity or no number. -/
theorem sin_ok (i : Fin 16384) : expOk (lit1 i) = true :=
  arms (Q := fun _ w => expOk w = true) (x := i.val / 128) (by omega) ⟨
    s0 i, s1 i, s2 i, s3 i, s4 i, s5 i, s6 i, s7 i, s8 i, s9 i, s10 i, s11 i, s12 i, s13 i, s14 i, s15 i, s16 i, s17 i, s18 i, s19 i, s20 i, s21 i,
    s22 i, s23 i, s24 i, s25 i, s26 i, s27 i, s28 i, s29 i, s30 i, s31 i, s32 i, s33 i, s34 i, s35 i, s36 i, s37 i, s38 i, s39 i, s40 i, s41 i,
    s42 i, s43 i, s44 i, s45 i, s46 i, s47 i, s48 i, s49 i, s50 i, s51 i, s52 i, s53 i, s54 i, s55 i, s56 i, s57 i, s58 i, s59 i, s60 i, s61 i,
    s62 i, s63 i, s64 i, s65 i, s66 i, s67 i, s68 i, s69 i, s70 i, s71 i, s72 i, s73 i, s74 i, s75 i, s76 i, s77 i, s78 i, s79 i, s80 i, s81 i,
    s82 i, s83 i, s84 i, s85 i, s86 i, s87 i, s88 i, s89 i, s90 i, s91 i, s92 i, s93 i, s94 i, s95 i, s96 i, s97 i, s98 i, s99 i, s100 i, s101 i,
    s102 i, s103 i, s104 i, s105 i, s106 i, s107 i, s108 i, s109 i, s110 i, s111 i, s112 i, s113 i, s114 i, s115 i, s116 i, s117 i, s118 i, s119 i,
    s120 i, s121 i, s122 i, s123 i, s124 i, s125 i, s126 i, s127 i⟩

end Cert.Tables
-- ==== Proof.Value.Final.lean ====
/-
# The kernel's blocks are the reference's

Over the extended reals, for real batches and real weights of the queries and keys.
-/
module

public import proofs.«01_k».proof.Defs
public import proofs.«01_k».proof.Proof.Value.Kern
public import proofs.«01_k».proof.Proof.Value.RefSum
public import proofs.«01_k».proof.Proof.Value.Tables.Cos
public import proofs.«01_k».proof.Proof.Value.Tables.Sin

@[expose] public section

noncomputable section

namespace Cert.Final

open Cert.KernelIdeal.Value Cert.ReferenceIdeal.Entries Cert.Softmax Cert.Tables
open Idealize.ShloMosaic Idealize.ShloMosaic.TcCoe
open scoped BigOperators

/-! ## The tables -/

/-- A word whose exponent is not all ones is a real number. -/
theorem isReal_of_expOk {w : BitVec 32} (h : expOk w = true) : IsReal (Ideal.ofBits .f32 w) := by
  refine isReal_ofBits w fun e => ?_
  have h1 : (w.extractLsb' 23 8).toNat = w.toNat / 8388608 % 256 := by
    rw [BitVec.extractLsb'_toNat, Nat.shiftRight_eq_div_pow]
  rw [h1] at e
  have h2 : (! Nat.beq (w.toNat / 8388608 % 256) 255) = true := h
  rw [e] at h2
  exact absurd h2 (by decide)

theorem cos_eq : (Cert.KernelIdeal.Value.cosK (F := Ideal) : FVec Ideal Cert.KernelIdeal.S256x64 .f32) = Cert.ReferenceIdeal.Entries.cosR (F := Ideal) := by
  unfold Cert.KernelIdeal.Value.cosK Cert.ReferenceIdeal.Entries.cosR
  rw [lit0_eq]
theorem sin_eq : (Cert.KernelIdeal.Value.sinK (F := Ideal) : FVec Ideal Cert.KernelIdeal.S256x64 .f32) = Cert.ReferenceIdeal.Entries.sinR (F := Ideal) := by
  unfold Cert.KernelIdeal.Value.sinK Cert.ReferenceIdeal.Entries.sinR
  rw [lit1_eq]

theorem isReal_cos (i : Cert.KernelIdeal.S256x64.Idx) : IsReal (cosK (F := Ideal) i) := isReal_of_expOk (cos_ok (Cert.KernelIdeal.S256x64.rowMajor i))
theorem isReal_sin (i : Cert.KernelIdeal.S256x64.Idx) : IsReal (sinK (F := Ideal) i) := isReal_of_expOk (sin_ok (Cert.KernelIdeal.S256x64.rowMajor i))

/-! ## The precondition -/

section Pre

theorem isReal_of_olt {x : EReal} (h : Ideal.cmp .olt (max x (-x)) (Ideal.ofBits .f32 0x7F800000#32) = 1#1) : IsReal x := by
  rw [show Ideal.ofBits .f32 0x7F800000#32 = ⊤ from by simp [Ideal.ofBits, Ideal.ieee]] at h
  refine isReal_of_abs ?_
  by_contra hn
  simp [Ideal.cmp, hn] at h

variable [Cert.Pre_finite_KernelIdeal.Facts]
  {m : (ℓ : Loc Cert.KernelIdeal.nD Cert.KernelIdeal.τ Cert.KernelIdeal.sig) → Buf (Elt Ideal) ℓ} (h : Cert.Pre_KernelIdeal_finite_KernelIdeal m)
  (c : Dev Cert.KernelIdeal.nD)

include h in
theorem pre_x (i : Cert.KernelIdeal.S2x256x768.Idx) : IsReal ((m ((c : Thread Cert.KernelIdeal.nD Cert.KernelIdeal.τ).loc Cert.KernelIdeal.main_arg0) : FVec Ideal Cert.KernelIdeal.S2x256x768 .f32) i) :=
  isReal_of_olt (congrFun (h c).1 i)
include h in
theorem pre_q (i : Cert.KernelIdeal.S768x256.Idx) : IsReal ((m ((c : Thread Cert.KernelIdeal.nD Cert.KernelIdeal.τ).loc Cert.KernelIdeal.main_arg1) : FVec Ideal Cert.KernelIdeal.S768x256 .f32) i) :=
  isReal_of_olt (congrFun (h c).2.1 i)
include h in
theorem pre_k (i : Cert.KernelIdeal.S768x256.Idx) : IsReal ((m ((c : Thread Cert.KernelIdeal.nD Cert.KernelIdeal.τ).loc Cert.KernelIdeal.main_arg2) : FVec Ideal Cert.KernelIdeal.S768x256 .f32) i) :=
  isReal_of_olt (congrFun (h c).2.2 i)

end Pre

/-! ## The blocks -/

section Blocks

/-- Block `c` of the batches. -/
theorem blk_batch (X : Cert.ReferenceIdeal.S8x256x768.Idx → EReal) (c : Fin 4) (b : Fin 2) (i : Fin 256) (k : Fin 768) :
    Layout.block ⟨3, ![2, 256, 768]⟩ ⟨3, ![8, 256, 768]⟩ 0 4 c X (by decide) (ix3 b i k) = X (ix3 (⟨2 * c.val + b.val, by omega⟩ : Fin 8) i k) := by
  refine congrArg X (funext fun a => Fin.ext ?_)
  match a with
  | ⟨0, _⟩ => show c.val * 2 + b.val = 2 * c.val + b.val; omega
  | ⟨1, _⟩ => rfl
  | ⟨2, _⟩ => rfl
/-- Block `c` of the columns. -/
theorem blk_cols (W : Cert.ReferenceIdeal.S768x1024.Idx → EReal) (c : Fin 4) (k : Fin 768) (t : Fin 256) :
    Layout.block ⟨2, ![768, 256]⟩ ⟨2, ![768, 1024]⟩ 1 4 c W (by decide) (ix2 k t) = W (ix2 k (⟨256 * c.val + t.val, by omega⟩ : Fin 1024)) := by
  refine congrArg W (funext fun a => Fin.ext ?_)
  match a with
  | ⟨0, _⟩ => rfl
  | ⟨1, _⟩ => show c.val * 256 + t.val = 256 * c.val + t.val; omega
/-- Block `c` of the rows. -/
theorem blk_rows (W : Cert.ReferenceIdeal.S1024x768.Idx → EReal) (c : Fin 4) (t : Fin 256) (n : Fin 768) :
    Layout.block ⟨2, ![256, 768]⟩ ⟨2, ![1024, 768]⟩ 0 4 c W (by decide) (ix2 t n) = W (ix2 (⟨256 * c.val + t.val, by omega⟩ : Fin 1024) n) := by
  refine congrArg W (funext fun a => Fin.ext ?_)
  match a with
  | ⟨0, _⟩ => show c.val * 256 + t.val = 256 * c.val + t.val; omega
  | ⟨1, _⟩ => rfl

/-- The columns of a device's heads are columns of the whole projections' heads. -/
theorem hcol_block (d : Fin 4) (t : Fin 256) (e : Fin 64) :
    (⟨256 * d.val + (hcol (N := 256) rfl t e).val, by have := (hcol (N := 256) rfl t e).isLt; omega⟩ : Fin 1024)
      = hcol (N := 1024) rfl ⟨256 * d.val + t.val, by omega⟩ e :=
  Fin.ext (by show 256 * d.val + (64 * (t.val / 64) + e.val) = 64 * ((256 * d.val + t.val) / 64) + e.val; omega)
theorem hoff_block (d : Fin 4) (t : Fin 256) : hoff t = hoff (⟨256 * d.val + t.val, by omega⟩ : Fin 1024) :=
  Fin.ext (by show t.val % 64 = (256 * d.val + t.val) % 64; omega)

variable (X : Cert.ReferenceIdeal.S8x256x768.Idx → EReal) (WQ WK WV : Cert.ReferenceIdeal.S768x1024.Idx → EReal) (WO : Cert.ReferenceIdeal.S1024x768.Idx → EReal)

/-- A column of device `d`'s block contributes on device `c` what the whole's column contributes. -/
theorem colK_eq (c d : Fin 4) (b : Fin 2) (i : Fin 256) (n : Fin 768) (t : Fin 256) :
    colK (Layout.block ⟨3, ![2, 256, 768]⟩ ⟨3, ![8, 256, 768]⟩ 0 4 c X (by decide)) (Layout.block ⟨2, ![768, 256]⟩ ⟨2, ![768, 1024]⟩ 1 4 d WQ (by decide))
      (Layout.block ⟨2, ![768, 256]⟩ ⟨2, ![768, 1024]⟩ 1 4 d WK (by decide)) (Layout.block ⟨2, ![768, 256]⟩ ⟨2, ![768, 1024]⟩ 1 4 d WV (by decide))
      (Layout.block ⟨2, ![256, 768]⟩ ⟨2, ![1024, 768]⟩ 0 4 d WO (by decide)) b i n t
      = colR (cosR (F := Ideal)) (sinR (F := Ideal)) X WQ WK WV WO ⟨2 * c.val + b.val, by omega⟩ i n ⟨256 * d.val + t.val, by omega⟩ := by
  unfold colK colR
  rw [cos_eq, sin_eq]
  simp only [blk_batch, blk_cols, blk_rows, hcol_block]
  rw [hoff_block d t]

end Blocks

variable [Cert.Pre_finite_KernelIdeal.Facts]
  {m : (ℓ : Loc Cert.KernelIdeal.nD Cert.KernelIdeal.τ Cert.KernelIdeal.sig) → Buf (Elt Ideal) ℓ} (hp : Cert.Pre_KernelIdeal_finite_KernelIdeal m)
  (X : Cert.ReferenceIdeal.S8x256x768.Idx → EReal) (WQ WK WV : Cert.ReferenceIdeal.S768x1024.Idx → EReal) (WO : Cert.ReferenceIdeal.S1024x768.Idx → EReal)
  (hX : ∀ c : Dev Cert.KernelIdeal.nD, m ((c : Thread Cert.KernelIdeal.nD Cert.KernelIdeal.τ).loc Cert.KernelIdeal.main_arg0) = Layout.block ⟨3, ![2, 256, 768]⟩ ⟨3, ![8, 256, 768]⟩ 0 4 c X (by decide))
  (hQ : ∀ c : Dev Cert.KernelIdeal.nD, m ((c : Thread Cert.KernelIdeal.nD Cert.KernelIdeal.τ).loc Cert.KernelIdeal.main_arg1) = Layout.block ⟨2, ![768, 256]⟩ ⟨2, ![768, 1024]⟩ 1 4 c WQ (by decide))
  (hK : ∀ c : Dev Cert.KernelIdeal.nD, m ((c : Thread Cert.KernelIdeal.nD Cert.KernelIdeal.τ).loc Cert.KernelIdeal.main_arg2) = Layout.block ⟨2, ![768, 256]⟩ ⟨2, ![768, 1024]⟩ 1 4 c WK (by decide))
  (hV : ∀ c : Dev Cert.KernelIdeal.nD, m ((c : Thread Cert.KernelIdeal.nD Cert.KernelIdeal.τ).loc Cert.KernelIdeal.main_arg3) = Layout.block ⟨2, ![768, 256]⟩ ⟨2, ![768, 1024]⟩ 1 4 c WV (by decide))
  (hO : ∀ c : Dev Cert.KernelIdeal.nD, m ((c : Thread Cert.KernelIdeal.nD Cert.KernelIdeal.τ).loc Cert.KernelIdeal.main_arg4) = Layout.block ⟨2, ![256, 768]⟩ ⟨2, ![1024, 768]⟩ 0 4 c WO (by decide))

include hp hX in
theorem real_x (b : Fin 8) (i : Fin 256) (k : Fin 768) : IsReal (X (ix3 b i k)) := by
  have h := pre_x hp (⟨b.val / 2, by show b.val / 2 < 4; omega⟩ : Fin 4) (ix3 (⟨b.val % 2, by omega⟩ : Fin 2) i k)
  rw [hX] at h
  rw [blk_batch X] at h
  exact (congrArg (fun r => IsReal (X (ix3 r i k))) (Fin.ext (show 2 * (b.val / 2) + b.val % 2 = b.val by omega))).mp h

include hp hQ in
theorem real_q (k : Fin 768) (t : Fin 1024) : IsReal (WQ (ix2 k t)) := by
  have h := pre_q hp (⟨t.val / 256, by show t.val / 256 < 4; omega⟩ : Fin 4) (ix2 k (⟨t.val % 256, by omega⟩ : Fin 256))
  rw [hQ] at h
  rw [blk_cols WQ] at h
  exact (congrArg (fun r => IsReal (WQ (ix2 k r))) (Fin.ext (show 256 * (t.val / 256) + t.val % 256 = t.val by omega))).mp h

include hp hK in
theorem real_k (k : Fin 768) (t : Fin 1024) : IsReal (WK (ix2 k t)) := by
  have h := pre_k hp (⟨t.val / 256, by show t.val / 256 < 4; omega⟩ : Fin 4) (ix2 k (⟨t.val % 256, by omega⟩ : Fin 256))
  rw [hK] at h
  rw [blk_cols WK] at h
  exact (congrArg (fun r => IsReal (WK (ix2 k r))) (Fin.ext (show 256 * (t.val / 256) + t.val % 256 = t.val by omega))).mp h

include hp hX hQ hK hV hO in
/-- **Device `c` ends with its block of the reference's result.** -/
theorem block_eq (c : Dev Cert.KernelIdeal.nD) :
    (Cert.KernelIdeal.Talk.resA m c : FVec Ideal Cert.KernelIdeal.S2x256x768 .f32)
      = Layout.block ⟨3, ![2, 256, 768]⟩ ⟨3, ![8, 256, 768]⟩ 0 4 c (outR (cosR (F := Ideal)) (sinR (F := Ideal)) X WQ WK WV WO) (by decide) := by
  funext j
  obtain ⟨b, i, n, rfl⟩ : ∃ (b : Fin 2) (i : Fin 256) (n : Fin 768), j = ix3 b i n := ⟨j 0, j 1, j 2, funext fun a => by
    match a with
    | ⟨0, _⟩ => rfl
    | ⟨1, _⟩ => rfl
    | ⟨2, _⟩ => rfl⟩
  rw [resA_apply, blk_batch, outR_apply (cosR (F := Ideal)) (sinR (F := Ideal)) X WQ WK WV WO
    (fun i e => by rw [← cos_eq]; exact isReal_cos _) (fun i e => by rw [← sin_eq]; exact isReal_sin _)
    (real_x hp X hX) (real_q hp WQ hQ) (real_k hp WK hK), sum_blocks]
  refine Finset.sum_congr rfl fun d _ => Finset.sum_congr rfl fun t _ => ?_
  rw [hX c, hQ d, hK d, hV d, hO d]
  exact colK_eq X WQ WK WV WO c d b i n t

end Cert.Final
end
-- ==== Proof.lean ====
/-
  The proof of `Cert.Claim`. The two frames of the kernel are `Talk.run_main` (Proof/Kernel/Launch.lean,
  Proof/KernelIdeal/Launch.lean) with the value of the result dropped; the frame of the reference is its generated
  run, its program having no semaphore; the idealization has no rewrite. That each device ends with its block of the
  reference's result is `Final.block_eq` (Proof/Value/Final.lean), put into the same two runs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Final
public import Idealize.ShloMosaic.Adequacy
public import Idealize.ShloMosaic.Init
public import Idealize.ShloMosaic.Lib.Quiescent

@[expose] public section

noncomputable section

namespace Cert.Proof

open Idealize.ShloMosaic Idealize.SL.Sem

/-- The kernel as printed runs to its end, leaves its arguments as they were and every semaphore at zero. -/
theorem frame_kernel : Cert.quiescent_Kernel (hKernel := Cert.Kernel.Gen.facts) := fun m g _ =>
  (θ_run Cert.Kernel.defs _ _).mono (fun _ h => ⟨fun c => (h.1 c).2, h.2⟩) (Cert.Kernel.Talk.run_main m g)

/-- The same of the kernel over the extended reals. -/
theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Talk.run_main m g)

/-- The reference runs to its end, leaves its arguments as they were; it has no semaphore. -/
theorem frame_referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run m g)

/-- The shape relations of the precondition, on one device and on the whole arrays. -/
theorem facts_pre : Cert.Pre_finite_KernelIdeal.Facts := ⟨by decide, by decide⟩
theorem facts_preR : Cert.Pre_finite_ReferenceIdeal.Facts := ⟨by decide, by decide⟩

/-- The two frames over the extended reals under the precondition, which they do not need. -/
theorem frame_kernelIdeal_pre : Cert.quiescent_KernelIdeal_pre_finite_KernelIdeal (hKernelIdeal := Cert.KernelIdeal.Gen.facts)
    (hPre_finite_KernelIdeal := facts_pre) := fun m g _ => frame_kernelIdeal m g trivial
theorem frame_referenceIdeal_pre : Cert.quiescent_ReferenceIdeal_pre_finite_ReferenceIdeal (hReferenceIdeal := Cert.ReferenceIdeal.Gen.facts)
    (hPre_finite_ReferenceIdeal := facts_preR) := fun m g _ => frame_referenceIdeal m g trivial

/-- **Over the extended reals each device ends with its block of the reference's result**, the batches and the weights of the
queries and the keys holding no infinity. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := facts_pre) := fun m g m' g' hp hm => by
  letI := facts_pre
  refine ⟨Cert.ReferenceIdeal.Value.res_main_v55 m' 0, ?_, ?_⟩
  · refine (θ_run Cert.KernelIdeal.defs _ _).mono (fun r h c => ⟨(h.1 c).1.trans ?_, (h.1 c).2⟩) (Cert.KernelIdeal.Talk.run_main m g)
    rw [Cert.ReferenceIdeal.Entries.res_eq]
    exact Cert.Final.block_eq hp _ _ _ _ _ (fun c => (hm c).1) (fun c => (hm c).2.1) (fun c => (hm c).2.2.1) (fun c => (hm c).2.2.2.1)
      (fun c => (hm c).2.2.2.2) c
  · exact (θ_run Cert.ReferenceIdeal.defs _ _).mono (fun r h => h 0) (Cert.ReferenceIdeal.Value.run m' g')

/-- Everything the certificate claims. -/
theorem claim : Cert.Claim := ⟨Cert.Kernel.Gen.facts, Cert.KernelIdeal.Gen.facts, Cert.ReferenceIdeal.Gen.facts, facts_pre, facts_preR,
  frame_kernel, frame_kernelIdeal, frame_kernelIdeal_pre, frame_referenceIdeal, frame_referenceIdeal_pre, trivial, algebraic⟩

end Cert.Proof

end
